-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S17408x6144 : Shape := ⟨2, ![17408, 6144]⟩
abbrev S17408x128 : Shape := ⟨2, ![17408, 128]⟩
abbrev S2x16x1024 : Shape := ⟨3, ![2, 16, 1024]⟩
abbrev S2x1024 : Shape := ⟨2, ![2, 1024]⟩
abbrev S_ : Shape := ⟨0, ![]⟩

class Facts : Prop where
  bcast_S_S17408x6144 : S_.BroadcastsInDim S17408x6144 (![] : Fin 0 → Fin S17408x6144.rank)
  bcast_S_S17408x128 : S_.BroadcastsInDim S17408x128 (![] : Fin 0 → Fin S17408x128.rank)
  bcast_S_S2x16x1024 : S_.BroadcastsInDim S2x16x1024 (![] : Fin 0 → Fin S2x16x1024.rank)
  bcast_S_S2x1024 : S_.BroadcastsInDim S2x1024 (![] : Fin 0 → Fin S2x1024.rank)

variable [Facts]

def fn {F : FTy → Type} [FloatOps F] (main_arg0 : FVec F S17408x6144 .bf16) (main_arg1 : FVec F S17408x128 .f32) (main_arg2 : FVec F S2x16x1024 .f32) (main_arg3 : FVec F S2x1024 .f32) : IVec S17408x6144 1 × IVec S17408x128 1 × IVec S2x16x1024 1 × IVec S2x1024 1 :=
  let main_v0 : FVec F S17408x6144 .bf16 := Host.absf main_arg0
  let main_cst : FVec F S_ .bf16 := constant S_ .bf16 0x7F80#16
  let main_v1 : FVec F S17408x6144 .bf16 := broadcastInDim S17408x6144 ![] bcast_S_S17408x6144 main_cst
  let main_v2 : IVec S17408x6144 1 := cmpf .olt main_v0 main_v1
  let main_v3 : FVec F S17408x128 .f32 := Host.absf main_arg1
  let main_cst_0 : FVec F S_ .f32 := constant S_ .f32 0x7F800000#32
  let main_v4 : FVec F S17408x128 .f32 := broadcastInDim S17408x128 ![] bcast_S_S17408x128 main_cst_0
  let main_v5 : IVec S17408x128 1 := cmpf .olt main_v3 main_v4
  let main_v6 : FVec F S2x16x1024 .f32 := Host.absf main_arg2
  let main_cst_1 : FVec F S_ .f32 := constant S_ .f32 0x7F800000#32
  let main_v7 : FVec F S2x16x1024 .f32 := broadcastInDim S2x16x1024 ![] bcast_S_S2x16x1024 main_cst_1
  let main_v8 : IVec S2x16x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  (main_v2, main_v5, main_v8, main_v11)
-- ==== Pre_finite2.lean ====
abbrev S17408x2048 : Shape := ⟨2, ![17408, 2048]⟩
abbrev S45x1x2048 : Shape := ⟨3, ![45, 1, 2048]⟩
abbrev S1x2048 : Shape := ⟨2, ![1, 2048]⟩
abbrev S4x2x2048x11264 : Shape := ⟨4, ![4, 2, 2048, 11264]⟩
abbrev S4x2x5632x2048 : Shape := ⟨4, ![4, 2, 5632, 2048]⟩
abbrev S_ : Shape := ⟨0, ![]⟩

class Facts : Prop where
  bcast_S_S17408x2048 : S_.BroadcastsInDim S17408x2048 (![] : Fin 0 → Fin S17408x2048.rank)
  bcast_S_S45x1x2048 : S_.BroadcastsInDim S45x1x2048 (![] : Fin 0 → Fin S45x1x2048.rank)
  bcast_S_S1x2048 : S_.BroadcastsInDim S1x2048 (![] : Fin 0 → Fin S1x2048.rank)
  bcast_S_S4x2x2048x11264 : S_.BroadcastsInDim S4x2x2048x11264 (![] : Fin 0 → Fin S4x2x2048x11264.rank)
  bcast_S_S4x2x5632x2048 : S_.BroadcastsInDim S4x2x5632x2048 (![] : Fin 0 → Fin S4x2x5632x2048.rank)

variable [Facts]

def fn {F : FTy → Type} [FloatOps F] (main_arg0 : FVec F S17408x2048 .f32) (main_arg1 : FVec F S45x1x2048 .f32) (main_arg2 : FVec F S1x2048 .f32) (main_arg3 : FVec F S4x2x2048x11264 .bf16) (main_arg4 : FVec F S4x2x5632x2048 .bf16) : IVec S17408x2048 1 × IVec S45x1x2048 1 × IVec S1x2048 1 × IVec S4x2x2048x11264 1 × IVec S4x2x5632x2048 1 :=
  let main_v0 : FVec F S17408x2048 .f32 := Host.absf main_arg0
  let main_cst : FVec F S_ .f32 := constant S_ .f32 0x7F800000#32
  let main_v1 : FVec F S17408x2048 .f32 := broadcastInDim S17408x2048 ![] bcast_S_S17408x2048 main_cst
  let main_v2 : IVec S17408x2048 1 := cmpf .olt main_v0 main_v1
  let main_v3 : FVec F S45x1x2048 .f32 := Host.absf main_arg1
  let main_cst_0 : FVec F S_ .f32 := constant S_ .f32 0x7F800000#32
  let main_v4 : FVec F S45x1x2048 .f32 := broadcastInDim S45x1x2048 ![] bcast_S_S45x1x2048 main_cst_0
  let main_v5 : IVec S45x1x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S4x2x2048x11264 .bf16 := Host.absf main_arg3
  let main_cst_2 : FVec F S_ .bf16 := constant S_ .bf16 0x7F80#16
  let main_v10 : FVec F S4x2x2048x11264 .bf16 := broadcastInDim S4x2x2048x11264 ![] bcast_S_S4x2x2048x11264 main_cst_2
  let main_v11 : IVec S4x2x2048x11264 1 := cmpf .olt main_v9 main_v10
  let main_v12 : FVec F S4x2x5632x2048 .bf16 := Host.absf main_arg4
  let main_cst_3 : FVec F S_ .bf16 := constant S_ .bf16 0x7F80#16
  let main_v13 : FVec F S4x2x5632x2048 .bf16 := broadcastInDim S4x2x5632x2048 ![] bcast_S_S4x2x5632x2048 main_cst_3
  let main_v14 : IVec S4x2x5632x2048 1 := cmpf .olt main_v12 main_v13
  (main_v2, main_v5, main_v8, main_v11, main_v14)
-- ==== Kernel.lean ====
abbrev S17408x6144 : Shape := ⟨2, ![17408, 6144]⟩
abbrev S17408x128 : Shape := ⟨2, ![17408, 128]⟩
abbrev S2x16x1024 : Shape := ⟨3, ![2, 16, 1024]⟩
abbrev S2x1024 : Shape := ⟨2, ![2, 1024]⟩
abbrev S_ : Shape := ⟨0, ![]⟩
abbrev S2x128x1024 : Shape := ⟨3, ![2, 128, 1024]⟩
abbrev S1x16x1024 : Shape := ⟨3, ![1, 16, 1024]⟩
abbrev S16x1024 : Shape := ⟨2, ![16, 1024]⟩
abbrev S1 : Shape := ⟨1, ![1]⟩
abbrev S2 : Shape := ⟨1, ![2]⟩
abbrev S2x384x1024 : Shape := ⟨3, ![2, 384, 1024]⟩
abbrev S2x1x1024 : Shape := ⟨3, ![2, 1, 1024]⟩
abbrev S17408x2048 : Shape := ⟨2, ![17408, 2048]⟩
abbrev S256x1024 : Shape := ⟨2, ![256, 1024]⟩
abbrev S256x2048 : Shape := ⟨2, ![256, 2048]⟩
abbrev S256x128 : Shape := ⟨2, ![256, 128]⟩
abbrev S1x384x1024 : Shape := ⟨3, ![1, 384, 1024]⟩
abbrev S1x1x1024 : Shape := ⟨3, ![1, 1, 1024]⟩
abbrev S4x512x256 : Shape := ⟨3, ![4, 512, 256]⟩
abbrev S256x384 : Shape := ⟨2, ![256, 384]⟩
abbrev S384x1024 : Shape := ⟨2, ![384, 1024]⟩
abbrev S1x1024 : Shape := ⟨2, ![1, 1024]⟩
abbrev S256x256 : Shape := ⟨2, ![256, 256]⟩
abbrev S256x3072 : Shape := ⟨2, ![256, 3072]⟩
abbrev S1x256 : Shape := ⟨2, ![1, 256]⟩
abbrev S256x512 : Shape := ⟨2, ![256, 512]⟩
abbrev S64x256 : Shape := ⟨2, ![64, 256]⟩
abbrev S768x256 : Shape := ⟨2, ![768, 256]⟩
abbrev S1x512x256 : Shape := ⟨3, ![1, 512, 256]⟩
abbrev S512x256 : Shape := ⟨2, ![512, 256]⟩

abbrev nBuf : Space → Nat
  | .hbm => 30
  | .vmem => 26
  | .smem => 0
  | _ => 0

abbrev bufTy : (tb : Table) → Fin (tcTables nBuf tb) → BufTy
  | .hbm, ⟨0, _⟩ => ⟨S17408x6144, .bf16⟩
  | .hbm, ⟨1, _⟩ => ⟨S17408x128, .f32⟩
  | .hbm, ⟨2, _⟩ => ⟨S2x16x1024, .f32⟩
  | .hbm, ⟨3, _⟩ => ⟨S2x1024, .f32⟩
  | .hbm, ⟨4, _⟩ => ⟨S_, .f32⟩
  | .hbm, ⟨5, _⟩ => ⟨S2x128x1024, .f32⟩
  | .hbm, ⟨6, _⟩ => ⟨S1x16x1024, .f32⟩
  | .hbm, ⟨7, _⟩ => ⟨S16x1024, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S2x128x1024, .f32⟩
  | .hbm, ⟨14, _⟩ => ⟨S1x16x1024, .f32⟩
  | .hbm, ⟨15, _⟩ => ⟨S16x1024, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S2x128x1024, .f32⟩
  | .hbm, ⟨22, _⟩ => ⟨S2x128x1024, .bf16⟩
  | .hbm, ⟨23, _⟩ => ⟨S2x128x1024, .f32⟩
  | .hbm, ⟨24, _⟩ => ⟨S2x128x1024, .f32⟩
  | .hbm, ⟨25, _⟩ => ⟨S2x128x1024, .bf16⟩
  | .hbm, ⟨26, _⟩ => ⟨S2x384x1024, .bf16⟩
  | .hbm, ⟨27, _⟩ => ⟨S2x1x1024, .f32⟩
  | .hbm, ⟨28, _⟩ => ⟨S17408x2048, .bf16⟩
  | .hbm, ⟨29, _⟩ => ⟨S17408x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | .local _ .vmem, ⟨14, _⟩ => ⟨S256x128, .f32⟩
  | .local _ .vmem, ⟨15, _⟩ => ⟨S256x128, .f32⟩
  | .local _ .vmem, ⟨16, _⟩ => ⟨S1x384x1024, .bf16⟩
  | .local _ .vmem, ⟨17, _⟩ => ⟨S1x384x1024, .bf16⟩
  | .local _ .vmem, ⟨18, _⟩ => ⟨S1x1x1024, .f32⟩
  | .local _ .vmem, ⟨19, _⟩ => ⟨S1x1x1024, .f32⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S4x512x256, .f32⟩
  | .local _ .vmem, ⟨25, _⟩ => ⟨S4x512x256, .f32⟩
  | _, _ => ⟨S17408x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let v3 : BitVec 32 := Scalar.addi v2 arg1
  let c1_i32 : BitVec 32 := 1#32
  let v4 : BitVec 32 := Scalar.subi v3 c1_i32
  let v5 : BitVec 32 := Scalar.select v0 v1 v4
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let v3 : BitVec 32 := Scalar.addi v2 arg1
  let c1_i32 : BitVec 32 := 1#32
  let v4 : BitVec 32 := Scalar.subi v3 c1_i32
  let v5 : BitVec 32 := Scalar.select v0 v1 v4
  let c1_i32_0 : BitVec 32 := 1#32
  let c0_i32_1 : BitVec 32 := 0#32
  ![v5.toNat, c1_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let v3 : BitVec 32 := Scalar.addi v2 arg1
  let c1_i32 : BitVec 32 := 1#32
  let v4 : BitVec 32 := Scalar.subi v3 c1_i32
  let v5 : BitVec 32 := Scalar.select v0 v1 v4
  let c1_i32_0 : BitVec 32 := 1#32
  let c0_i32_1 : BitVec 32 := 0#32
  ![v5.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let v3 : BitVec 32 := Scalar.addi v2 arg1
  let c1_i32 : BitVec 32 := 1#32
  let v4 : BitVec 32 := Scalar.subi v3 c1_i32
  let v5 : BitVec 32 := Scalar.select v0 v1 v4
  let c0_i32_0 : BitVec 32 := 0#32
  let c0_i32_1 : BitVec 32 := 0#32
  ![v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let c16_i32_0 : BitVec 32 := 16#32
  let v3 : BitVec 32 := Scalar.addi v2 c16_i32_0
  let v4 : BitVec 32 := Scalar.subi v3 arg1
  let v5 : BitVec 32 := Scalar.select v0 v1 v4
  let c0_i32_1 : BitVec 32 := 0#32
  let c0_i32_2 : BitVec 32 := 0#32
  ![v5.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let c16_i32_0 : BitVec 32 := 16#32
  let v3 : BitVec 32 := Scalar.addi v2 c16_i32_0
  let v4 : BitVec 32 := Scalar.subi v3 arg1
  let v5 : BitVec 32 := Scalar.select v0 v1 v4
  let c1_i32 : BitVec 32 := 1#32
  let c0_i32_1 : BitVec 32 := 0#32
  ![v5.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let c16_i32_0 : BitVec 32 := 16#32
  let v3 : BitVec 32 := Scalar.addi v2 c16_i32_0
  let v4 : BitVec 32 := Scalar.subi v3 arg1
  let v5 : BitVec 32 := Scalar.select v0 v1 v4
  let c1_i32 : BitVec 32 := 1#32
  let c0_i32_1 : BitVec 32 := 0#32
  ![v5.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let c16_i32_0 : BitVec 32 := 16#32
  let v3 : BitVec 32 := Scalar.addi v2 c16_i32_0
  let v4 : BitVec 32 := Scalar.subi v3 arg1
  let v5 : BitVec 32 := Scalar.select v0 v1 v4
  let c0_i32_1 : BitVec 32 := 0#32
  let c0_i32_2 : BitVec 32 := 0#32
  ![v5.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let v3 : BitVec 32 := Scalar.addi v2 arg1
  let c1_i32 : BitVec 32 := 1#32
  let v4 : BitVec 32 := Scalar.subi v3 c1_i32
  let v5 : BitVec 32 := Scalar.select v0 v1 v4
  let c0_i32_0 : BitVec 32 := 0#32
  let c0_i32_1 : BitVec 32 := 0#32
  ![v5.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.addi c64_i32 arg0
  let c16_i32 : BitVec 32 := 16#32
  let v2 : BitVec 32 := Scalar.muli arg0 c16_i32
  let c16_i32_0 : BitVec 32 := 16#32
  let v3 : BitVec 32 := Scalar.addi v2 c16_i32_0
  let v4 : BitVec 32 := Scalar.subi v3 arg1
  let v5 : BitVec 32 := Scalar.select v0 v1 v4
  let c0_i32_1 : BitVec 32 := 0#32
  let c0_i32_2 : BitVec 32 := 0#32
  ![v5.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S17408x6144 : Shape := ⟨2, ![17408, 6144]⟩
abbrev S17408x128 : Shape := ⟨2, ![17408, 128]⟩
abbrev S2x16x1024 : Shape := ⟨3, ![2, 16, 1024]⟩
abbrev S2x1024 : Shape := ⟨2, ![2, 1024]⟩
abbrev S16384x6144 : Shape := ⟨2, ![16384, 6144]⟩
abbrev S16384x128 : Shape := ⟨2, ![16384, 128]⟩
abbrev S16384x4096 : Shape := ⟨2, ![16384, 4096]⟩
abbrev S16384x1024 : Shape := ⟨2, ![16384, 1024]⟩
abbrev S16384x2048 : Shape := ⟨2, ![16384, 2048]⟩
abbrev S4x4096x4x256 : Shape := ⟨4, ![4, 4096, 4, 256]⟩
abbrev S_ : Shape := ⟨0, ![]⟩
abbrev S4x4096x4x512 : Shape := ⟨4, ![4, 4096, 4, 512]⟩
abbrev S16384x16 : Shape := ⟨2, ![16384, 16]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩
abbrev S1024x6144 : Shape := ⟨2, ![1024, 6144]⟩
abbrev S1024x128 : Shape := ⟨2, ![1024, 128]⟩
abbrev S1024x4096 : Shape := ⟨2, ![1024, 4096]⟩
abbrev S1024x1024 : Shape := ⟨2, ![1024, 1024]⟩
abbrev S1024x2048 : Shape := ⟨2, ![1024, 2048]⟩
abbrev S4x256x4x256 : Shape := ⟨4, ![4, 256, 4, 256]⟩
abbrev S4x256x4x512 : Shape := ⟨4, ![4, 256, 4, 512]⟩
abbrev S1024x16 : Shape := ⟨2, ![1024, 16]⟩
abbrev S4x1x4x256 : Shape := ⟨4, ![4, 1, 4, 256]⟩
abbrev S4x4x256x512 : Shape := ⟨4, ![4, 4, 256, 512]⟩
abbrev S4x4096x1x4x256 : Shape := ⟨5, ![4, 4096, 1, 4, 256]⟩
abbrev S4x1x4096x4x256 : Shape := ⟨5, ![4, 1, 4096, 4, 256]⟩
abbrev S4x4096x4096x4x256 : Shape := ⟨5, ![4, 4096, 4096, 4, 256]⟩
abbrev S4x4096x4096x4 : Shape := ⟨4, ![4, 4096, 4096, 4]⟩
abbrev S4096x4096 : Shape := ⟨2, ![4096, 4096]⟩
abbrev S1x4096x4096x1 : Shape := ⟨4, ![1, 4096, 4096, 1]⟩
abbrev S4x4x512x4096 : Shape := ⟨4, ![4, 4, 512, 4096]⟩
abbrev S4x256x1x4x256 : Shape := ⟨5, ![4, 256, 1, 4, 256]⟩
abbrev S4x1x256x4x256 : Shape := ⟨5, ![4, 1, 256, 4, 256]⟩
abbrev S4x256x256x4x256 : Shape := ⟨5, ![4, 256, 256, 4, 256]⟩
abbrev S4x256x256x4 : Shape := ⟨4, ![4, 256, 256, 4]⟩
abbrev S256x256 : Shape := ⟨2, ![256, 256]⟩
abbrev S1x256x256x1 : Shape := ⟨4, ![1, 256, 256, 1]⟩
abbrev S4x4x512x256 : Shape := ⟨4, ![4, 4, 512, 256]⟩
abbrev S17408x2048 : Shape := ⟨2, ![17408, 2048]⟩

abbrev nBuf : Space → Nat
  | .hbm => 351
  | .vmem => 0
  | .smem => 0
  | _ => 0

abbrev hbmTy0_0 (i : Nat) : BufTy := match i % 128 with
  | 0 => ⟨S17408x6144, .bf16⟩
  | 1 => ⟨S17408x128, .f32⟩
  | 2 => ⟨S2x16x1024, .f32⟩
  | 3 => ⟨S2x1024, .f32⟩
  | 4 => ⟨S16384x6144, .bf16⟩
  | 5 => ⟨S16384x128, .f32⟩
  | 6 => ⟨S16384x4096, .bf16⟩
  | 7 => ⟨S16384x4096, .f32⟩
  | 8 => ⟨S16384x1024, .f32⟩
  | 9 => ⟨S16384x1024, .f32⟩
  | 10 => ⟨S16384x2048, .f32⟩
  | 11 => ⟨S4x4096x4x256, .f32⟩
  | 12 => ⟨S_, .f32⟩
  | 13 => ⟨S4x4096x4x256, .f32⟩
  | 14 => ⟨S4x4096x4x256, .f32⟩
  | 15 => ⟨S4x4096x4x256, .f32⟩
  | 16 => ⟨S4x4096x4x512, .f32⟩
  | 17 => ⟨S16384x16, .f32⟩
  | 18 => ⟨S16384x16, .f32⟩
  | 19 => ⟨S1x16x1024, .f32⟩
  | 20 => ⟨S16x1024, .f32⟩
  | 21 => ⟨S16384x1024, .f32⟩
  | 22 => ⟨S1x1024, .f32⟩
  | 23 => ⟨S1024, .f32⟩
  | 24 => ⟨S1x1024, .f32⟩
  | 25 => ⟨S16384x1024, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S16384x1024, .f32⟩
  | 32 => ⟨S16384x1024, .f32⟩
  | 33 => ⟨S16384x1024, .i1⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S16384x1024, .f32⟩
  | 43 => ⟨S_, .f32⟩
  | 44 => ⟨S16384x1024, .f32⟩
  | 45 => ⟨S16384x1024, .f32⟩
  | 46 => ⟨S4x4096x4x256, .f32⟩
  | 47 => ⟨S1x16x1024, .f32⟩
  | 48 => ⟨S16x1024, .f32⟩
  | 49 => ⟨S16384x1024, .f32⟩
  | 50 => ⟨S1x1024, .f32⟩
  | 51 => ⟨S1024, .f32⟩
  | 52 => ⟨S1x1024, .f32⟩
  | 53 => ⟨S16384x1024, .f32⟩
  | 54 => ⟨S16384x1024, .f32⟩
  | 55 => ⟨S16384x1024, .f32⟩
  | 56 => ⟨S_, .f32⟩
  | 57 => ⟨S16384x1024, .f32⟩
  | 58 => ⟨S16384x1024, .f32⟩
  | 59 => ⟨S16384x1024, .f32⟩
  | 60 => ⟨S16384x1024, .f32⟩
  | 61 => ⟨S16384x1024, .i1⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S4x4096x4x256, .f32⟩
  | 75 => ⟨S1024x6144, .bf16⟩
  | 76 => ⟨S1024x128, .f32⟩
  | 77 => ⟨S1024x4096, .bf16⟩
  | 78 => ⟨S1024x4096, .f32⟩
  | 79 => ⟨S1024x1024, .f32⟩
  | 80 => ⟨S1024x1024, .f32⟩
  | 81 => ⟨S1024x2048, .f32⟩
  | 82 => ⟨S4x256x4x256, .f32⟩
  | 83 => ⟨S_, .f32⟩
  | 84 => ⟨S4x256x4x256, .f32⟩
  | 85 => ⟨S4x256x4x256, .f32⟩
  | 86 => ⟨S4x256x4x256, .f32⟩
  | 87 => ⟨S4x256x4x512, .f32⟩
  | 88 => ⟨S1024x16, .f32⟩
  | 89 => ⟨S1024x16, .f32⟩
  | 90 => ⟨S1x16x1024, .f32⟩
  | 91 => ⟨S16x1024, .f32⟩
  | 92 => ⟨S1024x1024, .f32⟩
  | 93 => ⟨S1x1024, .f32⟩
  | 94 => ⟨S1024, .f32⟩
  | 95 => ⟨S1x1024, .f32⟩
  | 96 => ⟨S1024x1024, .f32⟩
  | 97 => ⟨S1024x1024, .f32⟩
  | 98 => ⟨S1024x1024, .f32⟩
  | 99 => ⟨S_, .f32⟩
  | 100 => ⟨S1024x1024, .f32⟩
  | 101 => ⟨S1024x1024, .f32⟩
  | 102 => ⟨S1024x1024, .f32⟩
  | 103 => ⟨S1024x1024, .f32⟩
  | 104 => ⟨S1024x1024, .i1⟩
  | 105 => ⟨S1024x1024, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S1024x1024, .f32⟩
  | 112 => ⟨S1024x1024, .f32⟩
  | 113 => ⟨S1024x1024, .f32⟩
  | 114 => ⟨S_, .f32⟩
  | 115 => ⟨S1024x1024, .f32⟩
  | 116 => ⟨S1024x1024, .f32⟩
  | 117 => ⟨S4x256x4x256, .f32⟩
  | 118 => ⟨S1x16x1024, .f32⟩
  | 119 => ⟨S16x1024, .f32⟩
  | 120 => ⟨S1024x1024, .f32⟩
  | 121 => ⟨S1x1024, .f32⟩
  | 122 => ⟨S1024, .f32⟩
  | 123 => ⟨S1x1024, .f32⟩
  | 124 => ⟨S1024x1024, .f32⟩
  | 125 => ⟨S1024x1024, .f32⟩
  | 126 => ⟨S1024x1024, .f32⟩
  | 127 => ⟨S_, .f32⟩
  | _ => ⟨S17408x6144, .bf16⟩

abbrev hbmTy0_1 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S1024x1024, .i1⟩
  | 5 => ⟨S1024x1024, .f32⟩
  | 6 => ⟨S1024x1024, .f32⟩
  | 7 => ⟨S1024x1024, .f32⟩
  | 8 => ⟨S1024x1024, .f32⟩
  | 9 => ⟨S1024x1024, .f32⟩
  | 10 => ⟨S1024x1024, .f32⟩
  | 11 => ⟨S1024x1024, .f32⟩
  | 12 => ⟨S1024x1024, .f32⟩
  | 13 => ⟨S1024x1024, .f32⟩
  | 14 => ⟨S_, .f32⟩
  | 15 => ⟨S1024x1024, .f32⟩
  | 16 => ⟨S1024x1024, .f32⟩
  | 17 => ⟨S4x256x4x256, .f32⟩
  | 18 => ⟨S_, .f32⟩
  | 19 => ⟨S_, .f32⟩
  | 20 => ⟨S4x256x4x256, .f32⟩
  | 21 => ⟨S4x1x4x256, .f32⟩
  | 22 => ⟨S4x256x4x256, .f32⟩
  | 23 => ⟨S4x256x4x256, .f32⟩
  | 24 => ⟨S4x256x4x256, .f32⟩
  | 25 => ⟨S4x256x4x256, .f32⟩
  | 26 => ⟨S4x4x256x512, .f32⟩
  | 27 => ⟨S4x256x4x256, .f32⟩
  | 28 => ⟨S4x256x4x512, .f32⟩
  | 29 => ⟨S4x256x4x256, .f32⟩
  | 30 => ⟨S_, .f32⟩
  | 31 => ⟨S_, .f32⟩
  | 32 => ⟨S4x256x4x256, .f32⟩
  | 33 => ⟨S4x1x4x256, .f32⟩
  | 34 => ⟨S4x256x4x256, .f32⟩
  | 35 => ⟨S4x256x4x256, .f32⟩
  | 36 => ⟨S4x256x4x256, .f32⟩
  | 37 => ⟨S4x256x4x256, .f32⟩
  | 38 => ⟨S4x4x256x512, .f32⟩
  | 39 => ⟨S_, .f32⟩
  | 40 => ⟨S4x4x256x512, .f32⟩
  | 41 => ⟨S_, .f32⟩
  | 42 => ⟨S_, .f32⟩
  | 43 => ⟨S4x4096x4x256, .f32⟩
  | 44 => ⟨S4x4096x1x4x256, .f32⟩
  | 45 => ⟨S4x1x4096x4x256, .f32⟩
  | 46 => ⟨S4x4096x4096x4x256, .f32⟩
  | 47 => ⟨S4x4096x4096x4x256, .f32⟩
  | 48 => ⟨S4x4096x4096x4x256, .f32⟩
  | 49 => ⟨S4x4096x4096x4x256, .f32⟩
  | 50 => ⟨S4x4096x1x4x256, .f32⟩
  | 51 => ⟨S4x1x4096x4x256, .f32⟩
  | 52 => ⟨S4x4096x4096x4x256, .f32⟩
  | 53 => ⟨S4x4096x4096x4x256, .f32⟩
  | 54 => ⟨S4x4096x4096x4x256, .f32⟩
  | 55 => ⟨S4x4096x4096x4x256, .f32⟩
  | 56 => ⟨S_, .f32⟩
  | 57 => ⟨S4x4096x4096x4, .f32⟩
  | 58 => ⟨S_, .i1⟩
  | 59 => ⟨S4096x4096, .i1⟩
  | 60 => ⟨S4096x4096, .i32⟩
  | 61 => ⟨S_, .i32⟩
  | 62 => ⟨S4096x4096, .i32⟩
  | 63 => ⟨S4096x4096, .i32⟩
  | 64 => ⟨S4096x4096, .i32⟩
  | 65 => ⟨S4096x4096, .i1⟩
  | 66 => ⟨S_, .i1⟩
  | 67 => ⟨S4096x4096, .i1⟩
  | 68 => ⟨S4096x4096, .i1⟩
  | 69 => ⟨S1x4096x4096x1, .i1⟩
  | 70 => ⟨S_, .f32⟩
  | 71 => ⟨S_, .f32⟩
  | 72 => ⟨S4x4096x4096x4, .i1⟩
  | 73 => ⟨S4x4096x4096x4, .f32⟩
  | 74 => ⟨S4x4096x4096x4, .f32⟩
  | 75 => ⟨S4x4x512x4096, .f32⟩
  | 76 => ⟨S4x4096x4x512, .f32⟩
  | 77 => ⟨S4x4096x4x256, .f32⟩
  | 78 => ⟨S4x4096x4x256, .f32⟩
  | 79 => ⟨S4x4x512x4096, .f32⟩
  | 80 => ⟨S4x4096x4x512, .f32⟩
  | 81 => ⟨S4x4096x4x512, .f32⟩
  | 82 => ⟨S4x4096x4x256, .f32⟩
  | 83 => ⟨S4x4096x4x256, .f32⟩
  | 84 => ⟨S4x4096x4x512, .f32⟩
  | 85 => ⟨S4x4096x4x256, .f32⟩
  | 86 => ⟨S_, .f32⟩
  | 87 => ⟨S_, .f32⟩
  | 88 => ⟨S4x4096x4x256, .f32⟩
  | 89 => ⟨S4x4096x1x4x256, .f32⟩
  | 90 => ⟨S4x1x4096x4x256, .f32⟩
  | 91 => ⟨S4x4096x4096x4x256, .f32⟩
  | 92 => ⟨S4x4096x4096x4x256, .f32⟩
  | 93 => ⟨S4x4096x4096x4x256, .f32⟩
  | 94 => ⟨S4x4096x4096x4x256, .f32⟩
  | 95 => ⟨S4x4096x1x4x256, .f32⟩
  | 96 => ⟨S4x1x4096x4x256, .f32⟩
  | 97 => ⟨S4x4096x4096x4x256, .f32⟩
  | 98 => ⟨S4x4096x4096x4x256, .f32⟩
  | 99 => ⟨S4x4096x4096x4x256, .f32⟩
  | 100 => ⟨S4x4096x4096x4x256, .f32⟩
  | 101 => ⟨S_, .f32⟩
  | 102 => ⟨S4x4096x4096x4, .f32⟩
  | 103 => ⟨S_, .i1⟩
  | 104 => ⟨S4096x4096, .i1⟩
  | 105 => ⟨S4096x4096, .i32⟩
  | 106 => ⟨S_, .i32⟩
  | 107 => ⟨S4096x4096, .i32⟩
  | 108 => ⟨S4096x4096, .i32⟩
  | 109 => ⟨S4096x4096, .i32⟩
  | 110 => ⟨S4096x4096, .i1⟩
  | 111 => ⟨S_, .i1⟩
  | 112 => ⟨S4096x4096, .i1⟩
  | 113 => ⟨S4096x4096, .i1⟩
  | 114 => ⟨S1x4096x4096x1, .i1⟩
  | 115 => ⟨S_, .f32⟩
  | 116 => ⟨S_, .f32⟩
  | 117 => ⟨S4x4096x4096x4, .i1⟩
  | 118 => ⟨S4x4096x4096x4, .f32⟩
  | 119 => ⟨S4x4096x4096x4, .f32⟩
  | 120 => ⟨S4x4x512x4096, .f32⟩
  | 121 => ⟨S4x4096x4x512, .f32⟩
  | 122 => ⟨S4x4096x4x256, .f32⟩
  | 123 => ⟨S4x4096x4x256, .f32⟩
  | 124 => ⟨S4x4x512x4096, .f32⟩
  | 125 => ⟨S4x4096x4x512, .f32⟩
  | 126 => ⟨S4x4096x4x512, .f32⟩
  | 127 => ⟨S4x4096x4x512, .f32⟩
  | _ => ⟨S17408x6144, .bf16⟩

abbrev hbmTy0_2 (i : Nat) : BufTy := match i % 128 with
  | 0 => ⟨S_, .f32⟩
  | 1 => ⟨S_, .f32⟩
  | 2 => ⟨S4x256x4x256, .f32⟩
  | 3 => ⟨S4x256x1x4x256, .f32⟩
  | 4 => ⟨S4x1x256x4x256, .f32⟩
  | 5 => ⟨S4x256x256x4x256, .f32⟩
  | 6 => ⟨S4x256x256x4x256, .f32⟩
  | 7 => ⟨S4x256x256x4x256, .f32⟩
  | 8 => ⟨S4x256x256x4x256, .f32⟩
  | 9 => ⟨S4x256x1x4x256, .f32⟩
  | 10 => ⟨S4x1x256x4x256, .f32⟩
  | 11 => ⟨S4x256x256x4x256, .f32⟩
  | 12 => ⟨S4x256x256x4x256, .f32⟩
  | 13 => ⟨S4x256x256x4x256, .f32⟩
  | 14 => ⟨S4x256x256x4x256, .f32⟩
  | 15 => ⟨S_, .f32⟩
  | 16 => ⟨S4x256x256x4, .f32⟩
  | 17 => ⟨S_, .i1⟩
  | 18 => ⟨S256x256, .i1⟩
  | 19 => ⟨S256x256, .i32⟩
  | 20 => ⟨S_, .i32⟩
  | 21 => ⟨S256x256, .i32⟩
  | 22 => ⟨S256x256, .i32⟩
  | 23 => ⟨S256x256, .i32⟩
  | 24 => ⟨S256x256, .i1⟩
  | 25 => ⟨S_, .i1⟩
  | 26 => ⟨S256x256, .i1⟩
  | 27 => ⟨S256x256, .i1⟩
  | 28 => ⟨S1x256x256x1, .i1⟩
  | 29 => ⟨S_, .f32⟩
  | 30 => ⟨S_, .f32⟩
  | 31 => ⟨S4x256x256x4, .i1⟩
  | 32 => ⟨S4x256x256x4, .f32⟩
  | 33 => ⟨S4x256x256x4, .f32⟩
  | 34 => ⟨S4x4x512x256, .f32⟩
  | 35 => ⟨S4x256x4x512, .f32⟩
  | 36 => ⟨S4x256x4x256, .f32⟩
  | 37 => ⟨S4x256x4x256, .f32⟩
  | 38 => ⟨S4x4x512x256, .f32⟩
  | 39 => ⟨S4x256x4x512, .f32⟩
  | 40 => ⟨S4x256x4x512, .f32⟩
  | 41 => ⟨S4x256x4x256, .f32⟩
  | 42 => ⟨S4x256x4x256, .f32⟩
  | 43 => ⟨S4x256x4x512, .f32⟩
  | 44 => ⟨S4x256x4x256, .f32⟩
  | 45 => ⟨S_, .f32⟩
  | 46 => ⟨S_, .f32⟩
  | 47 => ⟨S4x256x4x256, .f32⟩
  | 48 => ⟨S4x256x1x4x256, .f32⟩
  | 49 => ⟨S4x1x256x4x256, .f32⟩
  | 50 => ⟨S4x256x256x4x256, .f32⟩
  | 51 => ⟨S4x256x256x4x256, .f32⟩
  | 52 => ⟨S4x256x256x4x256, .f32⟩
  | 53 => ⟨S4x256x256x4x256, .f32⟩
  | 54 => ⟨S4x256x1x4x256, .f32⟩
  | 55 => ⟨S4x1x256x4x256, .f32⟩
  | 56 => ⟨S4x256x256x4x256, .f32⟩
  | 57 => ⟨S4x256x256x4x256, .f32⟩
  | 58 => ⟨S4x256x256x4x256, .f32⟩
  | 59 => ⟨S4x256x256x4x256, .f32⟩
  | 60 => ⟨S_, .f32⟩
  | 61 => ⟨S4x256x256x4, .f32⟩
  | 62 => ⟨S_, .i1⟩
  | 63 => ⟨S256x256, .i1⟩
  | 64 => ⟨S256x256, .i32⟩
  | 65 => ⟨S_, .i32⟩
  | 66 => ⟨S256x256, .i32⟩
  | 67 => ⟨S256x256, .i32⟩
  | 68 => ⟨S256x256, .i32⟩
  | 69 => ⟨S256x256, .i1⟩
  | 70 => ⟨S_, .i1⟩
  | 71 => ⟨S256x256, .i1⟩
  | 72 => ⟨S256x256, .i1⟩
  | 73 => ⟨S1x256x256x1, .i1⟩
  | 74 => ⟨S_, .f32⟩
  | 75 => ⟨S_, .f32⟩
  | 76 => ⟨S4x256x256x4, .i1⟩
  | 77 => ⟨S4x256x256x4, .f32⟩
  | 78 => ⟨S4x256x256x4, .f32⟩
  | 79 => ⟨S4x4x512x256, .f32⟩
  | 80 => ⟨S4x256x4x512, .f32⟩
  | 81 => ⟨S4x256x4x256, .f32⟩
  | 82 => ⟨S4x256x4x256, .f32⟩
  | 83 => ⟨S4x4x512x256, .f32⟩
  | 84 => ⟨S4x256x4x512, .f32⟩
  | 85 => ⟨S4x256x4x512, .f32⟩
  | 86 => ⟨S4x256x4x512, .f32⟩
  | 87 => ⟨S16384x2048, .f32⟩
  | 88 => ⟨S1024x2048, .f32⟩
  | 89 => ⟨S17408x2048, .f32⟩
  | 90 => ⟨S17408x2048, .bf16⟩
  | 91 => ⟨S16384x2048, .f32⟩
  | 92 => ⟨S1024x2048, .f32⟩
  | 93 => ⟨S17408x2048, .f32⟩
  | 94 => ⟨S17408x2048, .bf16⟩
  | _ => ⟨S17408x6144, .bf16⟩

abbrev hbmTy (i : Nat) : BufTy := match i / 128 with
  | 0 => hbmTy0_0 i
  | 1 => hbmTy0_1 i
  | 2 => hbmTy0_2 i
  | _ => ⟨S17408x6144, .bf16⟩

abbrev bufTy : (tb : Table) → Fin (tcTables nBuf tb) → BufTy
  | .hbm, ⟨i, _⟩ => hbmTy i
  | _, _ => ⟨S17408x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_v0 : Ref sig .tc := ⟨.hbm, 55, rfl⟩
abbrev main_call1_call0_cst : Ref sig .tc := ⟨.hbm, 56, rfl⟩
abbrev main_call1_call0_v0 : Ref sig .tc := ⟨.hbm, 57, rfl⟩
abbrev main_call1_call0_v1 : Ref sig .tc := ⟨.hbm, 58, rfl⟩
abbrev main_call1_call0_v2 : Ref sig .tc := ⟨.hbm, 59, rfl⟩
abbrev main_call1_call0_v3 : Ref sig .tc := ⟨.hbm, 60, rfl⟩
abbrev main_call1_call0_v4 : Ref sig .tc := ⟨.hbm, 61, rfl⟩
abbrev main_call1_call0_v5 : Ref sig .tc := ⟨.hbm, 62, rfl⟩
abbrev main_call1_call0_v6 : Ref sig .tc := ⟨.hbm, 63, rfl⟩
abbrev main_call1_call0_v7 : Ref sig .tc := ⟨.hbm, 64, rfl⟩
abbrev main_call1_call0_v8 : Ref sig .tc := ⟨.hbm, 65, rfl⟩
abbrev main_call1_call0_v9 : Ref sig .tc := ⟨.hbm, 66, rfl⟩
abbrev main_call1_call0_v10 : Ref sig .tc := ⟨.hbm, 67, rfl⟩
abbrev main_call1_call0_v11 : Ref sig .tc := ⟨.hbm, 68, rfl⟩
abbrev main_call1_v1 : Ref sig .tc := ⟨.hbm, 69, rfl⟩
abbrev main_v34 : Ref sig .tc := ⟨.hbm, 70, rfl⟩
abbrev main_cst_1 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_2 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call2_v0 : Ref sig .tc := ⟨.hbm, 98, rfl⟩
abbrev main_call2_call0_cst : Ref sig .tc := ⟨.hbm, 99, rfl⟩
abbrev main_call2_call0_v0 : Ref sig .tc := ⟨.hbm, 100, rfl⟩
abbrev main_call2_call0_v1 : Ref sig .tc := ⟨.hbm, 101, rfl⟩
abbrev main_call2_call0_v2 : Ref sig .tc := ⟨.hbm, 102, rfl⟩
abbrev main_call2_call0_v3 : Ref sig .tc := ⟨.hbm, 103, rfl⟩
abbrev main_call2_call0_v4 : Ref sig .tc := ⟨.hbm, 104, rfl⟩
abbrev main_call2_call0_v5 : Ref sig .tc := ⟨.hbm, 105, rfl⟩
abbrev main_call2_call0_v6 : Ref sig .tc := ⟨.hbm, 106, rfl⟩
abbrev main_call2_call0_v7 : Ref sig .tc := ⟨.hbm, 107, rfl⟩
abbrev main_call2_call0_v8 : Ref sig .tc := ⟨.hbm, 108, rfl⟩
abbrev main_call2_call0_v9 : Ref sig .tc := ⟨.hbm, 109, rfl⟩
abbrev main_call2_call0_v10 : Ref sig .tc := ⟨.hbm, 110, rfl⟩
abbrev main_call2_call0_v11 : Ref sig .tc := ⟨.hbm, 111, rfl⟩
abbrev main_call2_v1 : Ref sig .tc := ⟨.hbm, 112, rfl⟩
abbrev main_v60 : Ref sig .tc := ⟨.hbm, 113, rfl⟩
abbrev main_cst_3 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_call3_v0 : Ref sig .tc := ⟨.hbm, 126, rfl⟩
abbrev main_call3_call0_cst : Ref sig .tc := ⟨.hbm, 127, rfl⟩
abbrev main_call3_call0_v0 : Ref sig .tc := ⟨.hbm, 128, rfl⟩
abbrev main_call3_call0_v1 : Ref sig .tc := ⟨.hbm, 129, rfl⟩
abbrev main_call3_call0_v2 : Ref sig .tc := ⟨.hbm, 130, rfl⟩
abbrev main_call3_call0_v3 : Ref sig .tc := ⟨.hbm, 131, rfl⟩
abbrev main_call3_call0_v4 : Ref sig .tc := ⟨.hbm, 132, rfl⟩
abbrev main_call3_call0_v5 : Ref sig .tc := ⟨.hbm, 133, rfl⟩
abbrev main_call3_call0_v6 : Ref sig .tc := ⟨.hbm, 134, rfl⟩
abbrev main_call3_call0_v7 : Ref sig .tc := ⟨.hbm, 135, rfl⟩
abbrev main_call3_call0_v8 : Ref sig .tc := ⟨.hbm, 136, rfl⟩
abbrev main_call3_call0_v9 : Ref sig .tc := ⟨.hbm, 137, rfl⟩
abbrev main_call3_call0_v10 : Ref sig .tc := ⟨.hbm, 138, rfl⟩
abbrev main_call3_call0_v11 : Ref sig .tc := ⟨.hbm, 139, rfl⟩
abbrev main_call3_v1 : Ref sig .tc := ⟨.hbm, 140, rfl⟩
abbrev main_v72 : Ref sig .tc := ⟨.hbm, 141, rfl⟩
abbrev main_cst_4 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_call4_call0_cst : Ref sig .tc := ⟨.hbm, 146, rfl⟩
abbrev main_call4_call0_v0 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_call8_call0_cst : Ref sig .tc := ⟨.hbm, 158, rfl⟩
abbrev main_call8_call0_v0 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_cst_5 : Ref sig .tc := ⟨.hbm, 167, rfl⟩
abbrev main_v93 : Ref sig .tc := ⟨.hbm, 168, rfl⟩
abbrev main_call9_call0_cst : Ref sig .tc := ⟨.hbm, 169, rfl⟩
abbrev main_call9_call0_v0 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_6 : Ref sig .tc := ⟨.hbm, 184, rfl⟩
abbrev main_v107 : Ref sig .tc := ⟨.hbm, 185, rfl⟩
abbrev main_c : Ref sig .tc := ⟨.hbm, 186, rfl⟩
abbrev main_v108 : Ref sig .tc := ⟨.hbm, 187, rfl⟩
abbrev main_call10_v0 : Ref sig .tc := ⟨.hbm, 188, rfl⟩
abbrev main_call10_c : Ref sig .tc := ⟨.hbm, 189, rfl⟩
abbrev main_call10_v1 : Ref sig .tc := ⟨.hbm, 190, rfl⟩
abbrev main_call10_v2 : Ref sig .tc := ⟨.hbm, 191, rfl⟩
abbrev main_call10_v3 : Ref sig .tc := ⟨.hbm, 192, rfl⟩
abbrev main_call10_v4 : Ref sig .tc := ⟨.hbm, 193, rfl⟩
abbrev main_call10_c_0 : Ref sig .tc := ⟨.hbm, 194, rfl⟩
abbrev main_call10_v5 : Ref sig .tc := ⟨.hbm, 195, rfl⟩
abbrev main_v109 : Ref sig .tc := ⟨.hbm, 196, rfl⟩
abbrev main_v110 : Ref sig .tc := ⟨.hbm, 197, rfl⟩
abbrev main_cst_7 : Ref sig .tc := ⟨.hbm, 198, rfl⟩
abbrev main_call11_v0 : Ref sig .tc := ⟨.hbm, 199, rfl⟩
abbrev main_call11_v1 : Ref sig .tc := ⟨.hbm, 200, rfl⟩
abbrev main_call11_v2 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_call16_call0_cst : Ref sig .tc := ⟨.hbm, 214, rfl⟩
abbrev main_call16_call0_v0 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_cst_8 : Ref sig .tc := ⟨.hbm, 229, rfl⟩
abbrev main_v136 : Ref sig .tc := ⟨.hbm, 230, rfl⟩
abbrev main_c_9 : Ref sig .tc := ⟨.hbm, 231, rfl⟩
abbrev main_v137 : Ref sig .tc := ⟨.hbm, 232, rfl⟩
abbrev main_call17_v0 : Ref sig .tc := ⟨.hbm, 233, rfl⟩
abbrev main_call17_c : Ref sig .tc := ⟨.hbm, 234, rfl⟩
abbrev main_call17_v1 : Ref sig .tc := ⟨.hbm, 235, rfl⟩
abbrev main_call17_v2 : Ref sig .tc := ⟨.hbm, 236, rfl⟩
abbrev main_call17_v3 : Ref sig .tc := ⟨.hbm, 237, rfl⟩
abbrev main_call17_v4 : Ref sig .tc := ⟨.hbm, 238, rfl⟩
abbrev main_call17_c_0 : Ref sig .tc := ⟨.hbm, 239, rfl⟩
abbrev main_call17_v5 : Ref sig .tc := ⟨.hbm, 240, rfl⟩
abbrev main_v138 : Ref sig .tc := ⟨.hbm, 241, rfl⟩
abbrev main_v139 : Ref sig .tc := ⟨.hbm, 242, rfl⟩
abbrev main_cst_10 : Ref sig .tc := ⟨.hbm, 243, rfl⟩
abbrev main_call18_v0 : Ref sig .tc := ⟨.hbm, 244, rfl⟩
abbrev main_call18_v1 : Ref sig .tc := ⟨.hbm, 245, rfl⟩
abbrev main_call18_v2 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_call20_call0_cst : Ref sig .tc := ⟨.hbm, 256, rfl⟩
abbrev main_call20_call0_v0 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_cst_11 : Ref sig .tc := ⟨.hbm, 271, rfl⟩
abbrev main_v162 : Ref sig .tc := ⟨.hbm, 272, rfl⟩
abbrev main_c_12 : Ref sig .tc := ⟨.hbm, 273, rfl⟩
abbrev main_v163 : Ref sig .tc := ⟨.hbm, 274, rfl⟩
abbrev main_call21_v0 : Ref sig .tc := ⟨.hbm, 275, rfl⟩
abbrev main_call21_c : Ref sig .tc := ⟨.hbm, 276, rfl⟩
abbrev main_call21_v1 : Ref sig .tc := ⟨.hbm, 277, rfl⟩
abbrev main_call21_v2 : Ref sig .tc := ⟨.hbm, 278, rfl⟩
abbrev main_call21_v3 : Ref sig .tc := ⟨.hbm, 279, rfl⟩
abbrev main_call21_v4 : Ref sig .tc := ⟨.hbm, 280, rfl⟩
abbrev main_call21_c_0 : Ref sig .tc := ⟨.hbm, 281, rfl⟩
abbrev main_call21_v5 : Ref sig .tc := ⟨.hbm, 282, rfl⟩
abbrev main_v164 : Ref sig .tc := ⟨.hbm, 283, rfl⟩
abbrev main_v165 : Ref sig .tc := ⟨.hbm, 284, rfl⟩
abbrev main_cst_13 : Ref sig .tc := ⟨.hbm, 285, rfl⟩
abbrev main_call22_v0 : Ref sig .tc := ⟨.hbm, 286, rfl⟩
abbrev main_call22_v1 : Ref sig .tc := ⟨.hbm, 287, rfl⟩
abbrev main_call22_v2 : Ref sig .tc := ⟨.hbm, 288, rfl⟩
abbrev main_v166 : Ref sig .tc := ⟨.hbm, 289, rfl⟩
abbrev main_v167 : Ref sig .tc := ⟨.hbm, 290, rfl⟩
abbrev main_v168 : Ref sig .tc := ⟨.hbm, 291, rfl⟩
abbrev main_v169 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_v174 : Ref sig .tc := ⟨.hbm, 297, rfl⟩
abbrev main_v175 : Ref sig .tc := ⟨.hbm, 298, rfl⟩
abbrev main_v176 : Ref sig .tc := ⟨.hbm, 299, rfl⟩
abbrev main_v177 : Ref sig .tc := ⟨.hbm, 300, rfl⟩
abbrev main_call27_call0_cst : Ref sig .tc := ⟨.hbm, 301, rfl⟩
abbrev main_call27_call0_v0 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_cst_14 : Ref sig .tc := ⟨.hbm, 316, rfl⟩
abbrev main_v191 : Ref sig .tc := ⟨.hbm, 317, rfl⟩
abbrev main_c_15 : Ref sig .tc := ⟨.hbm, 318, rfl⟩
abbrev main_v192 : Ref sig .tc := ⟨.hbm, 319, rfl⟩
abbrev main_call28_v0 : Ref sig .tc := ⟨.hbm, 320, rfl⟩
abbrev main_call28_c : Ref sig .tc := ⟨.hbm, 321, rfl⟩
abbrev main_call28_v1 : Ref sig .tc := ⟨.hbm, 322, rfl⟩
abbrev main_call28_v2 : Ref sig .tc := ⟨.hbm, 323, rfl⟩
abbrev main_call28_v3 : Ref sig .tc := ⟨.hbm, 324, rfl⟩
abbrev main_call28_v4 : Ref sig .tc := ⟨.hbm, 325, rfl⟩
abbrev main_call28_c_0 : Ref sig .tc := ⟨.hbm, 326, rfl⟩
abbrev main_call28_v5 : Ref sig .tc := ⟨.hbm, 327, rfl⟩
abbrev main_v193 : Ref sig .tc := ⟨.hbm, 328, rfl⟩
abbrev main_v194 : Ref sig .tc := ⟨.hbm, 329, rfl⟩
abbrev main_cst_16 : Ref sig .tc := ⟨.hbm, 330, rfl⟩
abbrev main_call29_v0 : Ref sig .tc := ⟨.hbm, 331, rfl⟩
abbrev main_call29_v1 : Ref sig .tc := ⟨.hbm, 332, rfl⟩
abbrev main_call29_v2 : Ref sig .tc := ⟨.hbm, 333, rfl⟩
abbrev main_v195 : Ref sig .tc := ⟨.hbm, 334, rfl⟩
abbrev main_v196 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_v211 : Ref sig .tc := ⟨.hbm, 350, rfl⟩

abbrev nD : Nat := 1
abbrev τ : Topo := Topo.v7x

variable {F : FTy → Type} [FloatOps F]
-- ==== Kernel2.lean ====
abbrev S17408x2048 : Shape := ⟨2, ![17408, 2048]⟩
abbrev S45x1x2048 : Shape := ⟨3, ![45, 1, 2048]⟩
abbrev S1x2048 : Shape := ⟨2, ![1, 2048]⟩
abbrev S4x2x2048x11264 : Shape := ⟨4, ![4, 2, 2048, 11264]⟩
abbrev S4x2x5632x2048 : Shape := ⟨4, ![4, 2, 5632, 2048]⟩
abbrev S1x1x2048 : Shape := ⟨3, ![1, 1, 2048]⟩
abbrev S1x1x2048x1024 : Shape := ⟨4, ![1, 1, 2048, 1024]⟩
abbrev S1x1x512x2048 : Shape := ⟨4, ![1, 1, 512, 2048]⟩
abbrev S1024x2048 : Shape := ⟨2, ![1024, 2048]⟩
abbrev S2x16x2048 : Shape := ⟨3, ![2, 16, 2048]⟩
abbrev S_ : Shape := ⟨0, ![]⟩
abbrev S16x2048 : Shape := ⟨2, ![16, 2048]⟩
abbrev S1x16x2048 : Shape := ⟨3, ![1, 16, 2048]⟩
abbrev S16 : Shape := ⟨1, ![16]⟩
abbrev S16x1 : Shape := ⟨2, ![16, 1]⟩
abbrev S2048x1024 : Shape := ⟨2, ![2048, 1024]⟩
abbrev S1024x1024 : Shape := ⟨2, ![1024, 1024]⟩
abbrev S1024x512 : Shape := ⟨2, ![1024, 512]⟩
abbrev S512x2048 : Shape := ⟨2, ![512, 2048]⟩

abbrev nBuf : Space → Nat
  | .hbm => 6
  | .vmem => 16
  | .smem => 0
  | _ => 0

abbrev bufTy : (tb : Table) → Fin (tcTables nBuf tb) → BufTy
  | .hbm, ⟨0, _⟩ => ⟨S17408x2048, .f32⟩
  | .hbm, ⟨1, _⟩ => ⟨S45x1x2048, .f32⟩
  | .hbm, ⟨2, _⟩ => ⟨S1x2048, .f32⟩
  | .hbm, ⟨3, _⟩ => ⟨S4x2x2048x11264, .bf16⟩
  | .hbm, ⟨4, _⟩ => ⟨S4x2x5632x2048, .bf16⟩
  | .hbm, ⟨5, _⟩ => ⟨S17408x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1x2048x1024, .bf16⟩
  | .local _ .vmem, ⟨8, _⟩ => ⟨S1x1x2048x1024, .bf16⟩
  | .local _ .vmem, ⟨9, _⟩ => ⟨S1x1x512x2048, .bf16⟩
  | .local _ .vmem, ⟨10, _⟩ => ⟨S1x1x512x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | .local _ .vmem, ⟨15, _⟩ => ⟨S2x16x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c17_i32_27 : BitVec 32 := 17#32
  let v43 : BitVec 1 := Scalar.cmpi .slt arg0 c17_i32_27
  let v44 : BitVec 32 := Scalar.extui v43
  let c0_i32_28 : BitVec 32 := 0#32
  let v45 : BitVec 1 := Scalar.cmpi .ne v44 c0_i32_28
  v45

def k0_off1 (i : grid0.Coords) : Fin 2 → Nat :=
  let arg0 : BitVec 32 := BitVec.ofNat 32 (i 0).val
  let c1024_i32 : BitVec 32 := 1024#32
  let v68 : BitVec 32 := Scalar.muli arg0 c1024_i32
  let c0_i32_48 : BitVec 32 := 0#32
  ![v68.toNat, 0]
def k0_cond4 (i : grid0.Coords) : BitVec 1 :=
  let arg0 : BitVec 32 := BitVec.ofNat 32 (i 0).val
  let c17_i32_29 : BitVec 32 := 17#32
  let v46 : BitVec 1 := Scalar.cmpi .sge arg0 c17_i32_29
  let v47 : BitVec 32 := Scalar.extui v46
  let c0_i32_30 : BitVec 32 := 0#32
  let v48 : BitVec 1 := Scalar.cmpi .ne v47 c0_i32_30
  v48

def k0_off2 (i : grid0.Coords) : Fin 2 → Nat :=
  let arg0 : BitVec 32 := BitVec.ofNat 32 (i 0).val
  let c17_i32_48 : BitVec 32 := 17#32
  let v68 : BitVec 32 := Scalar.subi arg0 c17_i32_48
  let c1024_i32 : BitVec 32 := 1024#32
  let v69 : BitVec 32 := Scalar.muli v68 c1024_i32
  let c0_i32_49 : BitVec 32 := 0#32
  ![v69.toNat, 0]
@[reducible] def k0_t1_loop : Scf.Loop 32 :=
  let c0_i32_45 : BitVec 32 := 0#32
  let c8_i32 : BitVec 32 := 8#32
  let v67 : BitVec 32 := Scalar.addi c0_i32_45 c8_i32
  let c1_i32_46 : BitVec 32 := 1#32
  ⟨c0_i32_45, v67, c1_i32_46⟩
def k0_mult1 (k0_t1 : Fin k0_t1_loop.trips) : BitVec 32 :=
  let c0_i32_45 : BitVec 32 := 0#32
  let c1_i32_46 : BitVec 32 := 1#32
  let arg15 : BitVec 32 := Scf.iv c0_i32_45 c1_i32_46 k0_t1
  let c128_i32 : BitVec 32 := 128#32
  let v68 : BitVec 32 := Scalar.muli arg15 c128_i32
  let c0_i32_48 : BitVec 32 := 0#32
  let v69 : BitVec 32 := Scalar.addi v68 c0_i32_48
  v69
def k0_off3 (k0_t1 : Fin k0_t1_loop.trips) (c0_i32_48 : BitVec 32) : Fin 2 → Nat :=
  let c0_i32_45 : BitVec 32 := 0#32
  let c1_i32_46 : BitVec 32 := 1#32
  let arg15 : BitVec 32 := Scf.iv c0_i32_45 c1_i32_46 k0_t1
  let c128_i32 : BitVec 32 := 128#32
  let v68 : BitVec 32 := Scalar.muli arg15 c128_i32
  let v69 : BitVec 32 := Scalar.addi v68 c0_i32_48
  let v70 : BitVec 32 := v69
  let v71 : Index := Scalar.indexCast v70
  let c0_49 : Index := 0#32
  ![v71.toNat, 0]
def k0_mult2 (k0_t1 : Fin k0_t1_loop.trips) : BitVec 32 :=
  let c0_i32_45 : BitVec 32 := 0#32
  let c1_i32_46 : BitVec 32 := 1#32
  let arg15 : BitVec 32 := Scf.iv c0_i32_45 c1_i32_46 k0_t1
  let c128_i32_61 : BitVec 32 := 128#32
  let v96 : BitVec 32 := Scalar.muli arg15 c128_i32_61
  let c16_i32 : BitVec 32 := 16#32
  let v97 : BitVec 32 := Scalar.addi v96 c16_i32
  v97
def k0_mult3 (k0_t1 : Fin k0_t1_loop.trips) : BitVec 32 :=
  let c0_i32_45 : BitVec 32 := 0#32
  let c1_i32_46 : BitVec 32 := 1#32
  let arg15 : BitVec 32 := Scf.iv c0_i32_45 c1_i32_46 k0_t1
  let c128_i32_74 : BitVec 32 := 128#32
  let v124 : BitVec 32 := Scalar.muli arg15 c128_i32_74
  let c32_i32 : BitVec 32 := 32#32
  let v125 : BitVec 32 := Scalar.addi v124 c32_i32
  v125
def k0_mult4 (k0_t1 : Fin k0_t1_loop.trips) : BitVec 32 :=
  let c0_i32_45 : BitVec 32 := 0#32
  let c1_i32_46 : BitVec 32 := 1#32
  let arg15 : BitVec 32 := Scf.iv c0_i32_45 c1_i32_46 k0_t1
  let c128_i32_87 : BitVec 32 := 128#32
  let v152 : BitVec 32 := Scalar.muli arg15 c128_i32_87
  let c48_i32 : BitVec 32 := 48#32
  let v153 : BitVec 32 := Scalar.addi v152 c48_i32
  v153
def k0_mult5 (k0_t1 : Fin k0_t1_loop.trips) : BitVec 32 :=
  let c0_i32_45 : BitVec 32 := 0#32
  let c1_i32_46 : BitVec 32 := 1#32
  let arg15 : BitVec 32 := Scf.iv c0_i32_45 c1_i32_46 k0_t1
  let c128_i32_100 : BitVec 32 := 128#32
  let v180 : BitVec 32 := Scalar.muli arg15 c128_i32_100
  let c64_i32 : BitVec 32 := 64#32
  let v181 : BitVec 32 := Scalar.addi v180 c64_i32
  v181
def k0_mult6 (k0_t1 : Fin k0_t1_loop.trips) : BitVec 32 :=
  let c0_i32_45 : BitVec 32 := 0#32
  let c1_i32_46 : BitVec 32 := 1#32
  let arg15 : BitVec 32 := Scf.iv c0_i32_45 c1_i32_46 k0_t1
  let c128_i32_113 : BitVec 32 := 128#32
  let v208 : BitVec 32 := Scalar.muli arg15 c128_i32_113
  let c80_i32 : BitVec 32 := 80#32
  let v209 : BitVec 32 := Scalar.addi v208 c80_i32
  v209
def k0_mult7 (k0_t1 : Fin k0_t1_loop.trips) : BitVec 32 :=
  let c0_i32_45 : BitVec 32 := 0#32
  let c1_i32_46 : BitVec 32 := 1#32
  let arg15 : BitVec 32 := Scf.iv c0_i32_45 c1_i32_46 k0_t1
  let c128_i32_126 : BitVec 32 := 128#32
  let v236 : BitVec 32 := Scalar.muli arg15 c128_i32_126
  let c96_i32 : BitVec 32 := 96#32
  let v237 : BitVec 32 := Scalar.addi v236 c96_i32
  v237
def k0_mult8 (k0_t1 : Fin k0_t1_loop.trips) : BitVec 32 :=
  let c0_i32_45 : BitVec 32 := 0#32
  let c1_i32_46 : BitVec 32 := 1#32
  let arg15 : BitVec 32 := Scf.iv c0_i32_45 c1_i32_46 k0_t1
  let c128_i32_139 : BitVec 32 := 128#32
  let v264 : BitVec 32 := Scalar.muli arg15 c128_i32_139
  let c112_i32 : BitVec 32 := 112#32
  let v265 : BitVec 32 := Scalar.addi v264 c112_i32
  v265
def k0_cond5 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c17_i32 : BitVec 32 := 17#32
  let v10 : BitVec 1 := Scalar.cmpi .slt v9 c17_i32
  let v11 : BitVec 1 := Scalar.andi v8 v10
  let v12 : BitVec 32 := Scalar.extui v11
  let c0_i32_5 : BitVec 32 := 0#32
  let v13 : BitVec 1 := Scalar.cmpi .ne v12 c0_i32_5
  v13

def k0_cond6 (i : grid0.Coords) : BitVec 1 :=
  let arg0 : BitVec 32 := BitVec.ofNat 32 (i 0).val
  let c1_i32_27 : BitVec 32 := 1#32
  let v43 : BitVec 32 := Scalar.addi arg0 c1_i32_27
  let c17_i32_28 : BitVec 32 := 17#32
  let v44 : BitVec 1 := Scalar.cmpi .slt v43 c17_i32_28
  let v45 : BitVec 32 := Scalar.extui v44
  let c0_i32_29 : BitVec 32 := 0#32
  let v46 : BitVec 1 := Scalar.cmpi .ne v45 c0_i32_29
  v46

def k0_off4 (i : grid0.Coords) : Fin 2 → Nat :=
  let arg0 : BitVec 32 := BitVec.ofNat 32 (i 0).val
  let c1_i32_27 : BitVec 32 := 1#32
  let v43 : BitVec 32 := Scalar.addi arg0 c1_i32_27
  let c1024_i32 : BitVec 32 := 1024#32
  let v50 : BitVec 32 := Scalar.muli v43 c1024_i32
  let c0_i32_32 : BitVec 32 := 0#32
  ![v50.toNat, 0]
def k0_cond7 (i : grid0.Coords) : BitVec 1 :=
  let arg0 : BitVec 32 := BitVec.ofNat 32 (i 0).val
  let c1_i32_27 : BitVec 32 := 1#32
  let v43 : BitVec 32 := Scalar.addi arg0 c1_i32_27
  let c17_i32_30 : BitVec 32 := 17#32
  let v47 : BitVec 1 := Scalar.cmpi .sge v43 c17_i32_30
  let v48 : BitVec 32 := Scalar.extui v47
  let c0_i32_31 : BitVec 32 := 0#32
  let v49 : BitVec 1 := Scalar.cmpi .ne v48 c0_i32_31
  v49

def k0_off5 (i : grid0.Coords) : Fin 2 → Nat :=
  let arg0 : BitVec 32 := BitVec.ofNat 32 (i 0).val
  let c1_i32_27 : BitVec 32 := 1#32
  let v43 : BitVec 32 := Scalar.addi arg0 c1_i32_27
  let c17_i32_32 : BitVec 32 := 17#32
  let v50 : BitVec 32 := Scalar.subi v43 c17_i32_32
  let c1024_i32 : BitVec 32 := 1024#32
  let v51 : BitVec 32 := Scalar.muli v50 c1024_i32
  let c0_i32_33 : BitVec 32 := 0#32
  ![v51.toNat, 0]
def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c9_i32 : BitVec 32 := 9#32
  let v18 : BitVec 32 := Scalar.muli v17 c9_i32
  let c6_i32 : BitVec 32 := 6#32
  let v19 : BitVec 32 := Scalar.addi v18 c6_i32
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c9_i32 : BitVec 32 := 9#32
  let v18 : BitVec 32 := Scalar.muli v17 c9_i32
  let c7_i32 : BitVec 32 := 7#32
  let v19 : BitVec 32 := Scalar.addi v18 c7_i32
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c9_i32 : BitVec 32 := 9#32
  let v18 : BitVec 32 := Scalar.muli v17 c9_i32
  let c8_i32 : BitVec 32 := 8#32
  let v19 : BitVec 32 := Scalar.addi v18 c8_i32
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S17408x2048 : Shape := ⟨2, ![17408, 2048]⟩
abbrev S45x1x2048 : Shape := ⟨3, ![45, 1, 2048]⟩
abbrev S1x2048 : Shape := ⟨2, ![1, 2048]⟩
abbrev S4x2x2048x11264 : Shape := ⟨4, ![4, 2, 2048, 11264]⟩
abbrev S4x2x5632x2048 : Shape := ⟨4, ![4, 2, 5632, 2048]⟩
abbrev S1x1x2048x11264 : Shape := ⟨4, ![1, 1, 2048, 11264]⟩
abbrev S2048x11264 : Shape := ⟨2, ![2048, 11264]⟩
abbrev S2048x11x2x512 : Shape := ⟨4, ![2048, 11, 2, 512]⟩
abbrev S2048x11x1x512 : Shape := ⟨4, ![2048, 11, 1, 512]⟩
abbrev S2048x11x512 : Shape := ⟨3, ![2048, 11, 512]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S5x9x2048 : Shape := ⟨3, ![5, 9, 2048]⟩
abbrev S4x9x2048 : Shape := ⟨3, ![4, 9, 2048]⟩
abbrev S4x1x9x2048 : Shape := ⟨4, ![4, 1, 9, 2048]⟩
abbrev S4x4096x9x2048 : Shape := ⟨4, ![4, 4096, 9, 2048]⟩
abbrev S16384x9x2048 : Shape := ⟨3, ![16384, 9, 2048]⟩
abbrev S1x9x2048 : Shape := ⟨3, ![1, 9, 2048]⟩
abbrev S1024x9x2048 : Shape := ⟨3, ![1024, 9, 2048]⟩
abbrev S17408x9x2048 : Shape := ⟨3, ![17408, 9, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S17408x1x2048 : Shape := ⟨3, ![17408, 1, 2048]⟩
abbrev S17408x5632 : Shape := ⟨2, ![17408, 5632]⟩

abbrev nBuf : Space → Nat
  | .hbm => 72
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S45x1x2048, .f32⟩
  | .hbm, ⟨2, _⟩ => ⟨S1x2048, .f32⟩
  | .hbm, ⟨3, _⟩ => ⟨S4x2x2048x11264, .bf16⟩
  | .hbm, ⟨4, _⟩ => ⟨S4x2x5632x2048, .bf16⟩
  | .hbm, ⟨5, _⟩ => ⟨S1x1x2048x11264, .bf16⟩
  | .hbm, ⟨6, _⟩ => ⟨S2048x11264, .bf16⟩
  | .hbm, ⟨7, _⟩ => ⟨S2048x11264, .f32⟩
  | .hbm, ⟨8, _⟩ => ⟨S2048x11x2x512, .f32⟩
  | .hbm, ⟨9, _⟩ => ⟨S2048x11x1x512, .f32⟩
  | .hbm, ⟨10, _⟩ => ⟨S2048x11x512, .f32⟩
  | .hbm, ⟨11, _⟩ => ⟨S2048x5632, .f32⟩
  | .hbm, ⟨12, _⟩ => ⟨S2048x11x1x512, .f32⟩
  | .hbm, ⟨13, _⟩ => ⟨S2048x11x512, .f32⟩
  | .hbm, ⟨14, _⟩ => ⟨S2048x5632, .f32⟩
  | .hbm, ⟨15, _⟩ => ⟨S1x1x5632x2048, .bf16⟩
  | .hbm, ⟨16, _⟩ => ⟨S5632x2048, .bf16⟩
  | .hbm, ⟨17, _⟩ => ⟨S5632x2048, .f32⟩
  | .hbm, ⟨18, _⟩ => ⟨S5x9x2048, .f32⟩
  | .hbm, ⟨19, _⟩ => ⟨S4x9x2048, .f32⟩
  | .hbm, ⟨20, _⟩ => ⟨S4x1x9x2048, .f32⟩
  | .hbm, ⟨21, _⟩ => ⟨S4x4096x9x2048, .f32⟩
  | .hbm, ⟨22, _⟩ => ⟨S16384x9x2048, .f32⟩
  | .hbm, ⟨23, _⟩ => ⟨S1x9x2048, .f32⟩
  | .hbm, ⟨24, _⟩ => ⟨S1024x9x2048, .f32⟩
  | .hbm, ⟨25, _⟩ => ⟨S17408x9x2048, .f32⟩
  | .hbm, ⟨26, _⟩ => ⟨S2048, .f32⟩
  | .hbm, ⟨27, _⟩ => ⟨S17408x2048, .f32⟩
  | .hbm, ⟨28, _⟩ => ⟨S_, .f32⟩
  | .hbm, ⟨29, _⟩ => ⟨S17408, .f32⟩
  | .hbm, ⟨30, _⟩ => ⟨S17408x1, .f32⟩
  | .hbm, ⟨31, _⟩ => ⟨S_, .f32⟩
  | .hbm, ⟨32, _⟩ => ⟨S17408x1, .f32⟩
  | .hbm, ⟨33, _⟩ => ⟨S17408x1, .f32⟩
  | .hbm, ⟨34, _⟩ => ⟨S_, .f32⟩
  | .hbm, ⟨35, _⟩ => ⟨S17408x1, .f32⟩
  | .hbm, ⟨36, _⟩ => ⟨S17408x1, .f32⟩
  | .hbm, ⟨37, _⟩ => ⟨S17408x1, .f32⟩
  | .hbm, ⟨38, _⟩ => ⟨S17408x2048, .f32⟩
  | .hbm, ⟨39, _⟩ => ⟨S17408x2048, .f32⟩
  | .hbm, ⟨40, _⟩ => ⟨S1x2048, .f32⟩
  | .hbm, ⟨41, _⟩ => ⟨S17408x2048, .f32⟩
  | .hbm, ⟨42, _⟩ => ⟨S17408x2048, .f32⟩
  | .hbm, ⟨43, _⟩ => ⟨S17408x1x2048, .f32⟩
  | .hbm, ⟨44, _⟩ => ⟨S17408x2048, .f32⟩
  | .hbm, ⟨45, _⟩ => ⟨S_, .f32⟩
  | .hbm, ⟨46, _⟩ => ⟨S17408x2048, .f32⟩
  | .hbm, ⟨47, _⟩ => ⟨S17408x2048, .f32⟩
  | .hbm, ⟨48, _⟩ => ⟨S17408x2048, .f32⟩
  | .hbm, ⟨49, _⟩ => ⟨S17408x1x2048, .f32⟩
  | .hbm, ⟨50, _⟩ => ⟨S17408x2048, .f32⟩
  | .hbm, ⟨51, _⟩ => ⟨S17408x2048, .f32⟩
  | .hbm, ⟨52, _⟩ => ⟨S17408x5632, .f32⟩
  | .hbm, ⟨53, _⟩ => ⟨S17408x5632, .f32⟩
  | .hbm, ⟨54, _⟩ => ⟨S17408x5632, .f32⟩
  | .hbm, ⟨55, _⟩ => ⟨S_, .f32⟩
  | .hbm, ⟨56, _⟩ => ⟨S17408x5632, .f32⟩
  | .hbm, ⟨57, _⟩ => ⟨S17408x5632, .f32⟩
  | .hbm, ⟨58, _⟩ => ⟨S_, .f32⟩
  | .hbm, ⟨59, _⟩ => ⟨S17408x5632, .f32⟩
  | .hbm, ⟨60, _⟩ => ⟨S17408x5632, .f32⟩
  | .hbm, ⟨61, _⟩ => ⟨S17408x5632, .f32⟩
  | .hbm, ⟨62, _⟩ => ⟨S17408x5632, .f32⟩
  | .hbm, ⟨63, _⟩ => ⟨S17408x5632, .f32⟩
  | .hbm, ⟨64, _⟩ => ⟨S17408x2048, .f32⟩
  | .hbm, ⟨65, _⟩ => ⟨S17408x1x2048, .f32⟩
  | .hbm, ⟨66, _⟩ => ⟨S17408x2048, .f32⟩
  | .hbm, ⟨67, _⟩ => ⟨S_, .f32⟩
  | .hbm, ⟨68, _⟩ => ⟨S17408x2048, .f32⟩
  | .hbm, ⟨69, _⟩ => ⟨S17408x2048, .f32⟩
  | .hbm, ⟨70, _⟩ => ⟨S17408x2048, .f32⟩
  | .hbm, ⟨71, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_3 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.Head.lean ====
/- The scan kernel's body as mathematics-sized pieces: the gate, the within-chunk cumulative sums, and ONE head's
   output and state, stated once for both directions and every head. `Blocks` shows that the printed body is these. -/
module

public import proofs.«01_k».proof.Proof.Gen.KernelIdeal.Value

@[expose] public section

noncomputable section

namespace Cert.Gla

open Cert.KernelIdeal Cert.KernelIdeal.Gen Idealize.ShloMosaic Idealize.ShloMosaic.TcCoe Idealize.SL.Sem

variable {F : FTy → Type} [FloatOps F]

/-- One row of 256 key channels. -/
abbrev Row (F : FTy → Type) [FloatOps F] := FVec F S1x256 .f32

/-- One row per chunk of the 256-row block, in row order. -/
structure Four (F : FTy → Type) [FloatOps F] where
  /-- chunk 0's row -/
  a : Row F
  /-- chunk 1's row -/
  b : Row F
  /-- chunk 2's row -/
  c : Row F
  /-- chunk 3's row -/
  d : Row F

/-- The row of chunk `j`. -/
def Four.get (x : Four F) : Fin 4 → Row F
  | 0 => x.a
  | 1 => x.b
  | 2 => x.c
  | 3 => x.d

/-- The elementwise exponentials. -/
def Four.exp (x : Four F) : Four F :=
  ⟨Idealize.ShloMosaic.exp x.a, Idealize.ShloMosaic.exp x.b, Idealize.ShloMosaic.exp x.c, Idealize.ShloMosaic.exp x.d⟩

/-- A row repeated over its chunk's 64 rows. -/
def rep (x : Row F) : FVec F S64x256 .f32 :=
  broadcastTo S64x256 (shapeCast S1x256 x shapeCasts_S1x256_S1x256) broadcasts_S1x256_S64x256

/-- Each chunk's row repeated over the chunk: a block of 256 rows. -/
def rows (x : Four F) : FVec F S256x256 .f32 :=
  concatenate S256x256 0 [⟨S64x256, rep x.a⟩, ⟨S64x256, rep x.b⟩, ⟨S64x256, rep x.c⟩, ⟨S64x256, rep x.d⟩]
    concatenates_S64x256_S64x256_S64x256_S64x256_S256x256_d0

/-- The zero row. -/
def zrow : Row F := broadcast S1x256 (Scalar.ofBits .f32 0x00000000#32)

/-- The last rows of the four chunks in the forward direction. -/
def lastF (B : FVec F S256x256 .f32) : Four F :=
  ⟨extractStridedSlice S1x256 ![63, 0] B slices_S256x256_o63_0_S1x256, extractStridedSlice S1x256 ![127, 0] B slices_S256x256_o127_0_S1x256,
   extractStridedSlice S1x256 ![191, 0] B slices_S256x256_o191_0_S1x256, extractStridedSlice S1x256 ![255, 0] B slices_S256x256_o255_0_S1x256⟩

/-- The middle rows of the four chunks in the forward direction. -/
def refF (B : FVec F S256x256 .f32) : Four F :=
  ⟨extractStridedSlice S1x256 ![31, 0] B slices_S256x256_o31_0_S1x256, extractStridedSlice S1x256 ![95, 0] B slices_S256x256_o95_0_S1x256,
   extractStridedSlice S1x256 ![159, 0] B slices_S256x256_o159_0_S1x256, extractStridedSlice S1x256 ![223, 0] B slices_S256x256_o223_0_S1x256⟩

/-- The last rows of the four chunks in the backward direction: the first ones. -/
def lastB (B : FVec F S256x256 .f32) : Four F :=
  ⟨extractStridedSlice S1x256 ![0, 0] B slices_S256x256_o0_0_S1x256, extractStridedSlice S1x256 ![64, 0] B slices_S256x256_o64_0_S1x256,
   extractStridedSlice S1x256 ![128, 0] B slices_S256x256_o128_0_S1x256, extractStridedSlice S1x256 ![192, 0] B slices_S256x256_o192_0_S1x256⟩

/-- The middle rows of the four chunks in the backward direction. -/
def refB (B : FVec F S256x256 .f32) : Four F :=
  ⟨extractStridedSlice S1x256 ![32, 0] B slices_S256x256_o32_0_S1x256, extractStridedSlice S1x256 ![96, 0] B slices_S256x256_o96_0_S1x256,
   extractStridedSlice S1x256 ![160, 0] B slices_S256x256_o160_0_S1x256, extractStridedSlice S1x256 ![224, 0] B slices_S256x256_o224_0_S1x256⟩

/-- Everything a head's computation takes from the direction: per chunk the total decay, a reference row, the decay before and
    after the chunk in the scan's order, and the decays of the one and of the two chunks before it. -/
structure Decays (F : FTy → Type) [FloatOps F] where
  /-- the chunk's whole decay -/
  last : Four F
  /-- the row the same-chunk products are centred on -/
  mid : Four F
  /-- the decay of the chunks scanned before -/
  pfx : Four F
  /-- the decay of the chunks scanned after -/
  sfx : Four F
  /-- the decay of the chunk scanned just before -/
  one : Four F
  /-- the decay of the two chunks scanned just before -/
  two : Four F
  /-- the decay of the whole block -/
  total : Row F

/-- The forward direction's decays. -/
def decF (B : FVec F S256x256 .f32) : Decays F :=
  let l := lastF B
  { last := l, mid := refF B
    pfx := ⟨zrow, addf zrow l.a, addf (addf zrow l.a) l.b, addf (addf (addf zrow l.a) l.b) l.c⟩
    sfx := ⟨addf (addf (addf zrow l.d) l.c) l.b, addf (addf zrow l.d) l.c, addf zrow l.d, zrow⟩
    one := ⟨zrow, zrow, l.b, l.c⟩
    two := ⟨zrow, zrow, zrow, addf l.c l.b⟩
    total := addf (addf (addf (addf zrow l.a) l.b) l.c) l.d }

/-- The backward direction's decays: the chunks are scanned from the last. -/
def decB (B : FVec F S256x256 .f32) : Decays F :=
  let l := lastB B
  { last := l, mid := refB B
    pfx := ⟨addf (addf (addf zrow l.d) l.c) l.b, addf (addf zrow l.d) l.c, addf zrow l.d, zrow⟩
    sfx := ⟨zrow, addf zrow l.a, addf (addf zrow l.a) l.b, addf (addf (addf zrow l.a) l.b) l.c⟩
    one := ⟨l.b, l.c, zrow, zrow⟩
    two := ⟨addf l.b l.c, zrow, zrow, zrow⟩
    total := addf (addf (addf (addf zrow l.d) l.c) l.b) l.a }

/-- The scaled queries. -/
def qs (q : FVec F S256x256 .bf16) : FVec F S256x256 .f32 :=
  mulf (extf .f32 q bitsLt_bf16_f32) (broadcast S256x256 (Scalar.ofBits .f32 0x3D800000#32))

/-- The cumulative decay, less its chunk's reference row. -/
def dIn (B : FVec F S256x256 .f32) (D : Decays F) : FVec F S256x256 .f32 := subf B (rows D.mid)

/-- The queries of the same-chunk products. -/
def qIn (q : FVec F S256x256 .bf16) (B : FVec F S256x256 .f32) (D : Decays F) : FVec F S256x256 .bf16 :=
  truncf .bf16 (mulf (qs q) (exp (dIn B D))) bitsLt_bf16_f32

/-- The keys of the same-chunk products. -/
def kIn (k : FVec F S256x256 .bf16) (B : FVec F S256x256 .f32) (D : Decays F) : FVec F S256x256 .bf16 :=
  truncf .bf16 (mulf (extf .f32 k bitsLt_bf16_f32) (exp (subf (broadcast S256x256 (Scalar.ofBits .f32 0x00000000#32)) (dIn B D)))) bitsLt_bf16_f32

/-- The queries decayed from their chunk's start. -/
def qIt (q : FVec F S256x256 .bf16) (B : FVec F S256x256 .f32) : FVec F S256x256 .f32 := mulf (qs q) (exp B)

/-- The keys decayed to their chunk's end. -/
def kSt (k : FVec F S256x256 .bf16) (B : FVec F S256x256 .f32) (D : Decays F) : FVec F S256x256 .f32 :=
  mulf (extf .f32 k bitsLt_bf16_f32) (exp (subf (rows D.last) B))

/-- The queries decayed from the block's start. -/
def qHat (q : FVec F S256x256 .bf16) (B : FVec F S256x256 .f32) (D : Decays F) : FVec F S256x256 .bf16 :=
  truncf .bf16 (mulf (qIt q B) (rows D.pfx.exp)) bitsLt_bf16_f32

/-- The keys decayed to the block's end. -/
def kHat (k : FVec F S256x256 .bf16) (B : FVec F S256x256 .f32) (D : Decays F) : FVec F S256x256 .bf16 :=
  truncf .bf16 (mulf (kSt k B D) (rows D.sfx.exp)) bitsLt_bf16_f32

/-- The queries of the products with the three chunks before, one stack each. -/
def qCat (q : FVec F S256x256 .bf16) (B : FVec F S256x256 .f32) (D : Decays F) : FVec F S768x256 .bf16 :=
  concatenate S768x256 0 [⟨S256x256, truncf .bf16 (qIt q B) bitsLt_bf16_f32⟩,
    ⟨S256x256, truncf .bf16 (mulf (qIt q B) (rows D.one.exp)) bitsLt_bf16_f32⟩,
    ⟨S256x256, truncf .bf16 (mulf (qIt q B) (rows D.two.exp)) bitsLt_bf16_f32⟩] concatenates_S256x256_S256x256_S256x256_S768x256_d0

/-- The products with the chunks before. -/
def aPrev (q k : FVec F S256x256 .bf16) (B : FVec F S256x256 .f32) (D : Decays F) : FVec F S768x256 .f32 :=
  matmul dot_S768x256_S256x256_S768x256_1_1_0_0_n_n none (qCat q B D) (truncf .bf16 (kSt k B D) bitsLt_bf16_f32)
    (constant S768x256 .f32 0x00000000#32)

/-- The products inside a chunk. -/
def aSame (q k : FVec F S256x256 .bf16) (B : FVec F S256x256 .f32) (D : Decays F) : FVec F S256x256 .f32 :=
  matmul dot_S256x256_S256x256_S256x256_1_1_0_0_n_n none (qIn q B D) (kIn k B D) (constant S256x256 .f32 0x00000000#32)

/-- The attention weights of a block. -/
def att (dist : IVec S256x256 32) (caus : IVec S256x256 1) (q k : FVec F S256x256 .bf16) (B : FVec F S256x256 .f32) (D : Decays F) :
    FVec F S256x256 .f32 :=
  select (cmpi .eq dist (broadcast S256x256 3#32)) (extractStridedSlice S256x256 ![512, 0] (aPrev q k B D) slices_S768x256_o512_0_S256x256)
    (select (cmpi .eq dist (broadcast S256x256 2#32)) (extractStridedSlice S256x256 ![256, 0] (aPrev q k B D) slices_S768x256_o256_0_S256x256)
      (select (cmpi .eq dist (broadcast S256x256 1#32)) (extractStridedSlice S256x256 ![0, 0] (aPrev q k B D) slices_S768x256_o0_0_S256x256)
        (select (andi (cmpi .eq dist (broadcast S256x256 0#32)) caus) (aSame q k B D)
          (broadcast S256x256 (Scalar.ofBits .f32 0x00000000#32)))))

/-- What a block writes for one head. -/
def headO (dist : IVec S256x256 32) (caus : IVec S256x256 1) (q k : FVec F S256x256 .bf16) (v : FVec F S256x512 .bf16)
    (B : FVec F S256x256 .f32) (D : Decays F) (st : FVec F S1x512x256 .f32) : FVec F S256x512 .bf16 :=
  truncf .bf16 (addf
    (matmul dot_S256x256_S256x512_S256x512_1_0_0_1_n_n none (truncf .bf16 (att dist caus q k B D) bitsLt_bf16_f32) v (constant S256x512 .f32 0x00000000#32))
    (matmul dot_S256x256_S512x256_S256x512_1_1_0_0_n_n none (qHat q B D)
      (truncf .bf16 (shapeCast S512x256 st shapeCasts_S1x512x256_S512x256) bitsLt_bf16_f32) (constant S256x512 .f32 0x00000000#32))) bitsLt_bf16_f32

/-- The state a block leaves for one head. -/
def headS (k : FVec F S256x256 .bf16) (v : FVec F S256x512 .bf16) (B : FVec F S256x256 .f32) (D : Decays F) (st : FVec F S1x512x256 .f32) :
    FVec F S1x512x256 .f32 :=
  shapeCast S1x512x256 (addf
    (mulf (broadcastTo S512x256 (exp D.total) broadcasts_S1x256_S512x256) (shapeCast S512x256 st shapeCasts_S1x512x256_S512x256))
    (matmul dot_S256x512_S256x256_S512x256_0_0_1_1_n_n none v (kHat k B D) (constant S512x256 .f32 0x00000000#32)))
    shapeCasts_S512x256_S1x512x256

/-- The gate's exponent `log_sigmoid(z · w + b) / 16` of a block, for all heads. -/
def gateX (z : FVec F S256x128 .f32) (w : FVec F S1x384x1024 .bf16) (b : FVec F S1x1x1024 .f32) : FVec F S256x1024 .f32 :=
  addf (matmul dot_S256x384_S384x1024_S256x1024_1_0_0_1_n_n none
    (concatenate S256x384 1 [⟨S256x128, truncf .bf16 z bitsLt_bf16_f32⟩, ⟨S256x128, truncf .bf16 z bitsLt_bf16_f32⟩,
      ⟨S256x128, truncf .bf16 (subf z (extf .f32 (truncf .bf16 z bitsLt_bf16_f32) bitsLt_bf16_f32)) bitsLt_bf16_f32⟩]
      concatenates_S256x128_S256x128_S256x128_S256x384_d1)
    (shapeCast S384x1024 w shapeCasts_S1x384x1024_S384x1024) (constant S256x1024 .f32 0x00000000#32))
    (broadcastTo S256x1024 (shapeCast S1x1024 b shapeCasts_S1x1x1024_S1x1024) broadcasts_S1x1024_S256x1024)

/-- `log_sigmoid(x) / 16`, as the body computes it. -/
def gateL (x : FVec F S256x1024 .f32) : FVec F S256x1024 .f32 :=
  mulf (subf (minimumf x (broadcast S256x1024 (Scalar.ofBits .f32 0x00000000#32)))
    (log (addf (broadcast S256x1024 (Scalar.ofBits .f32 0x3F800000#32))
      (exp (subf (broadcast S256x1024 (Scalar.ofBits .f32 0x00000000#32)) (absf x))))))
    (broadcast S256x1024 (Scalar.ofBits .f32 0x3D800000#32))

/-- A block's gate. -/
def gate (z : FVec F S256x128 .f32) (w : FVec F S1x384x1024 .bf16) (b : FVec F S1x1x1024 .f32) : FVec F S256x1024 .f32 := gateL (gateX z w b)

/-- Row indices. -/
def rowI : IVec S256x256 32 := iota .tc S256x256 32 [0] iota_S256x256_d0_w32
/-- Column indices. -/
def colI : IVec S256x256 32 := iota .tc S256x256 32 [1] iota_S256x256_d1_w32
/-- The row's chunk. -/
def rowC : IVec S256x256 32 := shrsi rowI (broadcast S256x256 6#32)
/-- The column's chunk. -/
def colC : IVec S256x256 32 := shrsi colI (broadcast S256x256 6#32)

/-- Forward: the column is not after the row. -/
def causF : IVec S256x256 1 := cmpi .sle colI rowI
/-- Backward: the column is not before the row. -/
def causB : IVec S256x256 1 := cmpi .sge colI rowI
/-- Forward: how many chunks the column's lies before the row's. -/
def distF : IVec S256x256 32 := subi rowC colC
/-- Backward: how many chunks the column's lies after the row's. -/
def distB : IVec S256x256 32 := subi colC rowC

/-- The gate's sums along a chunk, in the direction `caus`. -/
def cums (caus : IVec S256x256 1) (g : FVec F S256x1024 .f32) : FVec F S256x1024 .f32 :=
  let g1 : FVec F S256x1024 .bf16 := truncf .bf16 g bitsLt_bf16_f32
  let r1 : FVec F S256x1024 .f32 := subf g (extf .f32 g1 bitsLt_bf16_f32)
  let g2 : FVec F S256x1024 .bf16 := truncf .bf16 r1 bitsLt_bf16_f32
  let g3 : FVec F S256x1024 .bf16 := truncf .bf16 (subf r1 (extf .f32 g2 bitsLt_bf16_f32)) bitsLt_bf16_f32
  let b3 : FVec F S256x3072 .f32 := matmul dot_S256x256_S256x3072_S256x3072_1_0_0_1_n_n none
    (truncf .bf16 (select (andi (cmpi .eq rowC colC) caus) (broadcast S256x256 (Scalar.ofBits .f32 0x3F800000#32))
      (broadcast S256x256 (Scalar.ofBits .f32 0x00000000#32))) bitsLt_bf16_f32)
    (concatenate S256x3072 1 [⟨S256x1024, g1⟩, ⟨S256x1024, g2⟩, ⟨S256x1024, g3⟩] concatenates_S256x1024_S256x1024_S256x1024_S256x3072_d1)
    (constant S256x3072 .f32 0x00000000#32)
  addf (addf (extractStridedSlice S256x1024 ![0, 0] b3 slices_S256x3072_o0_0_S256x1024)
    (extractStridedSlice S256x1024 ![0, 1024] b3 slices_S256x3072_o0_1024_S256x1024))
    (extractStridedSlice S256x1024 ![0, 2048] b3 slices_S256x3072_o0_2048_S256x1024)

/-- Head `h`'s 256 channels of the sums: heads 0 to 3. -/
def cut (h : Fin 4) (B : FVec F S256x1024 .f32) : FVec F S256x256 .f32 :=
  match h with
  | 0 => extractStridedSlice S256x256 ![0, 0] B slices_S256x1024_o0_0_S256x256
  | 1 => extractStridedSlice S256x256 ![0, 256] B slices_S256x1024_o0_256_S256x256
  | 2 => extractStridedSlice S256x256 ![0, 512] B slices_S256x1024_o0_512_S256x256
  | 3 => extractStridedSlice S256x256 ![0, 768] B slices_S256x1024_o0_768_S256x256

/-- Head `h`'s columns of the queries or keys of a block. -/
def cutK (h : Fin 4) (x : Vec F S256x1024 .bf16) : FVec F S256x256 .bf16 :=
  match h with
  | 0 => View.ld x (Rect.unit (s := S256x1024) ![0, 0] S256x256.size inb_S256x1024_S256x256_0_0)
  | 1 => View.ld x (Rect.unit (s := S256x1024) ![0, 256] S256x256.size inb_S256x1024_S256x256_0_256)
  | 2 => View.ld x (Rect.unit (s := S256x1024) ![0, 512] S256x256.size inb_S256x1024_S256x256_0_512)
  | 3 => View.ld x (Rect.unit (s := S256x1024) ![0, 768] S256x256.size inb_S256x1024_S256x256_0_768)

/-- Head `h`'s columns of the values of a block. -/
def cutV (h : Fin 4) (x : Vec F S256x2048 .bf16) : FVec F S256x512 .bf16 :=
  match h with
  | 0 => View.ld x (Rect.unit (s := S256x2048) ![0, 0] S256x512.size inb_S256x2048_S256x512_0_0)
  | 1 => View.ld x (Rect.unit (s := S256x2048) ![0, 512] S256x512.size inb_S256x2048_S256x512_0_512)
  | 2 => View.ld x (Rect.unit (s := S256x2048) ![0, 1024] S256x512.size inb_S256x2048_S256x512_0_1024)
  | 3 => View.ld x (Rect.unit (s := S256x2048) ![0, 1536] S256x512.size inb_S256x2048_S256x512_0_1536)

/-- Head `h`'s state. -/
def cutS (h : Fin 4) (x : Vec F S4x512x256 .f32) : FVec F S1x512x256 .f32 :=
  match h with
  | 0 => View.ld x (Rect.unit (s := S4x512x256) ![0, 0, 0] S1x512x256.size inb_S4x512x256_S1x512x256_0_0_0)
  | 1 => View.ld x (Rect.unit (s := S4x512x256) ![1, 0, 0] S1x512x256.size inb_S4x512x256_S1x512x256_1_0_0)
  | 2 => View.ld x (Rect.unit (s := S4x512x256) ![2, 0, 0] S1x512x256.size inb_S4x512x256_S1x512x256_2_0_0)
  | 3 => View.ld x (Rect.unit (s := S4x512x256) ![3, 0, 0] S1x512x256.size inb_S4x512x256_S1x512x256_3_0_0)

/-- The four heads' outputs as the pieces of a block's store. -/
def piecesO (o : Fin 4 → FVec F S256x512 .bf16) : List (View.Piece (Elt F) S256x2048 .bf16) :=
  [⟨Rect.unit (s := S256x2048) ![0, 1536] S256x512.size inb_S256x2048_S256x512_0_1536, o 3⟩,
   ⟨Rect.unit (s := S256x2048) ![0, 1024] S256x512.size inb_S256x2048_S256x512_0_1024, o 2⟩,
   ⟨Rect.unit (s := S256x2048) ![0, 512] S256x512.size inb_S256x2048_S256x512_0_512, o 1⟩,
   ⟨Rect.unit (s := S256x2048) ![0, 0] S256x512.size inb_S256x2048_S256x512_0_0, o 0⟩]

/-- The four heads' states as the pieces of a block's store, over what was stored before. -/
def piecesS (s : Fin 4 → FVec F S1x512x256 .f32) (L : List (View.Piece (Elt F) S4x512x256 .f32)) : List (View.Piece (Elt F) S4x512x256 .f32) :=
  ⟨Rect.unit (s := S4x512x256) ![3, 0, 0] S1x512x256.size inb_S4x512x256_S1x512x256_3_0_0, s 3⟩ ::
  ⟨Rect.unit (s := S4x512x256) ![2, 0, 0] S1x512x256.size inb_S4x512x256_S1x512x256_2_0_0, s 2⟩ ::
  ⟨Rect.unit (s := S4x512x256) ![1, 0, 0] S1x512x256.size inb_S4x512x256_S1x512x256_1_0_0, s 1⟩ ::
  ⟨Rect.unit (s := S4x512x256) ![0, 0, 0] S1x512x256.size inb_S4x512x256_S1x512x256_0_0_0, s 0⟩ :: L

/-- The forward body's output block, from the block's loads and each head's state. -/
def outF (q k : Vec F S256x1024 .bf16) (v : Vec F S256x2048 .bf16) (g : FVec F S256x1024 .f32) (st : Fin 4 → FVec F S1x512x256 .f32) (h : Fin 4) :
    FVec F S256x512 .bf16 :=
  headO distF causF (cutK h q) (cutK h k) (cutV h v) (cut h (cums causF g)) (decF (cut h (cums causF g))) (st h)

/-- The backward body's output block. -/
def outB (q k : Vec F S256x1024 .bf16) (v : Vec F S256x2048 .bf16) (g : FVec F S256x1024 .f32) (st : Fin 4 → FVec F S1x512x256 .f32) (h : Fin 4) :
    FVec F S256x512 .bf16 :=
  headO distB causB (cutK h q) (cutK h k) (cutV h v) (cut h (cums causB g)) (decB (cut h (cums causB g))) (st h)

/-- The forward body's new state of head `h`. -/
def stF (k : Vec F S256x1024 .bf16) (v : Vec F S256x2048 .bf16) (g : FVec F S256x1024 .f32) (st : Fin 4 → FVec F S1x512x256 .f32) (h : Fin 4) :
    FVec F S1x512x256 .f32 :=
  headS (cutK h k) (cutV h v) (cut h (cums causF g)) (decF (cut h (cums causF g))) (st h)

/-- The backward body's new state of head `h`. -/
def stB (k : Vec F S256x1024 .bf16) (v : Vec F S256x2048 .bf16) (g : FVec F S256x1024 .f32) (st : Fin 4 → FVec F S1x512x256 .f32) (h : Fin 4) :
    FVec F S1x512x256 .f32 :=
  headS (cutK h k) (cutV h v) (cut h (cums causB g)) (decB (cut h (cums causB g))) (st h)

end Cert.Gla

end
-- ==== Proof.Blocks.lean ====
/- What one grid point writes: the printed body is the pieces of `Head`, for the first point of a sequence (case A) and the
   later ones (case B), in the forward (12) and the backward (13) direction. -/
module

public import proofs.«01_k».proof.Proof.Head
public import Idealize.ShloMosaic.Lib.Pipeline.ReadBack

@[expose] public section

noncomputable section

namespace Cert.Gla

open Cert.KernelIdeal Cert.KernelIdeal.Gen Idealize.ShloMosaic Idealize.ShloMosaic.TcCoe Idealize.SL.Sem

variable {F : FTy → Type} [FloatOps F]
variable (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x128 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x2048 .bf16) (harg8 : arg8.IsWhole) (arg9 : Memref sig .tc .vmem S256x128 .f32) (harg9 : arg9.IsWhole) (arg10 : Memref sig .tc .vmem S1x384x1024 .bf16) (harg10 : arg10.IsWhole) (arg11 : Memref sig .tc .vmem S1x384x1024 .bf16) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S4x512x256 .f32) (harg16 : arg16.IsWhole) (arg17 : Memref sig .tc .vmem S4x512x256 .f32) (harg17 : arg17.IsWhole)
  (x0 : Vec F S256x1024 .bf16) (x1 : Vec F S256x1024 .bf16) (x2 : Vec F S256x2048 .bf16) (x3 : Vec F S256x128 .f32) (x4 : Vec F S256x1024 .bf16) (x5 : Vec F S256x1024 .bf16) (x6 : Vec F S256x2048 .bf16) (x7 : Vec F S256x128 .f32) (x8 : Vec F S1x384x1024 .bf16) (x9 : Vec F S1x384x1024 .bf16) (x10 : Vec F S1x1x1024 .f32) (x11 : Vec F S1x1x1024 .f32) (xs0 : Vec F S4x512x256 .f32) (xs1 : Vec F S4x512x256 .f32)

/-- The forward sums of the printed body. -/
theorem cumsF_eq (z : Vec F S256x128 .f32) (w : Vec F S1x384x1024 .bf16) (b : Vec F S1x1x1024 .f32) :
    k0_pay14 (k0_pay5 z w b) (k0_pay7 z w b) (k0_pay8 z w b) (iota .tc S256x256 32 [0] iota_S256x256_d0_w32)
      (iota .tc S256x256 32 [1] iota_S256x256_d1_w32) k0_pay9 k0_pay10 = cums causF (gate z w b) := rfl
/-- The forward chunk distance of the printed body. -/
theorem distF_eq : k0_pay13 (iota .tc S256x256 32 [1] iota_S256x256_d1_w32) k0_pay9 k0_pay10 = distF := rfl
/-- The forward mask of the printed body. -/
theorem causF_eq : k0_pay12 (iota .tc S256x256 32 [0] iota_S256x256_d0_w32) (iota .tc S256x256 32 [1] iota_S256x256_d1_w32) = causF := rfl
/-- The backward sums of the printed body. -/
theorem cumsB_eq (z : Vec F S256x128 .f32) (w : Vec F S1x384x1024 .bf16) (b : Vec F S1x1x1024 .f32) :
    k0_pay160 (k0_pay154 z w) (k0_pay155 b) = cums causB (gate z w b) := rfl
/-- The backward chunk distance of the printed body. -/
theorem distB_eq : k0_pay159 = distB := rfl
/-- The backward mask of the printed body. -/
theorem causB_eq : k0_pay158 = causB := rfl

/-- The offset literal of a whole matrix is zero. -/
theorem zero2 : (![0, 0] : Fin 2 → ℕ) = fun _ => 0 := by decide
/-- The offset literal of a whole stack of matrices is zero. -/
theorem zero3 : (![0, 0, 0] : Fin 3 → ℕ) = fun _ => 0 := by decide

/-- An output block is known by its four stores. -/
theorem canon_O {p3 p2 p1 p0 : FVec F S256x512 .bf16} {o : Fin 4 → FVec F S256x512 .bf16} (h3 : p3 = o 3) (h2 : p2 = o 2) (h1 : p1 = o 1) (h0 : p0 = o 0) :
    View.canon (Val := Elt F) (s := S256x2048) (e := .bf16)
      [⟨Rect.unit (s := S256x2048) ![0, 1536] S256x512.size inb_S256x2048_S256x512_0_1536, p3⟩,
       ⟨Rect.unit (s := S256x2048) ![0, 1024] S256x512.size inb_S256x2048_S256x512_0_1024, p2⟩,
       ⟨Rect.unit (s := S256x2048) ![0, 512] S256x512.size inb_S256x2048_S256x512_0_512, p1⟩,
       ⟨Rect.unit (s := S256x2048) ![0, 0] S256x512.size inb_S256x2048_S256x512_0_0, p0⟩] = View.canon (piecesO o) := by
  subst h3 h2 h1 h0; rfl

/-- A state block is known by its four stores and what lay under them. -/
theorem canon_S {p3 p2 p1 p0 : FVec F S1x512x256 .f32} {o : Fin 4 → FVec F S1x512x256 .f32} {L : List (View.Piece (Elt F) S4x512x256 .f32)}
    (h3 : p3 = o 3) (h2 : p2 = o 2) (h1 : p1 = o 1) (h0 : p0 = o 0) :
    View.canon (Val := Elt F) (s := S4x512x256) (e := .f32)
      (⟨Rect.unit (s := S4x512x256) ![3, 0, 0] S1x512x256.size inb_S4x512x256_S1x512x256_3_0_0, p3⟩ ::
       ⟨Rect.unit (s := S4x512x256) ![2, 0, 0] S1x512x256.size inb_S4x512x256_S1x512x256_2_0_0, p2⟩ ::
       ⟨Rect.unit (s := S4x512x256) ![1, 0, 0] S1x512x256.size inb_S4x512x256_S1x512x256_1_0_0, p1⟩ ::
       ⟨Rect.unit (s := S4x512x256) ![0, 0, 0] S1x512x256.size inb_S4x512x256_S1x512x256_0_0_0, p0⟩ :: L) = View.canon (piecesS o L) := by
  subst h3 h2 h1 h0; rfl

/-- A store of the whole state. -/
def fill (Z : FVec F S4x512x256 .f32) : View.Piece (Elt F) S4x512x256 .f32 :=
  ⟨Rect.unit (s := S4x512x256) ![0, 0, 0] S4x512x256.size inb_S4x512x256_S4x512x256_0_0_0, Z⟩

/-- Read after a store of the whole state, it is what was stored. -/
theorem readFill {κ : Kind} {sp : Space} (v : View sig κ sp S4x512x256 .f32) (Z : FVec F S4x512x256 .f32) (r : Rect S4x512x256) :
    v.readCov (Val := Elt F) [⟨Rect.unit (s := S4x512x256) ![0, 0, 0] S4x512x256.size inb_S4x512x256_S4x512x256_0_0_0, Z⟩] r.toLoadRect = View.ld Z r := by
  rw [View.readCov_eq_canon', View.canon_unit_zero (S := S4x512x256) zero3]

set_option maxHeartbeats 2000000

/-- A point after the first of its sequence writes the four heads of the forward outputs, from the state it finds. -/
theorem out_B_12 (hc0 : ¬cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 =
    View.canon (piecesO (outF x0 x1 x2 (gate x3 x8 x10) (fun h => cutS h xs0))) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread]
  rw [View.ld_unit_zero (S := S256x128) zero2, View.ld_unit_zero (S := S1x384x1024) zero3, View.ld_unit_zero (S := S1x1x1024) zero3]
  dsimp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
  rw [cumsF_eq, distF_eq, causF_eq]
  unfold outF
  generalize cums causF (gate x3 x8 x10) = B
  generalize distF = dist
  generalize causF = caus
  refine canon_O ?_ ?_ ?_ ?_ <;> dsimp only [headO, headS, att, aSame, aPrev, qCat, kHat, qHat, kSt, qIt, kIn, qIn, dIn, qs, decF, refF, lastF, decB, refB, lastB, zrow, rows, rep, Four.exp, cut, cutK, cutV, cutS]

/-- A point after the first of its sequence leaves the forward states of the four heads. -/
theorem sout_B_0 (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 =
    View.canon (piecesS (stF x1 x2 (gate x3 x8 x10) (fun h => cutS h xs0)) []) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread]
  rw [View.ld_unit_zero (S := S256x128) zero2, View.ld_unit_zero (S := S1x384x1024) zero3, View.ld_unit_zero (S := S1x1x1024) zero3]
  dsimp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
  rw [cumsF_eq]
  unfold stF
  generalize cums causF (gate x3 x8 x10) = B
  refine canon_S ?_ ?_ ?_ ?_ <;> dsimp only [headO, headS, att, aSame, aPrev, qCat, kHat, qHat, kSt, qIt, kIn, qIn, dIn, qs, decF, refF, lastF, decB, refB, lastB, zrow, rows, rep, Four.exp, cut, cutK, cutV, cutS]

/-- A point after the first of its sequence writes the four heads of the backward outputs, from the state it finds. -/
theorem out_B_13 (hc0 : ¬cond0_0 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 =
    View.canon (piecesO (outB x4 x5 x6 (gate x7 x9 x11) (fun h => cutS h xs1))) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread]
  rw [View.ld_unit_zero (S := S256x128) zero2, View.ld_unit_zero (S := S1x384x1024) zero3, View.ld_unit_zero (S := S1x1x1024) zero3]
  dsimp only [k0_pay1, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294]
  rw [cumsB_eq, distB_eq, causB_eq]
  unfold outB
  generalize cums causB (gate x7 x9 x11) = B
  generalize distB = dist
  generalize causB = caus
  refine canon_O ?_ ?_ ?_ ?_ <;> dsimp only [headO, headS, att, aSame, aPrev, qCat, kHat, qHat, kSt, qIt, kIn, qIn, dIn, qs, decF, refF, lastF, decB, refB, lastB, zrow, rows, rep, Four.exp, cut, cutK, cutV, cutS]

/-- A point after the first of its sequence leaves the backward states of the four heads. -/
theorem sout_B_1 (hc0 : ¬cond0_0 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 =
    View.canon (piecesS (stB x5 x6 (gate x7 x9 x11) (fun h => cutS h xs1)) []) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread]
  rw [View.ld_unit_zero (S := S256x128) zero2, View.ld_unit_zero (S := S1x384x1024) zero3, View.ld_unit_zero (S := S1x1x1024) zero3]
  dsimp only [k0_pay1, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294]
  rw [cumsB_eq]
  unfold stB
  generalize cums causB (gate x7 x9 x11) = B
  refine canon_S ?_ ?_ ?_ ?_ <;> dsimp only [headO, headS, att, aSame, aPrev, qCat, kHat, qHat, kSt, qIt, kIn, qIn, dIn, qs, decF, refF, lastF, decB, refB, lastB, zrow, rows, rep, Four.exp, cut, cutK, cutV, cutS]

/-- The first point of a sequence writes the four heads of the forward outputs, from the zero state. -/
theorem out_A_12 (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 =
    View.canon (piecesO (outF x0 x1 x2 (gate x3 x8 x10) (fun h => cutS h k0_pay2))) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread]
  rw [View.ld_unit_zero (S := S256x128) zero2, View.ld_unit_zero (S := S1x384x1024) zero3, View.ld_unit_zero (S := S1x1x1024) zero3]
  simp (discharger := decide) only [↓View.readCov_skip]
  repeat rw [readFill]
  dsimp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
  rw [cumsF_eq, distF_eq, causF_eq]
  unfold outF
  generalize cums causF (gate x3 x8 x10) = B
  generalize distF = dist
  generalize causF = caus
  refine canon_O ?_ ?_ ?_ ?_ <;> dsimp only [headO, headS, att, aSame, aPrev, qCat, kHat, qHat, kSt, qIt, kIn, qIn, dIn, qs, decF, refF, lastF, decB, refB, lastB, zrow, rows, rep, Four.exp, cut, cutK, cutV, cutS]

/-- The first point of a sequence clears the forward states and leaves those of its block. -/
theorem sout_A_0 (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 =
    View.canon (piecesS (stF x1 x2 (gate x3 x8 x10) (fun h => cutS h k0_pay2)) [fill k0_pay2]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread]
  rw [View.ld_unit_zero (S := S256x128) zero2, View.ld_unit_zero (S := S1x384x1024) zero3, View.ld_unit_zero (S := S1x1x1024) zero3]
  simp (discharger := decide) only [↓View.readCov_skip]
  repeat rw [readFill]
  dsimp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
  rw [cumsF_eq]
  unfold stF
  generalize cums causF (gate x3 x8 x10) = B
  refine canon_S ?_ ?_ ?_ ?_ <;> dsimp only [headO, headS, att, aSame, aPrev, qCat, kHat, qHat, kSt, qIt, kIn, qIn, dIn, qs, decF, refF, lastF, decB, refB, lastB, zrow, rows, rep, Four.exp, cut, cutK, cutV, cutS]

/-- The first point of a sequence writes the four heads of the backward outputs, from the zero state. -/
theorem out_A_13 (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 =
    View.canon (piecesO (outB x4 x5 x6 (gate x7 x9 x11) (fun h => cutS h k0_pay3))) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread]
  rw [View.ld_unit_zero (S := S256x128) zero2, View.ld_unit_zero (S := S1x384x1024) zero3, View.ld_unit_zero (S := S1x1x1024) zero3]
  simp (discharger := decide) only [↓View.readCov_skip]
  repeat rw [readFill]
  dsimp only [k0_pay1, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294]
  rw [cumsB_eq, distB_eq, causB_eq]
  unfold outB
  generalize cums causB (gate x7 x9 x11) = B
  generalize distB = dist
  generalize causB = caus
  refine canon_O ?_ ?_ ?_ ?_ <;> dsimp only [headO, headS, att, aSame, aPrev, qCat, kHat, qHat, kSt, qIt, kIn, qIn, dIn, qs, decF, refF, lastF, decB, refB, lastB, zrow, rows, rep, Four.exp, cut, cutK, cutV, cutS]

/-- The first point of a sequence clears the backward states and leaves those of its block. -/
theorem sout_A_1 (hc0 : cond0_0 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 =
    View.canon (piecesS (stB x5 x6 (gate x7 x9 x11) (fun h => cutS h k0_pay3)) [fill k0_pay3]) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread]
  rw [View.ld_unit_zero (S := S256x128) zero2, View.ld_unit_zero (S := S1x384x1024) zero3, View.ld_unit_zero (S := S1x1x1024) zero3]
  simp (discharger := decide) only [↓View.readCov_skip]
  repeat rw [readFill]
  dsimp only [k0_pay1, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294]
  rw [cumsB_eq]
  unfold stB
  generalize cums causB (gate x7 x9 x11) = B
  refine canon_S ?_ ?_ ?_ ?_ <;> dsimp only [headO, headS, att, aSame, aPrev, qCat, kHat, qHat, kSt, qIt, kIn, qIn, dIn, qs, decF, refF, lastF, decB, refB, lastB, zrow, rows, rep, Four.exp, cut, cutK, cutV, cutS]

end Cert.Gla

end
-- ==== Proof.Core.lean ====
/- ONE head of one block over the reals: for entries that are real numbers, what a block writes for a head and the state it
   leaves are the recurrence's closed form over the block's 256 rows, in the order `π` in which the direction scans them. -/
module

public import proofs.«01_k».proof.Proof.Head
public import Idealize.ShloMosaic.Lib.Pointwise
public import Idealize.ShloMosaic.Lib.ValueIdx

@[expose] public section

noncomputable section

namespace Cert.Gla

open Cert.KernelIdeal Cert.KernelIdeal.Gen Idealize.ShloMosaic Idealize.ShloMosaic.TcCoe Idealize.SL.Sem

/-- A finite sum of reals, as extended reals. -/
theorem coeSum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The scale of the queries, and of the gate. -/
theorem scale_eq : Ideal.ofBits .f32 0x3D800000#32 = ((1 / 16 : ℝ) : EReal) := by
  simp [Ideal.ofBits, Ideal.ieee, -EReal.coe_mul]; norm_num

/-- A choice by a bit that says whether `P` holds. -/
theorem sel_if {α : Type} (P : Prop) [Decidable P] (a b : α) : Scalar.select (if P then 1#1 else 0#1) a b = if P then a else b := by
  split <;> rfl

/-- The conjunction of two such bits. -/
theorem and_if (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]

/-- The chunk of a row. -/
def ch (t : Fin 256) : Fin 4 := ⟨t.val / 64, by omega⟩

/-- The decays of a block as real numbers. -/
structure RDec where
  /-- see `Decays` -/
  last : Fin 4 → Fin 256 → ℝ
  /-- see `Decays` -/
  mid : Fin 4 → Fin 256 → ℝ
  /-- see `Decays` -/
  pfx : Fin 4 → Fin 256 → ℝ
  /-- see `Decays` -/
  sfx : Fin 4 → Fin 256 → ℝ
  /-- see `Decays` -/
  one : Fin 4 → Fin 256 → ℝ
  /-- see `Decays` -/
  two : Fin 4 → Fin 256 → ℝ
  /-- see `Decays` -/
  total : Fin 256 → ℝ

/-- `D` holds the real decays `R`. -/
structure Holds (D : Decays Ideal) (R : RDec) : Prop where
  /-- the `last` decays -/
  last : ∀ j d, D.last.get j (ix2 0 d) = (R.last j d : EReal)
  /-- the `mid` decays -/
  mid : ∀ j d, D.mid.get j (ix2 0 d) = (R.mid j d : EReal)
  /-- the `pfx` decays -/
  pfx : ∀ j d, D.pfx.get j (ix2 0 d) = (R.pfx j d : EReal)
  /-- the `sfx` decays -/
  sfx : ∀ j d, D.sfx.get j (ix2 0 d) = (R.sfx j d : EReal)
  /-- the `one` decays -/
  one : ∀ j d, D.one.get j (ix2 0 d) = (R.one j d : EReal)
  /-- the `two` decays -/
  two : ∀ j d, D.two.get j (ix2 0 d) = (R.two j d : EReal)
  /-- the total decays -/
  total : ∀ d, D.total (ix2 0 d) = (R.total d : EReal)

/-- The decays belong together, chunk `j` being the `p j`-th that is scanned. -/
structure Laws (p : Fin 4 → ℕ) (R : RDec) : Prop where
  /-- no chunk lies between: the earlier chunks of `i` are those of `j` and `j` itself -/
  one : ∀ i j d, p i = p j + 1 → R.pfx i d = R.pfx j d + R.last j d
  /-- one chunk lies between -/
  two : ∀ i j d, p i = p j + 2 → R.pfx i d = R.pfx j d + R.last j d + R.one i d
  /-- two chunks lie between -/
  three : ∀ i j d, p i = p j + 3 → R.pfx i d = R.pfx j d + R.last j d + R.two i d
  /-- before, itself and after make the whole block -/
  all : ∀ j d, R.pfx j d + R.last j d + R.sfx j d = R.total d

/-- The masks of a direction that scans row `t` as the `π t`-th and chunk `j` as the `p j`-th. -/
structure Dir (dist : IVec S256x256 32) (caus : IVec S256x256 1) (π : Fin 256 → Fin 256) (p : Fin 4 → ℕ) : Prop where
  /-- the chunk of a position -/
  pos : ∀ t, (π t).val / 64 = p (ch t)
  /-- no two chunks share a place -/
  inj : ∀ i j, p i = p j → i = j
  /-- there are four places -/
  lt : ∀ i, p i < 4
  /-- `dist` tells how many chunks apart two rows are -/
  dist : ∀ t s (n : ℕ), n < 4 → IntOp.cmpi .eq (dist (ix2 t s)) (BitVec.ofNat 32 n) = if p (ch t) = p (ch s) + n then 1#1 else 0#1
  /-- `caus` tells which rows come no later -/
  caus : ∀ t s, caus (ix2 t s) = if π s ≤ π t then 1#1 else 0#1

/-- A block of repeated rows. -/
theorem rows_apply (x : Four Ideal) (t d : Fin 256) : rows x (ix2 t d) = x.get (ch t) (ix2 0 d) := by
  pointwise [rows, rep]
  unfold ch
  obtain ⟨t, ht⟩ := t
  dsimp only
  split_ifs with h1 h2 h3
  · have : t / 64 = 0 := by omega
    simp only [this]; rfl
  · have : t / 64 = 1 := by omega
    simp only [this]; rfl
  · have : t / 64 = 2 := by omega
    simp only [this]; rfl
  · have : t / 64 = 3 := by omega
    simp only [this]; rfl

/-- Exponentials row by row. -/
theorem exp_get (x : Four Ideal) (j : Fin 4) (i) : x.exp.get j i = Ideal.exp (x.get j i) := by
  fin_cases j <;> rfl

section
variable {q k : FVec Ideal S256x256 .bf16} {v : FVec Ideal S256x512 .bf16} {B : FVec Ideal S256x256 .f32} {D : Decays Ideal}
  {st : FVec Ideal S1x512x256 .f32} {dist : IVec S256x256 32} {caus : IVec S256x256 1}
  {Q K b : Fin 256 → Fin 256 → ℝ} {V : Fin 256 → Fin 512 → ℝ} {S : Fin 512 → Fin 256 → ℝ} {R : RDec} {π : Fin 256 → Fin 256} {p : Fin 4 → ℕ}

/-- The queries of the same-chunk products. -/
theorem qIn_real (hq : ∀ t d, q (ix2 t d) = (Q t d : EReal)) (hB : ∀ t d, B (ix2 t d) = (b t d : EReal)) (hD : Holds D R) (t d : Fin 256) :
    qIn q B D (ix2 t d) = ((Q t d * (1 / 16) * Real.exp (b t d - R.mid (ch t) d) : ℝ) : EReal) := by
  pointwise [qIn, qs, dIn]
  rw [rows_apply, hq, hB, hD.mid, scale_eq, ← EReal.coe_sub, Ideal.exp_coe, ← EReal.coe_mul, ← EReal.coe_mul]

/-- The keys of the same-chunk products. -/
theorem kIn_real (hk : ∀ t d, k (ix2 t d) = (K t d : EReal)) (hB : ∀ t d, B (ix2 t d) = (b t d : EReal)) (hD : Holds D R) (t d : Fin 256) :
    kIn k B D (ix2 t d) = ((K t d * Real.exp (0 - (b t d - R.mid (ch t) d)) : ℝ) : EReal) := by
  pointwise [kIn, dIn]
  rw [rows_apply, hk, hB, hD.mid, ← EReal.coe_sub, ← EReal.coe_zero, ← EReal.coe_sub, Ideal.exp_coe, ← EReal.coe_mul]

/-- The queries decayed from their chunk's start. -/
theorem qIt_real (hq : ∀ t d, q (ix2 t d) = (Q t d : EReal)) (hB : ∀ t d, B (ix2 t d) = (b t d : EReal)) (t d : Fin 256) :
    qIt q B (ix2 t d) = ((Q t d * (1 / 16) * Real.exp (b t d) : ℝ) : EReal) := by
  pointwise [qIt, qs]
  rw [hq, hB, scale_eq, Ideal.exp_coe, ← EReal.coe_mul, ← EReal.coe_mul]

/-- The keys decayed to their chunk's end. -/
theorem kSt_real (hk : ∀ t d, k (ix2 t d) = (K t d : EReal)) (hB : ∀ t d, B (ix2 t d) = (b t d : EReal)) (hD : Holds D R) (t d : Fin 256) :
    kSt k B D (ix2 t d) = ((K t d * Real.exp (R.last (ch t) d - b t d) : ℝ) : EReal) := by
  pointwise [kSt]
  rw [rows_apply, hk, hB, hD.last, ← EReal.coe_sub, Ideal.exp_coe, ← EReal.coe_mul]

/-- The queries decayed from the block's start. -/
theorem qHat_real (hq : ∀ t d, q (ix2 t d) = (Q t d : EReal)) (hB : ∀ t d, B (ix2 t d) = (b t d : EReal)) (hD : Holds D R) (t d : Fin 256) :
    qHat q B D (ix2 t d) = ((Q t d * (1 / 16) * Real.exp (b t d) * Real.exp (R.pfx (ch t) d) : ℝ) : EReal) := by
  pointwise [qHat]
  rw [rows_apply, exp_get, qIt_real hq hB, hD.pfx, Ideal.exp_coe, ← EReal.coe_mul]

/-- The keys decayed to the block's end. -/
theorem kHat_real (hk : ∀ t d, k (ix2 t d) = (K t d : EReal)) (hB : ∀ t d, B (ix2 t d) = (b t d : EReal)) (hD : Holds D R) (t d : Fin 256) :
    kHat k B D (ix2 t d) = ((K t d * Real.exp (R.last (ch t) d - b t d) * Real.exp (R.sfx (ch t) d) : ℝ) : EReal) := by
  pointwise [kHat]
  rw [rows_apply, exp_get, kSt_real hk hB hD, hD.sfx, Ideal.exp_coe, ← EReal.coe_mul]

/-- The queries' first stack. -/
theorem qCat_one (t d : Fin 256) : qCat q B D (ix2 ⟨t.val, by omega⟩ d) = qIt q B (ix2 t d) := by
  pointwise [qCat]

/-- The queries' second stack. -/
theorem qCat_two (t d : Fin 256) : qCat q B D (ix2 ⟨256 + t.val, by omega⟩ d) = qIt q B (ix2 t d) * rows D.one.exp (ix2 t d) := by
  pointwise [qCat]

/-- The queries' third stack. -/
theorem qCat_three (t d : Fin 256) : qCat q B D (ix2 ⟨512 + t.val, by omega⟩ d) = qIt q B (ix2 t d) * rows D.two.exp (ix2 t d) := by
  pointwise [qCat]
  have e : 512 + t.val - 256 - 256 = t.val := by omega
  rw [dif_neg (by omega), dif_neg (by omega)]
  simp only [e]

/-- The weight of row `s` in row `t`. -/
def attR (Q K b : Fin 256 → Fin 256 → ℝ) (R : RDec) (π : Fin 256 → Fin 256) (t s : Fin 256) : ℝ :=
  if π s ≤ π t then ∑ d, Q t d * (1 / 16) * K s d * Real.exp (R.pfx (ch t) d + b t d - (R.pfx (ch s) d + b s d)) else 0

/-- Inside a chunk the products are the weights. -/
theorem aSame_real (hq : ∀ t d, q (ix2 t d) = (Q t d : EReal)) (hk : ∀ t d, k (ix2 t d) = (K t d : EReal))
    (hB : ∀ t d, B (ix2 t d) = (b t d : EReal)) (hD : Holds D R) (t s : Fin 256) (h : ch t = ch s) :
    aSame q k B D (ix2 t s) =
      ((∑ d, Q t d * (1 / 16) * K s d * Real.exp (R.pfx (ch t) d + b t d - (R.pfx (ch s) d + b s d)) : ℝ) : EReal) := by
  pointwise [aSame]
  rw [coeSum]
  refine Finset.sum_congr rfl fun d _ => ?_
  rw [qIn_real hq hB hD, kIn_real hk hB hD, ← EReal.coe_mul, h]
  congr 1
  have e : R.pfx (ch s) d + b t d - (R.pfx (ch s) d + b s d) = (b t d - R.mid (ch s) d) + (0 - (b s d - R.mid (ch s) d)) := by ring
  rw [e, Real.exp_add]; ring

/-- Between chunks the products are the weights. -/
theorem aPrev_real (hq : ∀ t d, q (ix2 t d) = (Q t d : EReal)) (hk : ∀ t d, k (ix2 t d) = (K t d : EReal))
    (hB : ∀ t d, B (ix2 t d) = (b t d : EReal)) (hD : Holds D R) (t s : Fin 256) (r : Fin 768) (x : Fin 256 → ℝ)
    (hr : ∀ d, qCat q B D (ix2 r d) = ((Q t d * (1 / 16) * Real.exp (b t d) * Real.exp (x d) : ℝ) : EReal))
    (hx : ∀ d, R.pfx (ch t) d = R.pfx (ch s) d + R.last (ch s) d + x d) :
    aPrev q k B D (ix2 r s) =
      ((∑ d, Q t d * (1 / 16) * K s d * Real.exp (R.pfx (ch t) d + b t d - (R.pfx (ch s) d + b s d)) : ℝ) : EReal) := by
  pointwise [aPrev]
  rw [coeSum]
  refine Finset.sum_congr rfl fun d _ => ?_
  rw [hr, kSt_real hk hB hD, ← EReal.coe_mul, hx]
  congr 1
  have e : R.pfx (ch s) d + R.last (ch s) d + x d + b t d - (R.pfx (ch s) d + b s d) = b t d + x d + (R.last (ch s) d - b s d) := by ring
  rw [e, Real.exp_add, Real.exp_add]; ring

/-- The attention weights of a block. -/
theorem att_real (hdir : Dir dist caus π p) (hL : Laws p R) (hq : ∀ t d, q (ix2 t d) = (Q t d : EReal)) (hk : ∀ t d, k (ix2 t d) = (K t d : EReal))
    (hB : ∀ t d, B (ix2 t d) = (b t d : EReal)) (hD : Holds D R) (t s : Fin 256) :
    att dist caus q k B D (ix2 t s) = (attR Q K b R π t s : EReal) := by
  pointwise [att]
  rw [hdir.caus t s, show (3#32 : BitVec 32) = BitVec.ofNat 32 3 from rfl, show (2#32 : BitVec 32) = BitVec.ofNat 32 2 from rfl,
    show (1#32 : BitVec 32) = BitVec.ofNat 32 1 from rfl, show (0#32 : BitVec 32) = BitVec.ofNat 32 0 from rfl,
    hdir.dist t s 3 (by omega), hdir.dist t s 2 (by omega), hdir.dist t s 1 (by omega), hdir.dist t s 0 (by omega), and_if, sel_if, sel_if, sel_if, sel_if]
  have pt := hdir.pos t
  have ps := hdir.pos s
  have lt := hdir.lt (ch t)
  have ls := hdir.lt (ch s)
  have early : p (ch s) < p (ch t) → π s ≤ π t := fun h => by
    rw [Fin.le_def]; omega
  unfold attR
  by_cases h3 : p (ch t) = p (ch s) + 3
  · rw [if_pos h3, if_pos (early (by omega))]
    exact aPrev_real hq hk hB hD t s _ (R.two (ch t)) (fun d => by
      rw [qCat_three, rows_apply, exp_get, qIt_real hq hB, hD.two, Ideal.exp_coe, ← EReal.coe_mul]) (fun d => hL.three _ _ _ h3)
  rw [if_neg h3]
  by_cases h2 : p (ch t) = p (ch s) + 2
  · rw [if_pos h2, if_pos (early (by omega))]
    exact aPrev_real hq hk hB hD t s _ (R.one (ch t)) (fun d => by
      rw [qCat_two, rows_apply, exp_get, qIt_real hq hB, hD.one, Ideal.exp_coe, ← EReal.coe_mul]) (fun d => hL.two _ _ _ h2)
  rw [if_neg h2]
  by_cases h1 : p (ch t) = p (ch s) + 1
  · rw [if_pos h1, if_pos (early (by omega))]
    exact aPrev_real hq hk hB hD t s _ (fun _ => 0) (fun d => by
      rw [qCat_one, qIt_real hq hB]; simp) (fun d => by rw [hL.one _ _ _ h1]; ring)
  rw [if_neg h1]
  by_cases h0 : p (ch t) = p (ch s) + 0 ∧ π s ≤ π t
  · rw [if_pos h0, if_pos h0.2]
    exact aSame_real hq hk hB hD t s (hdir.inj _ _ h0.1)
  rw [if_neg h0, if_neg (fun h => h0 ⟨by rw [Fin.le_def] at h; omega, h⟩)]
  rfl

/-- What a block writes for one head, over the reals. -/
theorem headO_real (hdir : Dir dist caus π p) (hL : Laws p R) (hq : ∀ t d, q (ix2 t d) = (Q t d : EReal)) (hk : ∀ t d, k (ix2 t d) = (K t d : EReal))
    (hv : ∀ t e, v (ix2 t e) = (V t e : EReal)) (hB : ∀ t d, B (ix2 t d) = (b t d : EReal)) (hD : Holds D R)
    (hS : ∀ e d, st (ix3 0 e d) = (S e d : EReal)) (t : Fin 256) (e : Fin 512) :
    headO dist caus q k v B D st (ix2 t e) =
      (((∑ s, attR Q K b R π t s * V s e) + ∑ d, Q t d * (1 / 16) * Real.exp (R.pfx (ch t) d + b t d) * S e d : ℝ) : EReal) := by
  pointwise [headO]
  rw [EReal.coe_add, coeSum, coeSum]
  congr 1
  · refine Finset.sum_congr rfl fun s _ => ?_
    rw [att_real hdir hL hq hk hB hD, hv, ← EReal.coe_mul]
  · refine Finset.sum_congr rfl fun d _ => ?_
    rw [qHat_real hq hB hD, hS, ← EReal.coe_mul]
    congr 1
    rw [Real.exp_add]; ring

/-- The state a block leaves for one head, over the reals. -/
theorem headS_real (hL : Laws p R) (hk : ∀ t d, k (ix2 t d) = (K t d : EReal))
    (hv : ∀ t e, v (ix2 t e) = (V t e : EReal)) (hB : ∀ t d, B (ix2 t d) = (b t d : EReal)) (hD : Holds D R)
    (hS : ∀ e d, st (ix3 0 e d) = (S e d : EReal)) (e : Fin 512) (d : Fin 256) :
    headS k v B D st (ix3 0 e d) =
      ((Real.exp (R.total d) * S e d + ∑ s, V s e * (K s d * Real.exp (R.total d - (R.pfx (ch s) d + b s d))) : ℝ) : EReal) := by
  pointwise [headS]
  rw [EReal.coe_add, coeSum, hD.total, Ideal.exp_coe, hS, ← EReal.coe_mul]
  congr 1
  refine Finset.sum_congr rfl fun s _ => ?_
  rw [kHat_real hk hB hD, hv, ← EReal.coe_mul, ← hL.all (ch s) d]
  congr 1
  have e' : R.pfx (ch s) d + R.last (ch s) d + R.sfx (ch s) d - (R.pfx (ch s) d + b s d) = (R.last (ch s) d - b s d) + R.sfx (ch s) d := by ring
  rw [e', Real.exp_add]; ring

end

end Cert.Gla

end
-- ==== Proof.Dirs.lean ====
/- The two directions: their masks, their decays, and the sums of the gate along the scan. -/
module

public import proofs.«01_k».proof.Proof.Core

@[expose] public section

noncomputable section

namespace Cert.Gla

open Cert.KernelIdeal Cert.KernelIdeal.Gen Idealize.ShloMosaic Idealize.ShloMosaic.TcCoe Idealize.SL.Sem

/-- Shifting a row's index by six bits gives its chunk. -/
theorem shift_row : ∀ t : Fin 256, IntOp.shrsi ArithUnit.vector (BitVec.ofNat 32 t.val) 6#32 = BitVec.ofNat 32 (ch t).val := by decide +kernel

/-- A difference of two chunks, compared with a small number. -/
theorem dist_bit : ∀ i j n : Fin 4, IntOp.cmpi .eq (IntOp.subi (BitVec.ofNat 32 i.val) (BitVec.ofNat 32 j.val)) (BitVec.ofNat 32 n.val) =
    if i.val = j.val + n.val then 1#1 else 0#1 := by decide +kernel

/-- Small indices compare as numbers. -/
theorem sle_bit (s t : Fin 256) : IntOp.cmpi .sle (BitVec.ofNat 32 s.val) (BitVec.ofNat 32 t.val) = if s ≤ t then 1#1 else 0#1 := by
  revert s t; decide +kernel

/-- Small indices compare as numbers. -/
theorem sge_bit (s t : Fin 256) : IntOp.cmpi .sge (BitVec.ofNat 32 s.val) (BitVec.ofNat 32 t.val) = if t ≤ s then 1#1 else 0#1 := by
  revert s t; decide +kernel

/-- The forward direction's masks. -/
theorem dirF : Dir distF causF id (fun j => j.val) where
  pos t := rfl
  inj i j h := Fin.ext h
  lt i := i.isLt
  dist t s n hn := by
    pointwise [distF, rowC, colC, rowI, colI]
    rw [shift_row, shift_row]
    exact dist_bit (ch t) (ch s) ⟨n, hn⟩
  caus t s := by
    pointwise [causF, rowI, colI]
    exact sle_bit s t

/-- The backward direction's masks. -/
theorem dirB : Dir distB causB Fin.rev (fun j => 3 - j.val) where
  pos t := by simp only [Fin.val_rev, ch]; omega
  inj i j h := by ext; omega
  lt i := by omega
  dist t s n hn := by
    pointwise [distB, rowC, colC, rowI, colI]
    rw [shift_row, shift_row]
    refine (dist_bit (ch s) (ch t) ⟨n, hn⟩).trans ?_
    have := (ch s).isLt
    have := (ch t).isLt
    congr 1
    simp only [eq_iff_iff]
    omega
  caus t s := by
    pointwise [causB, rowI, colI]
    refine (sge_bit s t).trans ?_
    congr 1
    simp only [eq_iff_iff, Fin.rev_le_rev]

/-- The forward decays of the real sums `b`. -/
def rdF (b : Fin 256 → Fin 256 → ℝ) : RDec :=
  let l : Fin 4 → Fin 256 → ℝ := fun j => b ⟨64 * j.val + 63, by omega⟩
  { last := l
    mid := fun j => b ⟨64 * j.val + 31, by omega⟩
    pfx := fun j d => ![0, 0 + l 0 d, 0 + l 0 d + l 1 d, 0 + l 0 d + l 1 d + l 2 d] j
    sfx := fun j d => ![0 + l 3 d + l 2 d + l 1 d, 0 + l 3 d + l 2 d, 0 + l 3 d, 0] j
    one := fun j d => ![0, 0, l 1 d, l 2 d] j
    two := fun j d => ![0, 0, 0, l 2 d + l 1 d] j
    total := fun d => 0 + l 0 d + l 1 d + l 2 d + l 3 d }

/-- The backward decays of the real sums `b`. -/
def rdB (b : Fin 256 → Fin 256 → ℝ) : RDec :=
  let l : Fin 4 → Fin 256 → ℝ := fun j => b ⟨64 * j.val, by omega⟩
  { last := l
    mid := fun j => b ⟨64 * j.val + 32, by omega⟩
    pfx := fun j d => ![0 + l 3 d + l 2 d + l 1 d, 0 + l 3 d + l 2 d, 0 + l 3 d, 0] j
    sfx := fun j d => ![0, 0 + l 0 d, 0 + l 0 d + l 1 d, 0 + l 0 d + l 1 d + l 2 d] j
    one := fun j d => ![l 1 d, l 2 d, 0, 0] j
    two := fun j d => ![l 1 d + l 2 d, 0, 0, 0] j
    total := fun d => 0 + l 3 d + l 2 d + l 1 d + l 0 d }

/-- The forward decays belong together, the chunks being scanned from the first. -/
theorem lawsF (b : Fin 256 → Fin 256 → ℝ) : Laws (fun j => j.val) (rdF b) where
  one i j d h := by fin_cases i <;> fin_cases j <;> simp at h <;> simp [rdF]
  two i j d h := by fin_cases i <;> fin_cases j <;> simp at h <;> simp [rdF]
  three i j d h := by fin_cases i <;> fin_cases j <;> simp at h <;> simp [rdF] <;> ring
  all j d := by fin_cases j <;> simp [rdF] <;> ring

/-- The backward decays belong together, the chunks being scanned from the last. -/
theorem lawsB (b : Fin 256 → Fin 256 → ℝ) : Laws (fun j => 3 - j.val) (rdB b) where
  one i j d h := by fin_cases i <;> fin_cases j <;> simp at h <;> simp [rdB]
  two i j d h := by fin_cases i <;> fin_cases j <;> simp at h <;> simp [rdB]
  three i j d h := by fin_cases i <;> fin_cases j <;> simp at h <;> simp [rdB] <;> ring
  all j d := by fin_cases j <;> simp [rdB] <;> ring

/-- The forward decays of real sums are real. -/
theorem holdsF {B : FVec Ideal S256x256 .f32} {b : Fin 256 → Fin 256 → ℝ} (hB : ∀ t d, B (ix2 t d) = (b t d : EReal)) : Holds (decF B) (rdF b) := by
  constructor
  all_goals intro j
  all_goals first | (intro d; fin_cases j) | skip
  all_goals (simp only [decF, lastF, refF, zrow, Four.get, rdF]; pointwise [])
  all_goals first | (simp only [hB]; done) | (simp only [hB]; simp; done) | simp

/-- The backward decays of real sums are real. -/
theorem holdsB {B : FVec Ideal S256x256 .f32} {b : Fin 256 → Fin 256 → ℝ} (hB : ∀ t d, B (ix2 t d) = (b t d : EReal)) : Holds (decB B) (rdB b) := by
  constructor
  all_goals intro j
  all_goals first | (intro d; fin_cases j) | skip
  all_goals (simp only [decB, lastB, refB, zrow, Four.get, rdB]; pointwise [])
  all_goals first | (simp only [hB]; done) | (simp only [hB]; simp; done) | simp

/-- Channel `d` of head `h` among all heads' channels. -/
def hd (h : Fin 4) (d : Fin 256) : Fin 1024 := ⟨256 * h.val + d.val, by omega⟩

/-- Value channel `e` of head `h` among all heads' value channels. -/
def he (h : Fin 4) (e : Fin 512) : Fin 2048 := ⟨512 * h.val + e.val, by omega⟩

/-- Head `h` of a gate block, at an index. -/
theorem cut_apply (h : Fin 4) (x : FVec Ideal S256x1024 .f32) (t d : Fin 256) : cut h x (ix2 t d) = x (ix2 t (hd h d)) := by
  fin_cases h <;> pointwise [cut] <;> simp [hd]

/-- Head `h` of a block of queries or keys, at an index. -/
theorem cutK_apply (h : Fin 4) (x : Vec Ideal S256x1024 .bf16) (t d : Fin 256) : cutK h x (ix2 t d) = x (ix2 t (hd h d)) := by
  fin_cases h <;> pointwise [cutK] <;> simp [hd]

/-- Head `h` of a block of values, at an index. -/
theorem cutV_apply (h : Fin 4) (x : Vec Ideal S256x2048 .bf16) (t : Fin 256) (e : Fin 512) : cutV h x (ix2 t e) = x (ix2 t (he h e)) := by
  fin_cases h <;> pointwise [cutV] <;> simp [he]

/-- The state of head `h`, at an index. -/
theorem cutS_apply (h : Fin 4) (x : Vec Ideal S4x512x256 .f32) (e : Fin 512) (d : Fin 256) : cutS h x (ix3 0 e d) = x (ix3 h e d) := by
  fin_cases h <;> pointwise [cutS] <;> simp

section
variable {dist : IVec S256x256 32} {caus : IVec S256x256 1} {π : Fin 256 → Fin 256} {p : Fin 4 → ℕ}

/-- The gate's sums along a chunk. -/
theorem cums_real (hdir : Dir dist caus π p) {g : FVec Ideal S256x1024 .f32} {G : Fin 256 → Fin 1024 → ℝ}
    (hg : ∀ t c, g (ix2 t c) = (G t c : EReal)) (t : Fin 256) (c : Fin 1024) :
    cums caus g (ix2 t c) = ((∑ x, if ch x = ch t ∧ π x ≤ π t then G x c else 0 : ℝ) : EReal) := by
  pointwise [cums]
  have hbit : ∀ x, IntOp.andi (IntOp.cmpi .eq (rowC (ix2 t x)) (colC (ix2 t x))) (caus (ix2 t x)) =
      if ch x = ch t ∧ π x ≤ π t then 1#1 else 0#1 := fun x => by
    rw [hdir.caus t x]
    have : IntOp.cmpi .eq (rowC (ix2 t x)) (colC (ix2 t x)) = if ch x = ch t then 1#1 else 0#1 := by
      pointwise [rowC, colC, rowI, colI]
      rw [shift_row, shift_row]
      exact (by decide +kernel : ∀ i j : Fin 4, IntOp.cmpi .eq (BitVec.ofNat 32 i.val) (BitVec.ofNat 32 j.val) = if j = i then 1#1 else 0#1) _ _
    rw [this, and_if]
  simp only [hbit, sel_if, hg, ← EReal.coe_sub, sub_self]
  have h1 : ¬ (2048 + c.val < 1024) := by omega
  have h2 : ¬ (2048 + c.val - 1024 < 1024) := by omega
  simp only [h1, h2, dif_neg, not_false_eq_true, ite_self, Finset.sum_const_zero, EReal.coe_zero, add_zero]
  rw [coeSum]
  refine Finset.sum_congr rfl fun x _ => ?_
  split <;> rfl
end

end Cert.Gla

end
-- ==== Proof.Seq.lean ====
/- A head's rows as ONE sequence in the order of the scan: the recurrence's closed form over the whole sequence, and the block
   step that carries it from one block of 256 rows to the next. -/
module

public import proofs.«01_k».proof.Proof.Dirs

@[expose] public section

noncomputable section

namespace Cert.Gla

open Cert.KernelIdeal Cert.KernelIdeal.Gen Idealize.ShloMosaic Idealize.ShloMosaic.TcCoe Idealize.SL.Sem

/-- A head's sequences, in the order of the scan: queries, keys, gates, values. -/
structure Seqs where
  /-- queries -/
  q : ℕ → Fin 256 → ℝ
  /-- keys -/
  k : ℕ → Fin 256 → ℝ
  /-- gates -/
  g : ℕ → Fin 256 → ℝ
  /-- values -/
  v : ℕ → Fin 512 → ℝ

/-- The gates of the first `m` positions, summed. -/
def Seqs.sum (s : Seqs) (m : ℕ) (d : Fin 256) : ℝ := ∑ j ∈ Finset.range m, s.g j d

/-- The state after `m` positions. -/
def Seqs.state (s : Seqs) (m : ℕ) (e : Fin 512) (d : Fin 256) : ℝ :=
  ∑ j ∈ Finset.range m, Real.exp (s.sum m d - s.sum (j + 1) d) * s.k j d * s.v j e

/-- The output at position `j`. -/
def Seqs.out (s : Seqs) (j : ℕ) (e : Fin 512) : ℝ :=
  ∑ i ∈ Finset.range (j + 1), (∑ d, s.q j d * (1 / 16) * s.k i d * Real.exp (s.sum (j + 1) d - s.sum (i + 1) d)) * s.v i e

/-- The sums along a chunk of the gates `G`. -/
def along (π : Fin 256 → Fin 256) (G : Fin 256 → Fin 256 → ℝ) (t d : Fin 256) : ℝ := ∑ x, if ch x = ch t ∧ π x ≤ π t then G x d else 0

/-- A direction: its masks, its decays, and what they add up to. -/
structure Way (dist : IVec S256x256 32) (caus : IVec S256x256 1) (π : Fin 256 → Fin 256) (p : Fin 4 → ℕ)
    (dec : FVec Ideal S256x256 .f32 → Decays Ideal) (rd : (Fin 256 → Fin 256 → ℝ) → RDec) : Prop where
  /-- the masks -/
  dir : Dir dist caus π p
  /-- every row is scanned once -/
  bij : Function.Bijective π
  /-- real sums give real decays -/
  holds : ∀ {B : FVec Ideal S256x256 .f32} {b : Fin 256 → Fin 256 → ℝ}, (∀ t d, B (ix2 t d) = (b t d : EReal)) → Holds (dec B) (rd b)
  /-- the decays belong together -/
  laws : ∀ b, Laws p (rd b)
  /-- the earlier chunks and the earlier rows of the own chunk are the earlier rows -/
  pfx : ∀ G t d, (rd (along π G)).pfx (ch t) d + along π G t d = ∑ x, if π x ≤ π t then G x d else 0
  /-- the whole block -/
  total : ∀ G d, (rd (along π G)).total d = ∑ x, G x d

/-- Summing over the rows of earlier chunks and the earlier rows of one's own is summing over the earlier rows. -/
theorem pfx_sum {π : Fin 256 → Fin 256} {p : Fin 4 → ℕ} (pos : ∀ t, (π t).val / 64 = p (ch t)) (inj : ∀ i j, p i = p j → i = j)
    (G : Fin 256 → ℝ) (t : Fin 256) :
    (∑ i : Fin 4, if p i < p (ch t) then ∑ x, (if ch x = i then G x else 0) else 0) + (∑ x, if ch x = ch t ∧ π x ≤ π t then G x else 0) =
      ∑ x, if π x ≤ π t then G x else 0 := by
  have h : (∑ i : Fin 4, if p i < p (ch t) then ∑ x, (if ch x = i then G x else 0) else 0) = ∑ x, if p (ch x) < p (ch t) then G x else 0 := by
    have : ∀ i : Fin 4, (if p i < p (ch t) then ∑ x, (if ch x = i then G x else 0) else 0) =
        ∑ x, if ch x = i then (if p (ch x) < p (ch t) then G x else 0) else 0 := fun i => by
      by_cases h1 : p i < p (ch t)
      · rw [if_pos h1]
        refine Finset.sum_congr rfl fun x _ => ?_
        by_cases h2 : ch x = i
        · rw [if_pos h2, if_pos h2, h2, if_pos h1]
        · rw [if_neg h2, if_neg h2]
      · rw [if_neg h1]
        refine (Finset.sum_eq_zero fun x _ => ?_).symm
        by_cases h2 : ch x = i
        · rw [if_pos h2, h2, if_neg h1]
        · rw [if_neg h2]
    rw [Finset.sum_congr rfl fun i _ => this i, Finset.sum_comm]
    refine Finset.sum_congr rfl fun x _ => ?_
    rw [Finset.sum_ite_eq]; simp
  rw [h, ← Finset.sum_add_distrib]
  refine Finset.sum_congr rfl fun x _ => ?_
  have px := pos x
  have pt := pos t
  simp only [Fin.le_def]
  by_cases h1 : p (ch x) < p (ch t)
  · rw [if_pos h1, if_neg (fun h => by rw [h.1] at h1; omega), if_pos (by omega), add_zero]
  · rw [if_neg h1, zero_add]
    by_cases h2 : (π x).val ≤ (π t).val
    · rw [if_pos ⟨inj _ _ (by omega), h2⟩, if_pos h2]
    · rw [if_neg (fun h => h2 h.2), if_neg h2]

/-- The four chunks' sums are the block's. -/
theorem total_sum (G : Fin 256 → ℝ) : ∑ i : Fin 4, ∑ x, (if ch x = i then G x else 0) = ∑ x, G x := by
  rw [Finset.sum_comm]
  refine Finset.sum_congr rfl fun x _ => ?_
  rw [Finset.sum_ite_eq]; simp

/-- The last row of a chunk has the chunk's sum: forward. -/
theorem alongF_last (G : Fin 256 → Fin 256 → ℝ) (j : Fin 4) (d : Fin 256) :
    along id G ⟨64 * j.val + 63, by omega⟩ d = ∑ x, if ch x = j then G x d else 0 := by
  unfold along
  refine Finset.sum_congr rfl fun x _ => ?_
  congr 1
  simp only [ch, Fin.ext_iff, Fin.le_def, id, eq_iff_iff]
  omega

/-- The first row of a chunk has the chunk's sum: backward. -/
theorem alongB_last (G : Fin 256 → Fin 256 → ℝ) (j : Fin 4) (d : Fin 256) :
    along Fin.rev G ⟨64 * j.val, by omega⟩ d = ∑ x, if ch x = j then G x d else 0 := by
  unfold along
  refine Finset.sum_congr rfl fun x _ => ?_
  congr 1
  rw [Fin.rev_le_rev]
  simp only [ch, Fin.ext_iff, Fin.le_def, eq_iff_iff]
  omega

/-- The forward direction. -/
theorem wayF : Way distF causF id (fun j => j.val) decF rdF where
  dir := dirF
  bij := Function.bijective_id
  holds := holdsF
  laws := lawsF
  pfx G t d := by
    rw [← pfx_sum dirF.pos dirF.inj (fun x => G x d) t]
    congr 1
    simp only [← alongF_last, rdF, Fin.sum_univ_four]
    generalize ch t = c
    fin_cases c <;> simp
  total G d := by
    rw [← total_sum (fun x => G x d)]
    simp only [← alongF_last, rdF, Fin.sum_univ_four, zero_add]

/-- The backward direction. -/
theorem wayB : Way distB causB Fin.rev (fun j => 3 - j.val) decB rdB where
  dir := dirB
  bij := Fin.rev_bijective
  holds := holdsB
  laws := lawsB
  pfx G t d := by
    rw [← pfx_sum dirB.pos dirB.inj (fun x => G x d) t]
    congr 1
    simp only [← alongB_last, rdB, Fin.sum_univ_four]
    generalize ch t = c
    fin_cases c <;> simp <;> ring_nf
  total G d := by
    rw [← total_sum (fun x => G x d)]
    simp only [← alongB_last, rdB, Fin.sum_univ_four, zero_add]
    ring

section
variable {dist : IVec S256x256 32} {caus : IVec S256x256 1} {π : Fin 256 → Fin 256} {p : Fin 4 → ℕ}
  {dec : FVec Ideal S256x256 .f32 → Decays Ideal} {rd : (Fin 256 → Fin 256 → ℝ) → RDec}

/-- A sum over a block's rows is a sum over its positions. -/
theorem sum_rows (hπ : Function.Bijective π) (f : ℕ → ℝ) : ∑ t, f (π t).val = ∑ i ∈ Finset.range 256, f i := by
  rw [hπ.sum_comp (fun i : Fin 256 => f i.val), Fin.sum_univ_eq_sum_range (fun i => f i) 256]

/-- The same for the rows up to a row. -/
theorem sum_rows_le (hπ : Function.Bijective π) (t : Fin 256) (f : ℕ → ℝ) :
    (∑ x, if π x ≤ π t then f (π x).val else 0) = ∑ i ∈ Finset.range ((π t).val + 1), f i := by
  have h := sum_rows hπ (fun i => if i ≤ (π t).val then f i else 0)
  simp only [Fin.le_def]
  rw [h, ← Finset.sum_filter]
  refine Finset.sum_congr ?_ fun _ _ => rfl
  ext i
  have := (π t).isLt
  simp only [Finset.mem_filter, Finset.mem_range]
  omega

/-- The gates of a block up to a row. -/
theorem sum_gate (hπ : Function.Bijective π) (s : Seqs) (n : ℕ) (t d : Fin 256) :
    (∑ x, if π x ≤ π t then s.g (256 * n + (π x).val) d else 0) = s.sum (256 * n + (π t).val + 1) d - s.sum (256 * n) d := by
  rw [sum_rows_le hπ t (fun i => s.g (256 * n + i) d)]
  unfold Seqs.sum
  rw [add_assoc (256 * n), Finset.sum_range_add (fun j => s.g j d) (256 * n)]
  ring

/-- The gates of a block. -/
theorem sum_gates (hπ : Function.Bijective π) (s : Seqs) (n : ℕ) (d : Fin 256) :
    (∑ x, s.g (256 * n + (π x).val) d) = s.sum (256 * (n + 1)) d - s.sum (256 * n) d := by
  rw [sum_rows hπ (fun i => s.g (256 * n + i) d)]
  unfold Seqs.sum
  rw [mul_add, mul_one, Finset.sum_range_add]
  ring

variable {q k : FVec Ideal S256x256 .bf16} {v : FVec Ideal S256x512 .bf16} {B : FVec Ideal S256x256 .f32} {st : FVec Ideal S1x512x256 .f32} {s : Seqs} {n : ℕ}

/-- Block `n` writes the outputs of its positions. -/
theorem Way.out (W : Way dist caus π p dec rd) (hq : ∀ t d, q (ix2 t d) = (s.q (256 * n + (π t).val) d : EReal))
    (hk : ∀ t d, k (ix2 t d) = (s.k (256 * n + (π t).val) d : EReal)) (hv : ∀ t e, v (ix2 t e) = (s.v (256 * n + (π t).val) e : EReal))
    (hB : ∀ t d, B (ix2 t d) = (along π (fun t d => s.g (256 * n + (π t).val) d) t d : EReal))
    (hS : ∀ e d, st (ix3 0 e d) = (s.state (256 * n) e d : EReal)) (t : Fin 256) (e : Fin 512) :
    headO dist caus q k v B (dec B) st (ix2 t e) = (s.out (256 * n + (π t).val) e : EReal) := by
  rw [headO_real W.dir (W.laws _) hq hk hv hB (W.holds hB) hS]
  congr 1
  have hT : ∀ t d, (rd (along π (fun t d => s.g (256 * n + (π t).val) d))).pfx (ch t) d + along π (fun t d => s.g (256 * n + (π t).val) d) t d =
      s.sum (256 * n + (π t).val + 1) d - s.sum (256 * n) d := fun t d => by rw [W.pfx, sum_gate W.bij]
  unfold attR
  simp only [hT]
  unfold Seqs.out
  rw [add_assoc, Finset.sum_range_add, add_comm]
  congr 1
  · unfold Seqs.state
    simp only [Finset.mul_sum, Finset.sum_mul]
    rw [Finset.sum_comm]
    refine Finset.sum_congr rfl fun i _ => Finset.sum_congr rfl fun d _ => ?_
    have e' : s.sum (256 * n + ((π t).val + 1)) d - s.sum (i + 1) d =
        s.sum (256 * n + (π t).val + 1) d - s.sum (256 * n) d + (s.sum (256 * n) d - s.sum (i + 1) d) := by rw [add_assoc]; ring
    rw [e', Real.exp_add]; ring_nf
  · rw [← sum_rows_le W.bij t (fun i => (∑ d, s.q (256 * n + (π t).val) d * (1 / 16) * s.k (256 * n + i) d *
      Real.exp (s.sum (256 * n + ((π t).val + 1)) d - s.sum (256 * n + i + 1) d)) * s.v (256 * n + i) e)]
    refine Finset.sum_congr rfl fun x _ => ?_
    split
    · congr 1
      refine Finset.sum_congr rfl fun d _ => ?_
      congr 2
      ring
    · rw [zero_mul]

/-- Block `n` leaves the state after its positions. -/
theorem Way.state (W : Way dist caus π p dec rd) (hk : ∀ t d, k (ix2 t d) = (s.k (256 * n + (π t).val) d : EReal))
    (hv : ∀ t e, v (ix2 t e) = (s.v (256 * n + (π t).val) e : EReal))
    (hB : ∀ t d, B (ix2 t d) = (along π (fun t d => s.g (256 * n + (π t).val) d) t d : EReal))
    (hS : ∀ e d, st (ix3 0 e d) = (s.state (256 * n) e d : EReal)) (e : Fin 512) (d : Fin 256) :
    headS k v B (dec B) st (ix3 0 e d) = (s.state (256 * (n + 1)) e d : EReal) := by
  rw [headS_real (W.laws _) hk hv hB (W.holds hB) hS]
  congr 1
  have hT : ∀ t d, (rd (along π (fun t d => s.g (256 * n + (π t).val) d))).pfx (ch t) d + along π (fun t d => s.g (256 * n + (π t).val) d) t d =
      s.sum (256 * n + (π t).val + 1) d - s.sum (256 * n) d := fun t d => by rw [W.pfx, sum_gate W.bij]
  simp only [hT, W.total, sum_gates W.bij]
  unfold Seqs.state
  have e1 : Finset.range (256 * (n + 1)) = Finset.range (256 * n + 256) := by rw [mul_add, mul_one]
  rw [e1, Finset.sum_range_add]
  congr 1
  · rw [Finset.mul_sum]
    refine Finset.sum_congr rfl fun i _ => ?_
    have e' : s.sum (256 * (n + 1)) d - s.sum (i + 1) d = s.sum (256 * (n + 1)) d - s.sum (256 * n) d + (s.sum (256 * n) d - s.sum (i + 1) d) := by ring
    rw [e', Real.exp_add]; ring
  · rw [← sum_rows W.bij (fun i => Real.exp (s.sum (256 * (n + 1)) d - s.sum (256 * n + i + 1) d) * s.k (256 * n + i) d * s.v (256 * n + i) e)]
    refine Finset.sum_congr rfl fun x _ => ?_
    have e' : s.sum (256 * (n + 1)) d - s.sum (256 * n) d - (s.sum (256 * n + (π x).val + 1) d - s.sum (256 * n) d) =
      s.sum (256 * (n + 1)) d - s.sum (256 * n + (π x).val + 1) d := by ring
    rw [e']; ring
end

end Cert.Gla

end
-- ==== Proof.Gate.lean ====
/- The gates over the reals: `log_sigmoid(z · w + b) / 16`, from the padded weights the region finds. -/
module

public import proofs.«01_k».proof.Proof.Core
public import Idealize.ShloMosaic.Lib.Pointwise
public import Idealize.ShloMosaic.Lib.ValueIdx

@[expose] public section

noncomputable section

namespace Cert.Gla

open Cert.KernelIdeal Cert.KernelIdeal.Gen Idealize.ShloMosaic Idealize.ShloMosaic.TcCoe Idealize.SL.Sem

/-- The logarithm of the logistic function. -/
def logsig (x : ℝ) : ℝ := min x 0 - Real.log (1 + Real.exp (0 - |x|))

/-- A decayed row's gate: the log-sigmoid of `x`, over 16. -/
theorem gateL_real {x : FVec Ideal S256x1024 .f32} {t : Fin 256} {s : Fin 1024} {X : ℝ} (h : x (ix2 t s) = (X : EReal)) :
    gateL x (ix2 t s) = ((logsig X * (1 / 16) : ℝ) : EReal) := by
  pointwise [gateL]
  have ha : (FloatOps.absf (x (ix2 t s)) : EReal) = ((|X| : ℝ) : EReal) := by
    rw [h]
    show max (X : EReal) (-(X : EReal)) = _
    rw [← EReal.coe_neg, abs_eq_max_neg]
    exact (EReal.coe_strictMono.monotone.map_max).symm
  rw [ha, h, scale_eq, ← EReal.coe_zero, ← EReal.coe_one, ← EReal.coe_sub, Ideal.exp_coe, ← EReal.coe_add, Ideal.log_coe,
    if_neg (not_le.2 (by positivity)), ← EReal.coe_strictMono.monotone.map_min, ← EReal.coe_sub, ← EReal.coe_mul]
  rfl

/-- A sum over three stretches of 128 whose middle one and last one vanish, and whose first is zero off the 16 rows from `o`. -/
theorem sum_hat (f : Fin 384 → ℝ) (o : ℕ) (ho : o + 16 ≤ 128) (h : ∀ x : Fin 384, ¬(o ≤ x.val ∧ x.val < o + 16) → f x = 0) :
    ∑ x, f x = ∑ r : Fin 16, f ⟨o + r.val, by omega⟩ := by
  symm
  refine Finset.sum_bij_ne_zero (fun r _ _ => ⟨o + r.val, by omega⟩) (fun _ _ _ => Finset.mem_univ _) (fun a _ _ b _ _ hab => ?_) (fun b _ hb => ?_) (fun _ _ _ => rfl)
  · have := congrArg Fin.val hab
    exact Fin.ext (by simpa using this)
  · have hx : o ≤ b.val ∧ b.val < o + 16 := by
      by_contra hc
      exact hb (h b hc)
    refine ⟨⟨b.val - o, by omega⟩, Finset.mem_univ _, ?_, ?_⟩
    · convert hb using 2; exact Fin.ext (by simp; omega)
    · exact Fin.ext (by simp; omega)

/-- The gate's argument from real latent codes `Z`, weights `W` padded to row `o` and laid three times, and biases `b`. -/
theorem gateX_real {z : FVec Ideal S256x128 .f32} {w : FVec Ideal S1x384x1024 .bf16} {b : FVec Ideal S1x1x1024 .f32} {Z : Fin 256 → Fin 128 → ℝ}
    {W : Fin 16 → Fin 1024 → ℝ} {B : Fin 1024 → ℝ} (o : ℕ) (ho : o + 16 ≤ 128) (hz : ∀ t i, z (ix2 t i) = (Z t i : EReal))
    (hw : ∀ x s, w (ix3 0 x s) = ((if h : x.val < 128 then (if g : o ≤ x.val ∧ x.val - o < 16 then W ⟨x.val - o, g.2⟩ s else 0)
      else if h : x.val - 128 < 128 then 0 else if g : o ≤ x.val - 256 ∧ x.val - 256 - o < 16 then W ⟨x.val - 256 - o, g.2⟩ s else 0 : ℝ) : EReal))
    (hb : ∀ s, b (ix3 0 0 s) = (B s : EReal)) (t : Fin 256) (s : Fin 1024) :
    gateX z w b (ix2 t s) = ((∑ r : Fin 16, Z t ⟨o + r.val, by omega⟩ * W r s + B s : ℝ) : EReal) := by
  pointwise [gateX]
  have e : ∀ x : Fin 384, ((if h : x.val < 128 then z (ix2 t ⟨x.val, h⟩) else if h : x.val - 128 < 128 then z (ix2 t ⟨x.val - 128, h⟩)
      else z (ix2 t ⟨x.val - 128 - 128, by omega⟩) - z (ix2 t ⟨x.val - 128 - 128, by omega⟩)) * w (ix3 0 x s) : EReal) =
      ((if h : x.val < 128 then (if g : o ≤ x.val ∧ x.val - o < 16 then Z t ⟨x.val, h⟩ * W ⟨x.val - o, g.2⟩ s else 0) else 0 : ℝ) : EReal) := fun x => by
    rw [hw]
    by_cases h1 : x.val < 128
    · rw [dif_pos h1, dif_pos h1, dif_pos h1, hz, ← EReal.coe_mul]
      by_cases h2 : o ≤ x.val ∧ x.val - o < 16
      · rw [dif_pos h2, dif_pos h2]
      · rw [dif_neg h2, dif_neg h2, mul_zero]
    · rw [dif_neg h1, dif_neg h1, dif_neg h1]
      by_cases h2 : x.val - 128 < 128
      · rw [dif_pos h2, dif_pos h2, hz, ← EReal.coe_mul, mul_zero]
      · rw [dif_neg h2, dif_neg h2, hz, ← EReal.coe_sub, ← EReal.coe_mul, sub_self, zero_mul]
  rw [Finset.sum_congr rfl fun x _ => e x, ← coeSum, hb, ← EReal.coe_add]
  congr 2
  rw [sum_hat _ o ho fun x hx => ?_]
  · refine Finset.sum_congr rfl fun r _ => ?_
    rw [dif_pos (show o + r.val < 128 by omega), dif_pos (show o ≤ o + r.val ∧ o + r.val - o < 16 by omega)]
    congr 2
    exact Fin.ext (by simp)
  · by_cases h1 : x.val < 128
    · rw [dif_pos h1, dif_neg (by omega)]
    · rw [dif_neg h1]

/-- The gate from such data. -/
theorem gate_real {z : FVec Ideal S256x128 .f32} {w : FVec Ideal S1x384x1024 .bf16} {b : FVec Ideal S1x1x1024 .f32} {Z : Fin 256 → Fin 128 → ℝ}
    {W : Fin 16 → Fin 1024 → ℝ} {B : Fin 1024 → ℝ} (o : ℕ) (ho : o + 16 ≤ 128) (hz : ∀ t i, z (ix2 t i) = (Z t i : EReal))
    (hw : ∀ x s, w (ix3 0 x s) = ((if h : x.val < 128 then (if g : o ≤ x.val ∧ x.val - o < 16 then W ⟨x.val - o, g.2⟩ s else 0)
      else if h : x.val - 128 < 128 then 0 else if g : o ≤ x.val - 256 ∧ x.val - 256 - o < 16 then W ⟨x.val - 256 - o, g.2⟩ s else 0 : ℝ) : EReal))
    (hb : ∀ s, b (ix3 0 0 s) = (B s : EReal)) (t : Fin 256) (s : Fin 1024) :
    gate z w b (ix2 t s) = ((logsig (∑ r : Fin 16, Z t ⟨o + r.val, by omega⟩ * W r s + B s) * (1 / 16) : ℝ) : EReal) :=
  gateL_real (gateX_real o ho hz hw hb t s)

end Cert.Gla

end
-- ==== Proof.Host.lean ====
/- What the region finds in the arrays the host builds: the padded gate weights, laid as high part, low part, high part, and the
   gate biases. -/
module

public import proofs.«01_k».proof.Proof.Head
public import Idealize.ShloMosaic.Lib.Pointwise
public import Idealize.ShloMosaic.Lib.ValueIdx
public import Idealize.ShloMosaic.Lib.Routing.OpsSet
public import Idealize.ShloMosaic.Lib.StableHlo.ReadAt

@[expose] public section

noncomputable section

namespace Cert.Gla

open Cert.KernelIdeal Cert.KernelIdeal.Gen Idealize.ShloMosaic Idealize.ShloMosaic.TcCoe Idealize.SL.Sem Idealize.ShloMosaic.Routing

/-- The scatter writes 16 rows of one of the two matrices. -/
abbrev pad := scatter_S2x128x1024_S2_S16x1024_01_0_01_0

/-- Where the padding writes a matrix: at the two words of its index, from column 0. -/
theorem pad_start (idx : IVec S2 32) (j : S16x1024.Idx) : pad.start j idx 0 = (idx (ix1 0)).toInt ∧ pad.start j idx 1 = (idx (ix1 1)).toInt ∧ pad.start j idx 2 = 0 := by
  refine ⟨?_, ?_, ?_⟩
  · unfold ScatterDims.start
    rw [dif_pos (by decide)]
    congr 2
    funext b
    match b with
    | ⟨0, _⟩ => rfl
  · unfold ScatterDims.start
    rw [dif_pos (by decide)]
    congr 2
    funext b
    match b with
    | ⟨0, _⟩ => rfl
  · unfold ScatterDims.start
    rw [dif_neg (by decide)]

/-- The place of an entry within the matrix that the padding writes. -/
theorem pad_window (j : S16x1024.Idx) : pad.window j 0 = 0 ∧ pad.window j 1 = (j 0).val ∧ pad.window j 2 = (j 1).val := by
  refine ⟨?_, ?_, ?_⟩
  · unfold ScatterDims.window
    rw [dif_neg (by decide)]
  · unfold ScatterDims.window
    rw [dif_pos (by decide)]
    rfl
  · unfold ScatterDims.window
    rw [dif_pos (by decide)]
    rfl

/-- Update `(r, c)` lands at row `start + r`, column `c` of the named matrix. -/
theorem pad_lands (idx : IVec S2 32) (r : Fin 16) (c : Fin 1024) (a : Fin 2) (i : Fin 128) (c' : Fin 1024) :
    pad.resultIdx? (ix2 r c) idx = some (ix3 a i c') ↔
      (idx (ix1 0)).toInt = a.val ∧ (idx (ix1 1)).toInt + r.val = i.val ∧ c = c' := by
  obtain ⟨s0, s1, s2⟩ := pad_start idx (ix2 r c)
  obtain ⟨w0, w1, w2⟩ := pad_window (ix2 r c)
  have e1 : ((ix2 r c : S16x1024.Idx) 0).val = r.val := rfl
  have e2 : ((ix2 r c : S16x1024.Idx) 1).val = c.val := rfl
  rw [e1] at w1; rw [e2] at w2
  unfold ScatterDims.resultIdx?
  constructor
  · intro h
    split at h
    · rename_i hb
      have h' := Option.some.inj h
      have h0 : (pad.start (ix2 r c) idx 0 + pad.window (ix2 r c) 0).toNat = a.val := congrArg Fin.val (congrFun h' 0)
      have h1 : (pad.start (ix2 r c) idx 1 + pad.window (ix2 r c) 1).toNat = i.val := congrArg Fin.val (congrFun h' 1)
      have h2 : (pad.start (ix2 r c) idx 2 + pad.window (ix2 r c) 2).toNat = c'.val := congrArg Fin.val (congrFun h' 2)
      have b0 := (hb 0).1
      have b1 := (hb 1).1
      rw [s0, w0] at h0 b0
      rw [s1, w1] at h1 b1
      rw [s2, w2] at h2
      exact ⟨by omega, by omega, Fin.ext (by omega)⟩
    · cases h
  · rintro ⟨h0, h1, rfl⟩
    have hb : ∀ x, 0 ≤ pad.start (ix2 r c) idx x + pad.window (ix2 r c) x ∧
        pad.start (ix2 r c) idx x + pad.window (ix2 r c) x < S2x128x1024.size x := fun x => by
      match x with
      | ⟨0, _⟩ =>
        have : S2x128x1024.size ⟨0, by decide⟩ = 2 := rfl
        have q0 : pad.start (ix2 r c) idx ⟨0, by decide⟩ = _ := s0
        have q1 : pad.window (ix2 r c) ⟨0, by decide⟩ = _ := w0
        rw [this, q0, q1]; omega
      | ⟨1, _⟩ =>
        have : S2x128x1024.size ⟨1, by decide⟩ = 128 := rfl
        have q0 : pad.start (ix2 r c) idx ⟨1, by decide⟩ = _ := s1
        have q1 : pad.window (ix2 r c) ⟨1, by decide⟩ = _ := w1
        rw [this, q0, q1]; omega
      | ⟨2, _⟩ =>
        have : S2x128x1024.size ⟨2, by decide⟩ = 1024 := rfl
        have q0 : pad.start (ix2 r c) idx ⟨2, by decide⟩ = _ := s2
        have q1 : pad.window (ix2 r c) ⟨2, by decide⟩ = _ := w2
        rw [this, q0, q1]; omega
    rw [dif_pos hb]
    congr 1
    funext x
    apply Fin.ext
    match x with
    | ⟨0, _⟩ =>
      show (pad.start (ix2 r c) idx 0 + pad.window (ix2 r c) 0).toNat = a.val
      rw [s0, w0]; omega
    | ⟨1, _⟩ =>
      show (pad.start (ix2 r c) idx 1 + pad.window (ix2 r c) 1).toNat = i.val
      rw [s1, w1]; omega
    | ⟨2, _⟩ =>
      show (pad.start (ix2 r c) idx 2 + pad.window (ix2 r c) 2).toNat = c.val
      rw [s2, w2]; omega

/-- The scatter at an element: the update's row where the element lies in the 16 rows written, else the operand. -/
theorem pad_apply {α : Type} (x : S2x128x1024.Idx → α) (idx : IVec S2 32) (u : S16x1024.Idx → α) (m s : ℕ)
    (h0 : (idx (ix1 0)).toInt = m) (h1 : (idx (ix1 1)).toInt = s) (a : Fin 2) (i : Fin 128) (c : Fin 1024) :
    Host.scatter pad (fun _ b => b) x idx u (ix3 a i c) =
      if h : a.val = m ∧ s ≤ i.val ∧ i.val - s < 16 then u (ix2 ⟨i.val - s, h.2.2⟩ c) else x (ix3 a i c) := by
  by_cases h : a.val = m ∧ s ≤ i.val ∧ i.val - s < 16
  · rw [dif_pos h]
    refine scatter_set_hit pad x idx u _ _ (fun k hk => ?_) (ix2 ⟨i.val - s, h.2.2⟩ c) ?_
    · rw [eq_ix2 k] at hk ⊢
      obtain ⟨_, q1, q2⟩ := (pad_lands idx (k 0) (k 1) a i c).1 hk
      have hk0 : k 0 = (⟨i.val - s, h.2.2⟩ : Fin 16) := Fin.ext (show (k 0).val = i.val - s by rw [h1] at q1; have := h.2; omega)
      rw [hk0, q2]
    · rw [pad_lands, h0, h1]
      refine ⟨by omega, ?_, rfl⟩
      show (s : Int) + ((i.val - s : ℕ) : Int) = _
      omega
  · rw [dif_neg h]
    refine scatter_set_miss pad x idx u _ fun k hk => h ?_
    rw [eq_ix2 k] at hk
    obtain ⟨q0, q1, _⟩ := (pad_lands idx (k 0) (k 1) a i c).1 hk
    rw [h0] at q0; rw [h1] at q1
    have : (k 0).val < 16 := (k 0).isLt
    refine ⟨by omega, by omega, by omega⟩

variable (m : (ℓ : Loc nD τ sig) → Buf (Elt Ideal) ℓ) (c : Dev nD)

/-- The gate biases the region finds: the argument's, one row per matrix. -/
theorem bias_apply (a : Fin 2) (x : Fin 1024) : V m c main_v18 (ix3 a 0 x) = m ((c : Thread nD τ).loc main_arg3) (ix2 a x) := by
  unfold V
  after_reads_at

/-- Two words as a vector. -/
def words (i j : BitVec 32) : IVec S2 32 :=
  concatenate S2 0 [⟨S1, broadcastInDim S1 ![] bcast_S_S1 (constantI S_ 32 i)⟩, ⟨S1, broadcastInDim S1 ![] bcast_S_S1 (constantI S_ 32 j)⟩] concatenates_S1_S1_S2_d0

/-- The two words, one by one. -/
theorem words_apply (i j : BitVec 32) : words i j (ix1 0) = i ∧ words i j (ix1 1) = j := by
  constructor <;> pointwise [words]

/-- The padded gate weights: matrix 0 has its 16 rows first, matrix 1 has its own in rows 16 to 31, zero elsewhere. -/
def wpad (w : FVec Ideal S2x16x1024 .f32) : FVec Ideal S2x128x1024 .f32 :=
  Host.scatter pad (fun _ b => b)
    (Host.scatter pad (fun _ b => b) (broadcastInDim S2x128x1024 ![] bcast_S_S2x128x1024 (constant S_ .f32 0x00000000#32)) (words 0#32 0#32)
      (shapeCast S16x1024 (extractStridedSlice S1x16x1024 ![0, 0, 0] w slices_S2x16x1024_S1x16x1024_0_0_0) shapeCasts_S1x16x1024_S16x1024))
    (words 1#32 16#32)
    (shapeCast S16x1024 (extractStridedSlice S1x16x1024 ![1, 0, 0] w slices_S2x16x1024_S1x16x1024_1_0_0) shapeCasts_S1x16x1024_S16x1024)

/-- The padded gate weights that the host computes. -/
theorem wpad_eq : (V m c main_v12 : FVec Ideal S2x128x1024 .f32) = wpad (m ((c : Thread nD τ).loc main_arg2)) := by
  unfold V
  after_reads_simp
  rfl

/-- The padded gate weights at an index. -/
theorem wpad_apply (w : FVec Ideal S2x16x1024 .f32) (a : Fin 2) (i : Fin 128) (x : Fin 1024) : (wpad w (ix3 a i x) : EReal) =
    if h : a.val = 1 ∧ 16 ≤ i.val ∧ i.val - 16 < 16 then w (ix3 1 ⟨i.val - 16, h.2.2⟩ x)
    else if h : a.val = 0 ∧ 0 ≤ i.val ∧ i.val - 0 < 16 then w (ix3 0 ⟨i.val - 0, h.2.2⟩ x) else 0 := by
  have r : ∀ (y : Fin 16), (shapeCast S16x1024 (extractStridedSlice S1x16x1024 ![0, 0, 0] w slices_S2x16x1024_S1x16x1024_0_0_0) shapeCasts_S1x16x1024_S16x1024 : FVec Ideal S16x1024 .f32) (ix2 y x)
      = w (ix3 0 y x) := fun y => by pointwise
  have r' : ∀ (y : Fin 16), (shapeCast S16x1024 (extractStridedSlice S1x16x1024 ![1, 0, 0] w slices_S2x16x1024_S1x16x1024_1_0_0) shapeCasts_S1x16x1024_S16x1024 : FVec Ideal S16x1024 .f32) (ix2 y x)
      = w (ix3 1 y x) := fun y => by pointwise
  have z : (broadcastInDim S2x128x1024 ![] bcast_S_S2x128x1024 (constant S_ .f32 0x00000000#32) : FVec Ideal S2x128x1024 .f32) (ix3 a i x) = (0 : EReal) := by
    pointwise
  unfold wpad
  rw [pad_apply _ _ _ 1 16 (by rw [(words_apply _ _).1]; rfl) (by rw [(words_apply _ _).2]; rfl),
    pad_apply _ _ _ 0 0 (by rw [(words_apply _ _).1]; rfl) (by rw [(words_apply _ _).2]; rfl), z]
  simp only [r, r']

/-- High part, low part, high part of the gate weights, one below the other. -/
def wcat (w : FVec Ideal S2x128x1024 .f32) : FVec Ideal S2x384x1024 .bf16 :=
  concatenate S2x384x1024 1 [⟨S2x128x1024, truncf .bf16 w bitsLt_bf16_f32⟩,
    ⟨S2x128x1024, truncf .bf16 (subf w (extf .f32 (truncf .bf16 w bitsLt_bf16_f32) bitsLt_bf16_f32)) bitsLt_bf16_f32⟩,
    ⟨S2x128x1024, truncf .bf16 w bitsLt_bf16_f32⟩] concatenates_S2x128x1024_S2x128x1024_S2x128x1024_S2x384x1024_d1

/-- The three-part gate weights that the host hands to the call. -/
theorem wup_eq : (V m c main_v17 : FVec Ideal S2x384x1024 .bf16) = wcat (wpad (m ((c : Thread nD τ).loc main_arg2))) := by
  have e13 : (StableHlo.upto hostOps0 (fun b => m (c, b)) 22 (Proc.tc.devRef main_v13) : FVec Ideal S2x128x1024 .bf16) =
      truncf .bf16 (wpad (m ((c : Thread nD τ).loc main_arg2))) bitsLt_bf16_f32 := by
    after_reads_simp
    rfl
  have e16 : (StableHlo.upto hostOps0 (fun b => m (c, b)) 22 (Proc.tc.devRef main_v16) : FVec Ideal S2x128x1024 .bf16) =
      truncf .bf16 (subf (wpad (m ((c : Thread nD τ).loc main_arg2)))
        (extf .f32 (truncf .bf16 (wpad (m ((c : Thread nD τ).loc main_arg2))) bitsLt_bf16_f32) bitsLt_bf16_f32)) bitsLt_bf16_f32 := by
    after_reads_simp
    rfl
  unfold V
  after_reads_simp
  change concatenate S2x384x1024 1 [⟨S2x128x1024, (StableHlo.upto hostOps0 (fun b => m (c, b)) 22 (Proc.tc.devRef main_v13) : FVec Ideal S2x128x1024 .bf16)⟩,
    ⟨S2x128x1024, (StableHlo.upto hostOps0 (fun b => m (c, b)) 22 (Proc.tc.devRef main_v16) : FVec Ideal S2x128x1024 .bf16)⟩,
    ⟨S2x128x1024, (StableHlo.upto hostOps0 (fun b => m (c, b)) 22 (Proc.tc.devRef main_v13) : FVec Ideal S2x128x1024 .bf16)⟩] _ = _
  rw [e13, e16]
  rfl

/-- The three-part gate weights at an index: the weights, what rounding lost of them, and the weights again. -/
theorem wcat_apply (w : FVec Ideal S2x128x1024 .f32) (a : Fin 2) (i : Fin 384) (x : Fin 1024) : wcat w (ix3 a i x) =
     (if h : i.val < 128 then w (ix3 a ⟨i.val, h⟩ x) else if h : i.val - 128 < 128 then
       w (ix3 a ⟨i.val - 128, h⟩ x) - w (ix3 a ⟨i.val - 128, h⟩ x)
      else w (ix3 a ⟨i.val - 128 - 128, by omega⟩ x) : EReal) := by
  pointwise [wcat]

end Cert.Gla

end
-- ==== Proof.Points.lean ====
/- What one grid point reads: each window's block, element by element, from the arrays of the call. -/
module

public import proofs.«01_k».proof.Proof.Host
public import Idealize.ShloMosaic.Lib.Pipeline.ValueKit.Point

@[expose] public section

noncomputable section

namespace Cert.Gla

open Cert.KernelIdeal Cert.KernelIdeal.Gen Idealize.ShloMosaic Idealize.ShloMosaic.TcCoe Idealize.SL.Sem

/-- The block row a grid point works on, forward: the context block of the sequence first, then its latent blocks in order. -/
def browF (t : Fin cfg0.N) : ℕ := if t.val % 17 = 0 then 64 + t.val / 17 else 16 * (t.val / 17) + t.val % 17 - 1
/-- The block row a grid point works on, backward: the context block first, then the latent blocks from the last. -/
def browB (t : Fin cfg0.N) : ℕ := if t.val % 17 = 0 then 64 + t.val / 17 else 16 * (t.val / 17) + 16 - t.val % 17

/-- A grid point is one of 68. -/
theorem point_lt (t : Fin cfg0.N) : t.val < 68 := lt_of_lt_of_eq t.isLt N_0
/-- A forward block row is one of 68. -/
theorem browF_lt (t : Fin cfg0.N) : browF t < 68 := by
  have := point_lt t
  unfold browF; split <;> omega
/-- A backward block row is one of 68. -/
theorem browB_lt (t : Fin cfg0.N) : browB t < 68 := by
  have := point_lt t
  unfold browB; split <;> omega

/-- The block index of each forward window. -/
theorem idxF : ∀ t : Fin cfg0.N, win0_0.index t = ![browF t, 0] ∧ win0_1.index t = ![browF t, 1] ∧ win0_2.index t = ![browF t, 1] ∧
    win0_3.index t = ![browF t, 0] ∧ win0_12.index t = ![browF t, 0] := by decide +kernel
/-- The block index of each backward window. -/
theorem idxB : ∀ t : Fin cfg0.N, win0_4.index t = ![browB t, 0] ∧ win0_5.index t = ![browB t, 1] ∧ win0_6.index t = ![browB t, 1] ∧
    win0_7.index t = ![browB t, 0] ∧ win0_13.index t = ![browB t, 0] := by decide +kernel
/-- The block index of the weights' and the biases' windows: the direction. -/
theorem idxW : ∀ t : Fin cfg0.N, win0_8.index t = ![0, 0, 0] ∧ win0_9.index t = ![1, 0, 0] ∧ win0_10.index t = ![0, 0, 0] ∧
    win0_11.index t = ![1, 0, 0] := by decide +kernel

/-- Row `r` of a block row, in the array. -/
def inRow (b : ℕ) (hb : b < 68) (r : Fin 256) : Fin 17408 := ⟨256 * b + r.val, by omega⟩

variable (m : (ℓ : Loc nD τ sig) → Buf (Elt Ideal) ℓ) (c : Dev nD) (t : Fin cfg0.N)

/-- Forward queries. -/
theorem blk0 (r : Fin 256) (x : Fin 1024) : iblk m c 0 t (ix2 r x) =
    m ((c : Thread nD τ).loc main_arg0) (ix2 (inRow (browF t) (browF_lt t) r) ⟨x.val, by omega⟩) := by
  unfold inRow; blk_ext! [iblk, V, idxF t]
/-- Forward keys. -/
theorem blk1 (r : Fin 256) (x : Fin 1024) : iblk m c 1 t (ix2 r x) =
    m ((c : Thread nD τ).loc main_arg0) (ix2 (inRow (browF t) (browF_lt t) r) ⟨1024 + x.val, by omega⟩) := by
  unfold inRow; blk_ext! [iblk, V, idxF t]
/-- Forward values. -/
theorem blk2 (r : Fin 256) (x : Fin 2048) : iblk m c 2 t (ix2 r x) =
    m ((c : Thread nD τ).loc main_arg0) (ix2 (inRow (browF t) (browF_lt t) r) ⟨2048 + x.val, by omega⟩) := by
  unfold inRow; blk_ext! [iblk, V, idxF t]
/-- Forward gate codes. -/
theorem blk3 (r : Fin 256) (x : Fin 128) : iblk m c 3 t (ix2 r x) =
    m ((c : Thread nD τ).loc main_arg1) (ix2 (inRow (browF t) (browF_lt t) r) x) := by
  unfold inRow; blk_ext! [iblk, V, idxF t]
/-- Backward queries. -/
theorem blk4 (r : Fin 256) (x : Fin 1024) : iblk m c 4 t (ix2 r x) =
    m ((c : Thread nD τ).loc main_arg0) (ix2 (inRow (browB t) (browB_lt t) r) ⟨x.val, by omega⟩) := by
  unfold inRow; blk_ext! [iblk, V, idxB t]
/-- Backward keys. -/
theorem blk5 (r : Fin 256) (x : Fin 1024) : iblk m c 5 t (ix2 r x) =
    m ((c : Thread nD τ).loc main_arg0) (ix2 (inRow (browB t) (browB_lt t) r) ⟨1024 + x.val, by omega⟩) := by
  unfold inRow; blk_ext! [iblk, V, idxB t]
/-- Backward values. -/
theorem blk6 (r : Fin 256) (x : Fin 2048) : iblk m c 6 t (ix2 r x) =
    m ((c : Thread nD τ).loc main_arg0) (ix2 (inRow (browB t) (browB_lt t) r) ⟨2048 + x.val, by omega⟩) := by
  unfold inRow; blk_ext! [iblk, V, idxB t]
/-- Backward gate codes. -/
theorem blk7 (r : Fin 256) (x : Fin 128) : iblk m c 7 t (ix2 r x) =
    m ((c : Thread nD τ).loc main_arg1) (ix2 (inRow (browB t) (browB_lt t) r) x) := by
  unfold inRow; blk_ext! [iblk, V, idxB t]
/-- Forward weights, as the prelude lays them out. -/
theorem blk8 (x : Fin 384) (s : Fin 1024) : iblk m c 8 t (ix3 0 x s) = V m c main_v17 (ix3 0 x s) := by
  unfold iblk; blk_ext [idxW t]
/-- Backward weights. -/
theorem blk9 (x : Fin 384) (s : Fin 1024) : iblk m c 9 t (ix3 0 x s) = V m c main_v17 (ix3 1 x s) := by
  unfold iblk; blk_ext [idxW t]
/-- Forward bias. -/
theorem blk10 (s : Fin 1024) : iblk m c 10 t (ix3 0 0 s) = V m c main_v18 (ix3 0 0 s) := by
  unfold iblk; blk_ext [idxW t]
/-- Backward bias. -/
theorem blk11 (s : Fin 1024) : iblk m c 11 t (ix3 0 0 s) = V m c main_v18 (ix3 1 0 s) := by
  unfold iblk; blk_ext [idxW t]

end Cert.Gla

end
-- ==== Proof.Fold.lean ====
/- What the grid computes: by induction over its points, the state carried from block to block and the outputs written are the
   recurrence's closed form (`Seq`) over the rows of the point's sequence, in the order of its direction. -/
module

public import proofs.«01_k».proof.Proof.Blocks
public import proofs.«01_k».proof.Proof.Seq
public import proofs.«01_k».proof.Proof.Gate
public import proofs.«01_k».proof.Proof.Points

@[expose] public section

noncomputable section

namespace Cert.Gla

open Cert.KernelIdeal Cert.KernelIdeal.Gen Idealize.ShloMosaic Idealize.ShloMosaic.TcCoe Idealize.SL.Sem

/-- Under the last of several stores, a block holds what was stored. -/
theorem hit {S : Shape} {e : EltTy} {off size : Fin S.rank → ℕ} {inb} (w : (Rect.unit (s := S) off size inb).shape.Idx → Elt Ideal e)
    (L : List (View.Piece (Elt Ideal) S e)) {y : S.Idx} (x : (Rect.unit (s := S) off size inb).shape.Idx) (hx : ∀ a, (y a : ℕ) = off a + (x a : ℕ)) :
    View.canon (⟨Rect.unit off size inb, w⟩ :: L) y = w x := by
  have : y = (Rect.unit (s := S) off size inb).emb x := by
    funext a; apply Fin.ext; rw [hx a, Rect.emb_apply, Rect.off_unit, Rect.stride_unit, Nat.one_mul]
  rw [this, View.canon_cons_emb]

/-- Off the last of several stores, it holds what the earlier ones left. -/
theorem miss {S : Shape} {e : EltTy} {off size : Fin S.rank → ℕ} {inb} (w : (Rect.unit (s := S) off size inb).shape.Idx → Elt Ideal e)
    (L : List (View.Piece (Elt Ideal) S e)) {y : S.Idx} (a : Fin S.rank) (ha : (y a : ℕ) < off a ∨ off a + size a ≤ (y a : ℕ)) :
    View.canon (⟨Rect.unit off size inb, w⟩ :: L) y = View.canon L y := by
  refine View.canon_cons_of_not_mem _ L fun hy => ?_
  have := (Rect.mem_set_unit (inb := inb)).mp hy a
  omega

/-- A block's output at head `h`'s columns is head `h`'s output. -/
theorem piecesO_apply (o : Fin 4 → FVec Ideal S256x512 .bf16) (h : Fin 4) (t : Fin 256) (e : Fin 512) :
    View.canon (piecesO o) (ix2 t (he h e)) = o h (ix2 t e) := by
  have := e.isLt
  unfold piecesO
  match h with
  | 3 => exact hit (S := S256x2048) _ _ (ix2 t e) fun a => by fin_cases a <;> simp [he] <;> rfl
  | 2 =>
    rw [miss (S := S256x2048) _ _ 1 (.inl (by show 512 * 2 + e.val < 1536; omega))]
    exact hit (S := S256x2048) _ _ (ix2 t e) fun a => by fin_cases a <;> simp [he] <;> rfl
  | 1 =>
    rw [miss (S := S256x2048) _ _ 1 (.inl (by show 512 * 1 + e.val < 1536; omega)), miss (S := S256x2048) _ _ 1 (.inl (by show 512 * 1 + e.val < 1024; omega))]
    exact hit (S := S256x2048) _ _ (ix2 t e) fun a => by fin_cases a <;> simp [he] <;> rfl
  | 0 =>
    rw [miss (S := S256x2048) _ _ 1 (.inl (by show 512 * 0 + e.val < 1536; omega)), miss (S := S256x2048) _ _ 1 (.inl (by show 512 * 0 + e.val < 1024; omega)),
      miss (S := S256x2048) _ _ 1 (.inl (by show 512 * 0 + e.val < 512; omega))]
    exact hit (S := S256x2048) _ _ (ix2 t e) fun a => by fin_cases a <;> simp [he] <;> rfl

/-- The carried state at head `h` is head `h`'s state. -/
theorem piecesS_apply (s : Fin 4 → FVec Ideal S1x512x256 .f32) (L : List (View.Piece (Elt Ideal) S4x512x256 .f32)) (h : Fin 4) (e : Fin 512) (d : Fin 256) :
    View.canon (piecesS s L) (ix3 h e d) = s h (ix3 0 e d) := by
  unfold piecesS
  match h with
  | 3 => exact hit (S := S4x512x256) _ _ (ix3 0 e d) fun a => by fin_cases a <;> simp <;> rfl
  | 2 =>
    rw [miss (S := S4x512x256) _ _ 0 (.inl (by show 2 < 3; omega))]
    exact hit (S := S4x512x256) _ _ (ix3 0 e d) fun a => by fin_cases a <;> simp <;> rfl
  | 1 =>
    rw [miss (S := S4x512x256) _ _ 0 (.inl (by show 1 < 3; omega)), miss (S := S4x512x256) _ _ 0 (.inl (by show 1 < 2; omega))]
    exact hit (S := S4x512x256) _ _ (ix3 0 e d) fun a => by fin_cases a <;> simp <;> rfl
  | 0 =>
    rw [miss (S := S4x512x256) _ _ 0 (.inl (by show 0 < 3; omega)), miss (S := S4x512x256) _ _ 0 (.inl (by show 0 < 2; omega)),
      miss (S := S4x512x256) _ _ 0 (.inl (by show 0 < 1; omega))]
    exact hit (S := S4x512x256) _ _ (ix3 0 e d) fun a => by fin_cases a <;> simp <;> rfl

/-- The call's arguments as real numbers. -/
structure Data where
  /-- queries, keys and values, side by side -/
  p : Fin 17408 → Fin 6144 → ℝ
  /-- gate codes -/
  z : Fin 17408 → Fin 128 → ℝ
  /-- gate weights of the two directions -/
  w : Fin 2 → Fin 16 → Fin 1024 → ℝ
  /-- gate biases of the two directions -/
  b : Fin 2 → Fin 1024 → ℝ

/-- The arguments hold these real numbers. -/
structure Data.Of (D : Data) (x0 : FVec Ideal S17408x6144 .bf16) (x1 : FVec Ideal S17408x128 .f32) (x2 : FVec Ideal S2x16x1024 .f32)
    (x3 : FVec Ideal S2x1024 .f32) : Prop where
  /-- queries, keys and values -/
  p : ∀ r x, x0 (ix2 r x) = (D.p r x : EReal)
  /-- gate codes -/
  z : ∀ r x, x1 (ix2 r x) = (D.z r x : EReal)
  /-- gate weights -/
  w : ∀ a i x, x2 (ix3 a i x) = (D.w a i x : EReal)
  /-- gate biases -/
  b : ∀ a x, x3 (ix2 a x) = (D.b a x : EReal)

/-- The gate of direction `a` at a row. -/
def Data.gate (D : Data) (a : Fin 2) (r : Fin 17408) (s : Fin 1024) : ℝ :=
  logsig (∑ i : Fin 16, D.z r ⟨16 * a.val + i.val, by omega⟩ * D.w a i s + D.b a s) * (1 / 16)

/-- The row at position `j` of sequence `b`: its 256 context rows first, then its 4096 latent rows; each part from its end in
    direction 1. -/
def rowN (a : Fin 2) (b j : ℕ) : ℕ :=
  if j < 256 then 16384 + 256 * b + (if a = 0 then j else 255 - j) else 4096 * b + (if a = 0 then j - 256 else 4095 - (j - 256))

/-- The same as an index of the arrays. -/
def rowAt (a : Fin 2) (b j : ℕ) : Fin 17408 := ⟨rowN a b j % 17408, Nat.mod_lt _ (by norm_num)⟩

/-- The sequences of head `h`, in direction `a`. -/
def Data.seqs (D : Data) (a : Fin 2) (b : ℕ) (h : Fin 4) : Seqs where
  q j d := D.p (rowAt a b j) ⟨256 * h.val + d.val, by omega⟩
  k j d := D.p (rowAt a b j) ⟨1024 + (256 * h.val + d.val), by omega⟩
  v j e := D.p (rowAt a b j) ⟨2048 + (512 * h.val + e.val), by omega⟩
  g j d := D.gate a (rowAt a b j) (hd h d)

/-- A forward point's rows are the next 256 of its sequence. -/
theorem rowF (t : Fin cfg0.N) (r : Fin 256) : inRow (browF t) (browF_lt t) r = rowAt 0 (t.val / 17) (256 * (t.val % 17) + (id r : Fin 256).val) := by
  have := point_lt t
  have hr := r.isLt
  apply Fin.ext
  simp only [inRow, rowAt, rowN, browF, id, if_true]
  split <;> split <;> omega

/-- A backward point's rows are the next 256 of its sequence. -/
theorem rowB (t : Fin cfg0.N) (r : Fin 256) : inRow (browB t) (browB_lt t) r = rowAt 1 (t.val / 17) (256 * (t.val % 17) + (Fin.rev r).val) := by
  have := point_lt t
  have hr := r.isLt
  have hv := Fin.val_rev r
  apply Fin.ext
  simp only [inRow, rowAt, rowN, browB, hv, show ¬((1 : Fin 2) = 0) by decide, if_false]
  split <;> split <;> omega

/-- What one direction of a point reads, as real numbers: block `n` of the sequences. -/
structure Reads (π : Fin 256 → Fin 256) (D : Data) (a : Fin 2) (b n : ℕ) (q k : Vec Ideal S256x1024 .bf16) (v : Vec Ideal S256x2048 .bf16)
    (g : FVec Ideal S256x1024 .f32) : Prop where
  /-- queries -/
  q : ∀ h t d, q (ix2 t (hd h d)) = ((D.seqs a b h).q (256 * n + (π t).val) d : EReal)
  /-- keys -/
  k : ∀ h t d, k (ix2 t (hd h d)) = ((D.seqs a b h).k (256 * n + (π t).val) d : EReal)
  /-- values -/
  v : ∀ h t e, v (ix2 t (he h e)) = ((D.seqs a b h).v (256 * n + (π t).val) e : EReal)
  /-- gates -/
  g : ∀ t s, g (ix2 t s) = (D.gate a (rowAt a b (256 * n + (π t).val)) s : EReal)

section
variable {dist : IVec S256x256 32} {caus : IVec S256x256 1} {π : Fin 256 → Fin 256} {p : Fin 4 → ℕ}
  {dec : FVec Ideal S256x256 .f32 → Decays Ideal} {rd : (Fin 256 → Fin 256 → ℝ) → RDec} {D : Data} {a : Fin 2} {b n : ℕ}
  {q k : Vec Ideal S256x1024 .bf16} {v : Vec Ideal S256x2048 .bf16} {g : FVec Ideal S256x1024 .f32} {st : Fin 4 → FVec Ideal S1x512x256 .f32}

/-- A head's sums along a chunk. -/
theorem Reads.sums (R : Reads π D a b n q k v g) (W : Way dist caus π p dec rd) (h : Fin 4) (t d : Fin 256) :
    cut h (cums caus g) (ix2 t d) = (along π (fun t d => (D.seqs a b h).g (256 * n + (π t).val) d) t d : EReal) := by
  rw [cut_apply, cums_real W.dir R.g]; rfl

/-- A direction of a point writes the outputs of its block. -/
theorem Reads.out (R : Reads π D a b n q k v g) (W : Way dist caus π p dec rd) (h : Fin 4)
    (hS : ∀ e d, st h (ix3 0 e d) = ((D.seqs a b h).state (256 * n) e d : EReal)) (t : Fin 256) (e : Fin 512) :
    headO dist caus (cutK h q) (cutK h k) (cutV h v) (cut h (cums caus g)) (dec (cut h (cums caus g))) (st h) (ix2 t e) =
      ((D.seqs a b h).out (256 * n + (π t).val) e : EReal) :=
  W.out (fun t d => by rw [cutK_apply, R.q]) (fun t d => by rw [cutK_apply, R.k]) (fun t e => by rw [cutV_apply, R.v]) (R.sums W h) hS t e

/-- A direction of a point leaves the state after its block. -/
theorem Reads.state (R : Reads π D a b n q k v g) (W : Way dist caus π p dec rd) (h : Fin 4)
    (hS : ∀ e d, st h (ix3 0 e d) = ((D.seqs a b h).state (256 * n) e d : EReal)) (e : Fin 512) (d : Fin 256) :
    headS (cutK h k) (cutV h v) (cut h (cums caus g)) (dec (cut h (cums caus g))) (st h) (ix3 0 e d) =
      ((D.seqs a b h).state (256 * (n + 1)) e d : EReal) :=
  W.state (fun t d => by rw [cutK_apply, R.k]) (fun t e => by rw [cutV_apply, R.v]) (R.sums W h) hS e d

/-- The forward outputs of a point. -/
theorem Reads.outF (R : Reads id D a b n q k v g) (h : Fin 4) (hS : ∀ e d, st h (ix3 0 e d) = ((D.seqs a b h).state (256 * n) e d : EReal))
    (t : Fin 256) (e : Fin 512) : Gla.outF q k v g st h (ix2 t e) = ((D.seqs a b h).out (256 * n + (id t : Fin 256).val) e : EReal) := by
  unfold Gla.outF; exact R.out wayF h hS t e
/-- The backward outputs of a point. -/
theorem Reads.outB (R : Reads Fin.rev D a b n q k v g) (h : Fin 4) (hS : ∀ e d, st h (ix3 0 e d) = ((D.seqs a b h).state (256 * n) e d : EReal))
    (t : Fin 256) (e : Fin 512) : Gla.outB q k v g st h (ix2 t e) = ((D.seqs a b h).out (256 * n + (Fin.rev t).val) e : EReal) := by
  unfold Gla.outB; exact R.out wayB h hS t e
/-- The forward states of a point. -/
theorem Reads.stF (R : Reads id D a b n q k v g) (h : Fin 4) (hS : ∀ e d, st h (ix3 0 e d) = ((D.seqs a b h).state (256 * n) e d : EReal))
    (e : Fin 512) (d : Fin 256) : Gla.stF k v g st h (ix3 0 e d) = ((D.seqs a b h).state (256 * (n + 1)) e d : EReal) := by
  unfold Gla.stF; exact R.state wayF h hS e d
/-- The backward states of a point. -/
theorem Reads.stB (R : Reads Fin.rev D a b n q k v g) (h : Fin 4) (hS : ∀ e d, st h (ix3 0 e d) = ((D.seqs a b h).state (256 * n) e d : EReal))
    (e : Fin 512) (d : Fin 256) : Gla.stB k v g st h (ix3 0 e d) = ((D.seqs a b h).state (256 * (n + 1)) e d : EReal) := by
  unfold Gla.stB; exact R.state wayB h hS e d
end

section
variable {D : Data} {x2 : FVec Ideal S2x16x1024 .f32}

/-- The weights the region finds, as real numbers. -/
theorem weights_real (hw : ∀ a i x, x2 (ix3 a i x) = (D.w a i x : EReal)) (a : Fin 2) (x : Fin 384) (s : Fin 1024) :
    wcat (wpad x2) (ix3 a x s) = ((if h : x.val < 128 then (if g : 16 * a.val ≤ x.val ∧ x.val - 16 * a.val < 16 then D.w a ⟨x.val - 16 * a.val, g.2⟩ s else 0)
      else if h : x.val - 128 < 128 then 0 else if g : 16 * a.val ≤ x.val - 256 ∧ x.val - 256 - 16 * a.val < 16 then
        D.w a ⟨x.val - 256 - 16 * a.val, g.2⟩ s else 0 : ℝ) : EReal) := by
  have hp : ∀ i : Fin 128, (wpad x2 (ix3 a i s) : EReal) =
      ((if g : 16 * a.val ≤ i.val ∧ i.val - 16 * a.val < 16 then D.w a ⟨i.val - 16 * a.val, g.2⟩ s else 0 : ℝ) : EReal) := fun i => by
    rw [wpad_apply]
    match a with
    | 0 =>
      rw [dif_neg (fun h => absurd h.1 (by decide))]
      by_cases h : i.val < 16
      · rw [dif_pos ⟨rfl, Nat.zero_le _, h⟩, dif_pos ⟨Nat.zero_le _, h⟩, hw]; rfl
      · rw [dif_neg (fun h' => h h'.2.2), dif_neg (fun h' => h h'.2)]; rfl
    | 1 =>
      show _ = ((if g : 16 ≤ i.val ∧ i.val - 16 < 16 then D.w 1 ⟨i.val - 16, g.2⟩ s else 0 : ℝ) : EReal)
      by_cases h : 16 ≤ i.val ∧ i.val - 16 < 16
      · rw [dif_pos ⟨rfl, h⟩, dif_pos h, hw]
      · rw [dif_neg (fun h' => h h'.2), dif_neg (fun h' => absurd h'.1 (by decide)), dif_neg h]; rfl
  rw [wcat_apply]
  by_cases h1 : x.val < 128
  · rw [dif_pos h1, dif_pos h1, hp]
  · rw [dif_neg h1, dif_neg h1]
    by_cases h2 : x.val - 128 < 128
    · rw [dif_pos h2, dif_pos h2, hp, ← EReal.coe_sub, sub_self]
    · rw [dif_neg h2, dif_neg h2, hp]
      simp only [show x.val - 128 - 128 = x.val - 256 by omega]
end

section
variable (m : (ℓ : Loc nD τ sig) → Buf (Elt Ideal) ℓ) (c : Dev nD) {D : Data}
  (H : D.Of (m ((c : Thread nD τ).loc main_arg0)) (m ((c : Thread nD τ).loc main_arg1)) (m ((c : Thread nD τ).loc main_arg2)) (m ((c : Thread nD τ).loc main_arg3)))
include H

/-- What the forward direction of a point reads. -/
theorem readsF (t : Fin cfg0.N) : Reads id D 0 (t.val / 17) (t.val % 17) (iblk m c 0 t) (iblk m c 1 t) (iblk m c 2 t)
    (gate (iblk m c 3 t) (iblk m c 8 t) (iblk m c 10 t)) where
  q h r d := by rw [blk0, H.p, rowF]; rfl
  k h r d := by rw [blk1, H.p, rowF]; rfl
  v h r e := by rw [blk2, H.p, rowF]; rfl
  g r s := by
    rw [gate_real (Z := fun r x => D.z (inRow (browF t) (browF_lt t) r) x) (W := D.w 0) (B := D.b 0) 0 (by norm_num)
      (fun r x => by rw [blk3, H.z]) (fun x s => by rw [blk8, wup_eq]; exact weights_real H.w 0 x s) (fun s => by rw [blk10, bias_apply, H.b]) r s, rowF]
    rfl

/-- What the backward direction of a point reads. -/
theorem readsB (t : Fin cfg0.N) : Reads Fin.rev D 1 (t.val / 17) (t.val % 17) (iblk m c 4 t) (iblk m c 5 t) (iblk m c 6 t)
    (gate (iblk m c 7 t) (iblk m c 9 t) (iblk m c 11 t)) where
  q h r d := by rw [blk4, H.p, rowB]; rfl
  k h r d := by rw [blk5, H.p, rowB]; rfl
  v h r e := by rw [blk6, H.p, rowB]; rfl
  g r s := by
    rw [gate_real (Z := fun r x => D.z (inRow (browB t) (browB_lt t) r) x) (W := D.w 1) (B := D.b 1) 16 (by norm_num)
      (fun r x => by rw [blk7, H.z]) (fun x s => by rw [blk9, wup_eq]; exact weights_real H.w 1 x s) (fun s => by rw [blk11, bias_apply, H.b]) r s, rowB]
    rfl

omit H in
/-- What a point leaves, from the states `sF` and `sB` it finds: nothing at a sequence's first point, what the point before left
    at a later one. -/
theorem point (t : Fin cfg0.N) : ∃ (sF sB : Fin 4 → FVec Ideal S1x512x256 .f32) (LF LB : List (View.Piece (Elt Ideal) S4x512x256 .f32)),
    (outsAt0 m c t.val t.isLt).1 = View.canon (piecesO (outF (iblk m c 0 t) (iblk m c 1 t) (iblk m c 2 t) (gate (iblk m c 3 t) (iblk m c 8 t) (iblk m c 10 t)) sF)) ∧
    (outsAt0 m c t.val t.isLt).2.1 = View.canon (piecesO (outB (iblk m c 4 t) (iblk m c 5 t) (iblk m c 6 t) (gate (iblk m c 7 t) (iblk m c 9 t) (iblk m c 11 t)) sB)) ∧
    (outsAt0 m c t.val t.isLt).2.2.1 = View.canon (piecesS (stF (iblk m c 1 t) (iblk m c 2 t) (gate (iblk m c 3 t) (iblk m c 8 t) (iblk m c 10 t)) sF) LF) ∧
    (outsAt0 m c t.val t.isLt).2.2.2 = View.canon (piecesS (stB (iblk m c 5 t) (iblk m c 6 t) (gate (iblk m c 7 t) (iblk m c 9 t) (iblk m c 11 t)) sB) LB) ∧
    (t.val % 17 = 0 → sF = (fun h => cutS (F := Ideal) h (k0_pay2 (F := Ideal))) ∧ sB = (fun h => cutS (F := Ideal) h (k0_pay3 (F := Ideal)))) ∧
    (¬t.val % 17 = 0 → sF = (fun h => cutS h (outsAt0 m c (t.val - 1) (Nat.lt_of_le_of_lt (Nat.sub_le _ _) t.isLt)).2.2.1) ∧
      sB = (fun h => cutS h (outsAt0 m c (t.val - 1) (Nat.lt_of_le_of_lt (Nat.sub_le _ _) t.isLt)).2.2.2)) := by
  by_cases h0 : t.val % 17 = 0
  · refine ⟨fun h => cutS (F := Ideal) h (k0_pay2 (F := Ideal)), fun h => cutS (F := Ideal) h (k0_pay3 (F := Ideal)), [fill (F := Ideal) (k0_pay2 (F := Ideal))], [fill (F := Ideal) (k0_pay3 (F := Ideal))], ?_, ?_, ?_, ?_, fun _ => ⟨rfl, rfl⟩, fun h => absurd h0 h⟩
    · rw [outsAt0_A m c t h0, out_A_12]
    · rw [outsAt0_A m c t h0, out_A_13]
    · rw [outsAt0_A m c t h0, sout_A_0]
    · rw [outsAt0_A m c t h0, sout_A_1]
  · refine ⟨fun h => cutS h (outsAt0 m c (t.val - 1) (Nat.lt_of_le_of_lt (Nat.sub_le _ _) t.isLt)).2.2.1, fun h => cutS h (outsAt0 m c (t.val - 1) (Nat.lt_of_le_of_lt (Nat.sub_le _ _) t.isLt)).2.2.2, [], [], ?_, ?_, ?_, ?_, fun h => absurd h h0, fun _ => ⟨rfl, rfl⟩⟩
    · rw [outsAt0_B m c t h0, out_B_12]
    · rw [outsAt0_B m c t h0, out_B_13]
    · rw [outsAt0_B m c t h0, sout_B_0]
    · rw [outsAt0_B m c t h0, sout_B_1]

omit H in
/-- The state a sequence starts from is zero. -/
theorem start_zero (h : Fin 4) (e : Fin 512) (d : Fin 256) :
    cutS (F := Ideal) h (k0_pay2 (F := Ideal)) (ix3 0 e d) = ((0 : ℝ) : EReal) ∧ cutS (F := Ideal) h (k0_pay3 (F := Ideal)) (ix3 0 e d) = ((0 : ℝ) : EReal) := by
  rw [cutS_apply, cutS_apply]
  constructor
  · pointwise [k0_pay2]; rfl
  · pointwise [k0_pay3]; rfl

/-- The states carried past each point. -/
theorem carried : ∀ (n : ℕ) (hn : n < cfg0.N), (∀ h e d, (outsAt0 m c n hn).2.2.1 (ix3 h e d) = ((D.seqs 0 (n / 17) h).state (256 * (n % 17 + 1)) e d : EReal)) ∧
    (∀ h e d, (outsAt0 m c n hn).2.2.2 (ix3 h e d) = ((D.seqs 1 (n / 17) h).state (256 * (n % 17 + 1)) e d : EReal)) := by
  intro n
  induction n using Nat.strong_induction_on with
  | _ n ih =>
    intro hn
    obtain ⟨sF, sB, LF, LB, e1, e2, e3, e4, hA, hB⟩ := point m c ⟨n, hn⟩
    have hs : (∀ h e d, sF h (ix3 0 e d) = ((D.seqs 0 (n / 17) h).state (256 * (n % 17)) e d : EReal)) ∧
        (∀ h e d, sB h (ix3 0 e d) = ((D.seqs 1 (n / 17) h).state (256 * (n % 17)) e d : EReal)) := by
      by_cases h0 : n % 17 = 0
      · obtain ⟨rfl, rfl⟩ := hA h0
        rw [h0]
        exact ⟨fun h e d => (start_zero h e d).1, fun h e d => (start_zero h e d).2⟩
      · obtain ⟨rfl, rfl⟩ := hB h0
        have i := ih (n - 1) (by omega) (Nat.lt_of_le_of_lt (Nat.sub_le _ _) hn)
        rw [show (n - 1) / 17 = n / 17 by omega, show (n - 1) % 17 + 1 = n % 17 by omega] at i
        exact ⟨fun h e d => (cutS_apply h _ e d).trans (i.1 h e d), fun h e d => (cutS_apply h _ e d).trans (i.2 h e d)⟩
    exact ⟨fun h e d => by rw [e3, piecesS_apply, (readsF m c H ⟨n, hn⟩).stF h (hs.1 h)],
      fun h e d => by rw [e4, piecesS_apply, (readsB m c H ⟨n, hn⟩).stB h (hs.2 h)]⟩

/-- The outputs written at each point. -/
theorem written (t : Fin cfg0.N) : (∀ r h e, (outsAt0 m c t.val t.isLt).1 (ix2 r (he h e)) = ((D.seqs 0 (t.val / 17) h).out (256 * (t.val % 17) + (id r : Fin 256).val) e : EReal)) ∧
    (∀ r h e, (outsAt0 m c t.val t.isLt).2.1 (ix2 r (he h e)) = ((D.seqs 1 (t.val / 17) h).out (256 * (t.val % 17) + (Fin.rev r).val) e : EReal)) := by
  obtain ⟨sF, sB, LF, LB, e1, e2, e3, e4, hA, hB⟩ := point m c t
  have hs : (∀ h e d, sF h (ix3 0 e d) = ((D.seqs 0 (t.val / 17) h).state (256 * (t.val % 17)) e d : EReal)) ∧
      (∀ h e d, sB h (ix3 0 e d) = ((D.seqs 1 (t.val / 17) h).state (256 * (t.val % 17)) e d : EReal)) := by
    by_cases h0 : t.val % 17 = 0
    · obtain ⟨rfl, rfl⟩ := hA h0
      rw [h0]
      exact ⟨fun h e d => (start_zero h e d).1, fun h e d => (start_zero h e d).2⟩
    · obtain ⟨rfl, rfl⟩ := hB h0
      have i := carried m c H (t.val - 1) (Nat.lt_of_le_of_lt (Nat.sub_le _ _) t.isLt)
      rw [show (t.val - 1) / 17 = t.val / 17 by omega, show (t.val - 1) % 17 + 1 = t.val % 17 by omega] at i
      exact ⟨fun h e d => (cutS_apply h _ e d).trans (i.1 h e d), fun h e d => (cutS_apply h _ e d).trans (i.2 h e d)⟩
  exact ⟨fun r h e => by rw [e1, piecesO_apply, (readsF m c H t).outF h (hs.1 h)],
    fun r h e => by rw [e2, piecesO_apply, (readsB m c H t).outB h (hs.2 h)]⟩
end

end Cert.Gla

end
-- ==== Proof.Out.lean ====
/- What the call leaves in its two result arrays: at each position of each sequence the recurrence's output. -/
module

public import proofs.«01_k».proof.Proof.Fold
public import proofs.«01_k».proof.Proof.Gen.KernelIdeal.Value

@[expose] public section

noncomputable section

namespace Cert.Gla

open Cert.KernelIdeal Cert.KernelIdeal.Gen Cert.KernelIdeal.Value Idealize.ShloMosaic Idealize.ShloMosaic.TcCoe Idealize.SL.Sem

/-- Every row of the arrays is a position of a sequence. -/
theorem row_cases (a : Fin 2) (r : Fin 17408) : ∃ b j, b < 4 ∧ j < 4352 ∧ r = rowAt a b j := by
  have hr := r.isLt
  by_cases h : r.val < 16384
  · by_cases ha : a = 0
    · refine ⟨r.val / 4096, 256 + r.val % 4096, by omega, by omega, Fin.ext ?_⟩
      simp only [rowAt, rowN, ha, if_true]
      rw [if_neg (by omega)]; omega
    · refine ⟨r.val / 4096, 256 + (4095 - r.val % 4096), by omega, by omega, Fin.ext ?_⟩
      simp only [rowAt, rowN, ha, if_false]
      rw [if_neg (by omega)]; omega
  · by_cases ha : a = 0
    · refine ⟨(r.val - 16384) / 256, (r.val - 16384) % 256, by omega, by omega, Fin.ext ?_⟩
      simp only [rowAt, rowN, ha, if_true]
      rw [if_pos (by omega)]; omega
    · refine ⟨(r.val - 16384) / 256, 255 - (r.val - 16384) % 256, by omega, by omega, Fin.ext ?_⟩
      simp only [rowAt, rowN, ha, if_false]
      rw [if_pos (by omega)]; omega

/-- Every column of the arrays is a column of a head. -/
theorem col_cases (x : Fin 2048) : ∃ h e, x = he h e := by
  have := x.isLt
  refine ⟨⟨x.val / 512, by omega⟩, ⟨x.val % 512, by omega⟩, Fin.ext ?_⟩
  simp only [he]; omega

variable (m : (ℓ : Loc nD τ sig) → Buf (Elt Ideal) ℓ) (c : Dev nD) (t : Fin cfg0.N)

/-- An element of a point's forward output block, in the array. -/
theorem arr12 (r : Fin 256) (x : Fin 2048) : (dats m 0 c).arrAt 12 cfg0.N (ix2 (inRow (browF t) (browF_lt t) r) x) = (outsAt0 m c t.val t.isLt).1 (ix2 r x) := by
  have h := congrFun (blocks12 m c t (flush0_12 t)) (ix2 r x)
  rw [flushed12] at h
  refine Eq.trans ?_ (h.trans ?_)
  · unfold inRow; symm; blk_ext [idxF t]
  · rfl

/-- An element of a point's backward output block, in the array. -/
theorem arr13 (r : Fin 256) (x : Fin 2048) : (dats m 0 c).arrAt 13 cfg0.N (ix2 (inRow (browB t) (browB_lt t) r) x) = (outsAt0 m c t.val t.isLt).2.1 (ix2 r x) := by
  have h := congrFun (blocks13 m c t (flush0_13 t)) (ix2 r x)
  rw [flushed13] at h
  refine Eq.trans ?_ (h.trans ?_)
  · unfold inRow; symm; blk_ext [idxB t]
  · rfl

variable {D : Data} (H : D.Of (m ((c : Thread nD τ).loc main_arg0)) (m ((c : Thread nD τ).loc main_arg1)) (m ((c : Thread nD τ).loc main_arg2)) (m ((c : Thread nD τ).loc main_arg3)))
include H

/-- The forward result array. -/
theorem resultF (b j : ℕ) (hb : b < 4) (hj : j < 4352) (h : Fin 4) (e : Fin 512) :
    (dats m 0 c).arrAt 12 cfg0.N (ix2 (rowAt 0 b j) (he h e)) = ((D.seqs 0 b h).out j e : EReal) := by
  have ht : 17 * b + j / 256 < cfg0.N := by rw [show cfg0.N = 68 from N_0]; omega
  have hr := rowF ⟨17 * b + j / 256, ht⟩ ⟨j % 256, by omega⟩
  have e1 : (17 * b + j / 256) / 17 = b := by omega
  have e2 : 256 * ((17 * b + j / 256) % 17) + j % 256 = j := by omega
  have hw := (written m c H ⟨17 * b + j / 256, ht⟩).1 ⟨j % 256, by omega⟩ h e
  simp only [id, e1, e2] at hr hw
  rw [← hr, arr12, hw]

/-- The backward result array. -/
theorem resultB (b j : ℕ) (hb : b < 4) (hj : j < 4352) (h : Fin 4) (e : Fin 512) :
    (dats m 0 c).arrAt 13 cfg0.N (ix2 (rowAt 1 b j) (he h e)) = ((D.seqs 1 b h).out j e : EReal) := by
  have ht : 17 * b + j / 256 < cfg0.N := by rw [show cfg0.N = 68 from N_0]; omega
  have hr := rowB ⟨17 * b + j / 256, ht⟩ (Fin.rev ⟨j % 256, by omega⟩)
  have e1 : (17 * b + j / 256) / 17 = b := by omega
  have e2 : 256 * ((17 * b + j / 256) % 17) + j % 256 = j := by omega
  have hw := (written m c H ⟨17 * b + j / 256, ht⟩).2 (Fin.rev ⟨j % 256, by omega⟩) h e
  simp only [Fin.rev_rev, e1, e2] at hr hw
  rw [← hr, arr13, hw]

end Cert.Gla

end
-- ==== Proof.Inputs.lean ====
/- The reference's inputs over the reals: the queries, keys, values and gates of its context rows and of its latent rows, read from the
   arguments. -/
module

public import proofs.«01_k».proof.Proof.Fold
public import proofs.«01_k».proof.Proof.Gen.ReferenceIdeal.Read
public import Idealize.ShloMosaic.Lib.Pointwise
public import Idealize.ShloMosaic.Lib.ValueIdx

@[expose] public section

noncomputable section

namespace Cert.Gla

open Cert.ReferenceIdeal Cert.ReferenceIdeal.Gen Cert.ReferenceIdeal.Read Idealize.ShloMosaic Idealize.ShloMosaic.TcCoe Idealize.SL.Sem

/-- The temperature the gates are divided by. -/
theorem tau_eq : Ideal.ofBits .f32 0x41800000#32 = ((16 : ℝ) : EReal) := by
  simp [Ideal.ofBits, Ideal.ieee, -EReal.coe_mul]; norm_num

/-- The reference's log-sigmoid, written as minus the softplus of the negated argument, over 16. -/
theorem softplus_real {y : EReal} {X : ℝ} (h : y = (X : EReal)) :
    Ideal.div (-if -y ≠ -y then -y else max (-y) 0 + Ideal.log1p (Ideal.exp (-FloatOps.absf (F := Ideal) (φ := .f32) (-y)))) (Ideal.ofBits .f32 0x41800000#32) =
      ((logsig X * (1 / 16) : ℝ) : EReal) := by
  have ha : (FloatOps.absf (F := Ideal) (φ := .f32) (-y) : EReal) = ((|X| : ℝ) : EReal) := by
    rw [h]
    show max (-(X : EReal)) (- -(X : EReal)) = _
    rw [neg_neg, ← EReal.coe_neg, abs_eq_max_neg, max_comm]
    exact (EReal.coe_strictMono.monotone.map_max).symm
  have hm : max (-X) 0 = -min X 0 := by
    rcases le_total X 0 with hx | hx
    · rw [max_eq_left (by linarith), min_eq_left hx]
    · rw [max_eq_right (by linarith), min_eq_right hx, neg_zero]
  rw [if_neg (not_not.2 rfl), ha, h, tau_eq, ← EReal.coe_zero, ← EReal.coe_neg, ← EReal.coe_neg, Ideal.exp_coe, Ideal.log1p, ← EReal.coe_one, ← EReal.coe_add, Ideal.log_coe,
    if_neg (not_le.2 (by positivity)), ← EReal.coe_strictMono.monotone.map_max, ← EReal.coe_add, ← EReal.coe_neg, Ideal.div_coe (by norm_num), hm]
  rw [logsig, zero_sub, ← EReal.coe_mul, EReal.coe_eq_coe_iff]
  ring_nf

variable {D : Data} {x0 : (⟨S17408x6144, .bf16⟩ : BufTy).Contents (Elt Ideal)} {x1 : (⟨S17408x128, .f32⟩ : BufTy).Contents (Elt Ideal)} {x2 : (⟨S2x16x1024, .f32⟩ : BufTy).Contents (Elt Ideal)} {x3 : (⟨S2x1024, .f32⟩ : BufTy).Contents (Elt Ideal)}

/-- The queries, keys and values at indices of given values. -/
theorem Data.Of.pAt (H : D.Of x0 x1 x2 x3) {r r' : Fin 17408} {x x' : Fin 6144} (hr : r'.val = r.val) (hx : x'.val = x.val) : x0 (ix2 r' x') = (D.p r x : EReal) := by
  obtain rfl := Fin.ext hr
  obtain rfl := Fin.ext hx
  exact H.p _ _

/-- The gate codes at indices of given values. -/
theorem Data.Of.zAt (H : D.Of x0 x1 x2 x3) {r r' : Fin 17408} {x x' : Fin 128} (hr : r'.val = r.val) (hx : x'.val = x.val) : x1 (ix2 r' x') = (D.z r x : EReal) := by
  obtain rfl := Fin.ext hr
  obtain rfl := Fin.ext hx
  exact H.z _ _

/-- The argument of a gate's log-sigmoid. -/
def Data.pre (D : Data) (a : Fin 2) (r : Fin 17408) (s : Fin 1024) : ℝ := ∑ i : Fin 16, D.z r ⟨16 * a.val + i.val, by omega⟩ * D.w a i s + D.b a s

/-- A product of a row's codes and the weights, plus the biases, is a gate's argument. -/
theorem Data.Of.preAt (H : D.Of x0 x1 x2 x3) (a : Fin 2) {r : Fin 17408} (s : Fin 1024) {R : Fin 16 → Fin 17408} {X : Fin 16 → Fin 128} (hR : ∀ i, (R i).val = r.val)
    (hX : ∀ i, (X i).val = 16 * a.val + i.val) : ∑ i, x1 (ix2 (R i) (X i)) * x2 (ix3 a i s) + x3 (ix2 a s) = (D.pre a r s : EReal) := by
  unfold Data.pre
  rw [EReal.coe_add, coeSum, H.b]
  congr 1
  refine Finset.sum_congr rfl fun i _ => ?_
  rw [H.zAt (r := r) (x := ⟨16 * a.val + i.val, by omega⟩) (hR i) (hX i), H.w, EReal.coe_mul]

/-- The latent rows' queries, scaled. -/
theorem lat_q (H : D.Of x0 x1 x2 x3) {b : Fin 4} {t : Fin 4096} {r : Fin 17408} (hr : r.val = 4096 * b.val + t.val) (h : Fin 4) (d : Fin 256) :
    val_main_v9 (F := Ideal) x0 (ix4 b t h d) = ((D.p r ⟨256 * h.val + d.val, by omega⟩ * (1 / 16) : ℝ) : EReal) := by
  pointwise [val_main_v9, val_main_v7, val_main_v4, val_main_v3, val_main_v2, val_main_v0, val_main_v8, val_main_cst]
  exact (congrArg₂ (· * ·) (H.pAt (by rw [hr]; dsimp only; omega) (by dsimp only; omega)) scale_eq).trans (EReal.coe_mul _ _).symm

/-- The latent rows' keys. -/
theorem lat_k (H : D.Of x0 x1 x2 x3) {b : Fin 4} {t : Fin 4096} {r : Fin 17408} (hr : r.val = 4096 * b.val + t.val) (h : Fin 4) (d : Fin 256) :
    val_main_v10 (F := Ideal) x0 (ix4 b t h d) = (D.p r ⟨1024 + (256 * h.val + d.val), by omega⟩ : EReal) := by
  pointwise [val_main_v10, val_main_v5, val_main_v3, val_main_v2, val_main_v0]
  exact H.pAt (by rw [hr]; dsimp only; omega) (by dsimp only; omega)

/-- The latent rows' values. -/
theorem lat_v (H : D.Of x0 x1 x2 x3) {b : Fin 4} {t : Fin 4096} {r : Fin 17408} (hr : r.val = 4096 * b.val + t.val) (h : Fin 4) (e : Fin 512) :
    val_main_v11 (F := Ideal) x0 (ix4 b t h e) = (D.p r ⟨2048 + (512 * h.val + e.val), by omega⟩ : EReal) := by
  pointwise [val_main_v11, val_main_v6, val_main_v3, val_main_v2, val_main_v0]
  exact H.pAt (by rw [hr]; dsimp only; omega) (by dsimp only; omega)

/-- The context rows' queries, scaled. -/
theorem con_q (H : D.Of x0 x1 x2 x3) {b : Fin 4} {t : Fin 256} {r : Fin 17408} (hr : r.val = 16384 + (256 * b.val + t.val)) (h : Fin 4) (d : Fin 256) :
    val_main_v47 (F := Ideal) x0 (ix4 b t h d) = ((D.p r ⟨256 * h.val + d.val, by omega⟩ * (1 / 16) : ℝ) : EReal) := by
  pointwise [val_main_v47, val_main_v45, val_main_v42, val_main_v41, val_main_v40, val_main_v38, val_main_v46, val_main_cst_2]
  exact (congrArg₂ (· * ·) (H.pAt (by rw [hr]; dsimp only; omega) (by dsimp only; omega)) scale_eq).trans (EReal.coe_mul _ _).symm

/-- The context rows' keys. -/
theorem con_k (H : D.Of x0 x1 x2 x3) {b : Fin 4} {t : Fin 256} {r : Fin 17408} (hr : r.val = 16384 + (256 * b.val + t.val)) (h : Fin 4) (d : Fin 256) :
    val_main_v48 (F := Ideal) x0 (ix4 b t h d) = (D.p r ⟨1024 + (256 * h.val + d.val), by omega⟩ : EReal) := by
  pointwise [val_main_v48, val_main_v43, val_main_v41, val_main_v40, val_main_v38]
  exact H.pAt (by rw [hr]; dsimp only; omega) (by dsimp only; omega)

/-- The context rows' values. -/
theorem con_v (H : D.Of x0 x1 x2 x3) {b : Fin 4} {t : Fin 256} {r : Fin 17408} (hr : r.val = 16384 + (256 * b.val + t.val)) (h : Fin 4) (e : Fin 512) :
    val_main_v49 (F := Ideal) x0 (ix4 b t h e) = (D.p r ⟨2048 + (512 * h.val + e.val), by omega⟩ : EReal) := by
  pointwise [val_main_v49, val_main_v44, val_main_v41, val_main_v40, val_main_v38]
  exact H.pAt (by rw [hr]; dsimp only; omega) (by dsimp only; omega)

/-- The latent rows' forward gates. -/
theorem lat_gF (H : D.Of x0 x1 x2 x3) {b : Fin 4} {t : Fin 4096} {r : Fin 17408} (hr : r.val = 4096 * b.val + t.val) (h : Fin 4) (d : Fin 256) :
    val_main_v25 (F := Ideal) x1 x2 x3 (ix4 b t h d) = (D.gate 0 r (hd h d) : EReal) := by
  have hp : ∀ (u : Fin 16384) (s : Fin 1024), r.val = u.val → val_main_v21 (F := Ideal) x1 x2 x3 (ix2 u s) = (D.pre 0 r s : EReal) := fun u s hu => by
    pointwise [val_main_v21, val_main_v16, val_main_v12, val_main_v1, val_main_v15, val_main_v14, val_main_v20, val_main_v19, val_main_v18, val_main_v17]
    exact H.preAt 0 s (fun i => by rw [hu]) (fun i => by simp)
  have hg : ∀ (u : Fin 16384) (s : Fin 1024), r.val = u.val → val_main_v24 (F := Ideal) x1 x2 x3 (ix2 u s) = (D.gate 0 r s : EReal) := fun u s hu => by
    pointwise [val_main_v24, val_main_v22, val_main_call0_v1, val_main_call0_call0_v4, val_main_call0_call0_v3, val_main_call0_v0, val_main_call0_call0_v2, val_main_call0_call0_cst, val_main_call0_call0_v6, val_main_call0_call0_v5, val_main_call0_call0_v11, val_main_call0_call0_v1, val_main_call0_call0_v0, val_main_call0_call0_v10, val_main_call0_call0_v9, val_main_call0_call0_v8, val_main_call0_call0_v7, val_main_v23, val_main_cst_0]
    exact softplus_real (hp u s hu)
  pointwise [val_main_v25]
  rw [hg _ _ (by rw [hr]; dsimp only; omega)]
  congr 2
  exact Fin.ext (by simp only [hd]; omega)

/-- The latent rows' backward gates. -/
theorem lat_gB (H : D.Of x0 x1 x2 x3) {b : Fin 4} {t : Fin 4096} {r : Fin 17408} (hr : r.val = 4096 * b.val + t.val) (h : Fin 4) (d : Fin 256) :
    val_main_v37 (F := Ideal) x1 x2 x3 (ix4 b t h d) = (D.gate 1 r (hd h d) : EReal) := by
  have hp : ∀ (u : Fin 16384) (s : Fin 1024), r.val = u.val → val_main_v33 (F := Ideal) x1 x2 x3 (ix2 u s) = (D.pre 1 r s : EReal) := fun u s hu => by
    pointwise [val_main_v33, val_main_v28, val_main_v13, val_main_v1, val_main_v27, val_main_v26, val_main_v32, val_main_v31, val_main_v30, val_main_v29]
    exact H.preAt 1 s (fun i => by rw [hu]) (fun i => by simp)
  have hg : ∀ (u : Fin 16384) (s : Fin 1024), r.val = u.val → val_main_v36 (F := Ideal) x1 x2 x3 (ix2 u s) = (D.gate 1 r s : EReal) := fun u s hu => by
    pointwise [val_main_v36, val_main_v34, val_main_call1_v1, val_main_call1_call0_v4, val_main_call1_call0_v3, val_main_call1_v0, val_main_call1_call0_v2, val_main_call1_call0_cst, val_main_call1_call0_v6, val_main_call1_call0_v5, val_main_call1_call0_v11, val_main_call1_call0_v1, val_main_call1_call0_v0, val_main_call1_call0_v10, val_main_call1_call0_v9, val_main_call1_call0_v8, val_main_call1_call0_v7, val_main_v35, val_main_cst_1]
    exact softplus_real (hp u s hu)
  pointwise [val_main_v37]
  rw [hg _ _ (by rw [hr]; dsimp only; omega)]
  congr 2
  exact Fin.ext (by simp only [hd]; omega)

/-- The context rows' forward gates. -/
theorem con_gF (H : D.Of x0 x1 x2 x3) {b : Fin 4} {t : Fin 256} {r : Fin 17408} (hr : r.val = 16384 + (256 * b.val + t.val)) (h : Fin 4) (d : Fin 256) :
    val_main_v63 (F := Ideal) x1 x2 x3 (ix4 b t h d) = (D.gate 0 r (hd h d) : EReal) := by
  have hp : ∀ (u : Fin 1024) (s : Fin 1024), r.val = 16384 + u.val → val_main_v59 (F := Ideal) x1 x2 x3 (ix2 u s) = (D.pre 0 r s : EReal) := fun u s hu => by
    pointwise [val_main_v59, val_main_v54, val_main_v50, val_main_v39, val_main_v53, val_main_v52, val_main_v58, val_main_v57, val_main_v56, val_main_v55]
    exact H.preAt 0 s (fun i => by rw [hu]) (fun i => by simp)
  have hg : ∀ (u : Fin 1024) (s : Fin 1024), r.val = 16384 + u.val → val_main_v62 (F := Ideal) x1 x2 x3 (ix2 u s) = (D.gate 0 r s : EReal) := fun u s hu => by
    pointwise [val_main_v62, val_main_v60, val_main_call2_v1, val_main_call2_call0_v4, val_main_call2_call0_v3, val_main_call2_v0, val_main_call2_call0_v2, val_main_call2_call0_cst, val_main_call2_call0_v6, val_main_call2_call0_v5, val_main_call2_call0_v11, val_main_call2_call0_v1, val_main_call2_call0_v0, val_main_call2_call0_v10, val_main_call2_call0_v9, val_main_call2_call0_v8, val_main_call2_call0_v7, val_main_v61, val_main_cst_3]
    exact softplus_real (hp u s hu)
  pointwise [val_main_v63]
  rw [hg _ _ (by rw [hr]; dsimp only; omega)]
  congr 2
  exact Fin.ext (by simp only [hd]; omega)

/-- The context rows' backward gates. -/
theorem con_gB (H : D.Of x0 x1 x2 x3) {b : Fin 4} {t : Fin 256} {r : Fin 17408} (hr : r.val = 16384 + (256 * b.val + t.val)) (h : Fin 4) (d : Fin 256) :
    val_main_v75 (F := Ideal) x1 x2 x3 (ix4 b t h d) = (D.gate 1 r (hd h d) : EReal) := by
  have hp : ∀ (u : Fin 1024) (s : Fin 1024), r.val = 16384 + u.val → val_main_v71 (F := Ideal) x1 x2 x3 (ix2 u s) = (D.pre 1 r s : EReal) := fun u s hu => by
    pointwise [val_main_v71, val_main_v66, val_main_v51, val_main_v39, val_main_v65, val_main_v64, val_main_v70, val_main_v69, val_main_v68, val_main_v67]
    exact H.preAt 1 s (fun i => by rw [hu]) (fun i => by simp)
  have hg : ∀ (u : Fin 1024) (s : Fin 1024), r.val = 16384 + u.val → val_main_v74 (F := Ideal) x1 x2 x3 (ix2 u s) = (D.gate 1 r s : EReal) := fun u s hu => by
    pointwise [val_main_v74, val_main_v72, val_main_call3_v1, val_main_call3_call0_v4, val_main_call3_call0_v3, val_main_call3_v0, val_main_call3_call0_v2, val_main_call3_call0_cst, val_main_call3_call0_v6, val_main_call3_call0_v5, val_main_call3_call0_v11, val_main_call3_call0_v1, val_main_call3_call0_v0, val_main_call3_call0_v10, val_main_call3_call0_v9, val_main_call3_call0_v8, val_main_call3_call0_v7, val_main_v73, val_main_cst_4]
    exact softplus_real (hp u s hu)
  pointwise [val_main_v75]
  rw [hg _ _ (by rw [hr]; dsimp only; omega)]
  congr 2
  exact Fin.ext (by simp only [hd]; omega)

end Cert.Gla

end
-- ==== Proof.Scan.lean ====
/- The reference's scan over the reals: the running sums of the gates, the state a stretch leaves, and the outputs of a stretch, each as
   sums over the positions. -/
module

public import proofs.«01_k».proof.Proof.Gen.ReferenceIdeal.Read
public import proofs.«01_k».proof.Proof.Core
public import Idealize.ShloMosaic.Lib.Pointwise
public import Idealize.ShloMosaic.Lib.ValueIdx

@[expose] public section

noncomputable section

namespace Cert.Gla

open Cert.ReferenceIdeal Cert.ReferenceIdeal.Gen Cert.ReferenceIdeal.Read Idealize.ShloMosaic Idealize.ShloMosaic.TcCoe Idealize.SL.Sem

/-- A left fold that adds is a sum. -/
theorem fold_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The indices of a window that runs along axis 1 alone. -/
def along1 (L : ℕ) : (⟨4, ![1, L, 1, 1]⟩ : Shape).Idx ≃ Fin L where
  toFun i := i 1
  invFun w := ix4 0 w 0 0
  left_inv i := by
    funext a
    match a with
    | ⟨0, _⟩ => exact (Subsingleton.elim (α := Fin 1) _ _)
    | ⟨1, _⟩ => rfl
    | ⟨2, _⟩ => exact (Subsingleton.elim (α := Fin 1) _ _)
    | ⟨3, _⟩ => exact (Subsingleton.elim (α := Fin 1) _ _)
  right_inv w := rfl

/-- A sum over the positions up to `t`. -/
theorem sum_upto {A : Type} [AddCommMonoid A] {L t : ℕ} (ht : t < L) (f : ℕ → A) : (∑ x : Fin L, if x.val ≤ t then f x.val else 0) = ∑ x ∈ Finset.range (t + 1), f x := by
  rw [Fin.sum_univ_eq_sum_range (fun n => if n ≤ t then f n else 0) L, ← Finset.sum_filter]
  congr 1
  ext n
  simp only [Finset.mem_filter, Finset.mem_range]
  omega

/-- A sum over a window that ends at position `t`, of an array padded with zeros before its first position. -/
theorem window_sum {B L H D M : ℕ} (hL : M + 1 = L) (x : (⟨4, ![B, L, H, D]⟩ : Shape).Idx → EReal)
    (w : (⟨4, ![B, L, H, D]⟩ : Shape).ReduceWindows ![1, L, 1, 1] ![1, 1, 1, 1] ![0, M, 0, 0] ![0, 0, 0, 0] ⟨4, ![B, L, H, D]⟩)
    (b : Fin B) (t : Fin L) (h : Fin H) (d : Fin D) (f : ℕ → EReal) (hx : ∀ i : Fin L, x (ix4 b i h d) = f i.val) :
    Ideal.hostReduceWindowAdd ![1, L, 1, 1] ![1, 1, 1, 1] ![0, M, 0, 0] ![0, 0, 0, 0] w x 0 (ix4 b t h d) = ∑ i ∈ Finset.range (t.val + 1), f i := by
  have ht := t.isLt
  unfold Ideal.hostReduceWindowAdd Host.reduceWindow
  refine (fold_sum _ _ _).trans ?_
  rw [zero_add, ← Fin.sum_univ_def]
  refine (Equiv.sum_comp ((⟨4, ![1, L, 1, 1]⟩ : Shape).rowMajor.symm.trans (along1 L)) (fun n : Fin L => if M ≤ t.val + n.val then f (t.val + n.val - M) else 0) |>.symm.trans
    (Finset.sum_congr rfl fun n _ => ?_)).symm.trans ?_
  · obtain ⟨i, hi⟩ : ∃ i, (⟨4, ![1, L, 1, 1]⟩ : Shape).rowMajor.symm n = (along1 L).symm i := ⟨along1 L ((⟨4, ![1, L, 1, 1]⟩ : Shape).rowMajor.symm n), ((along1 L).symm_apply_apply _).symm⟩
    have hi' := i.isLt
    simp only [Equiv.trans_apply, hi, Equiv.apply_symm_apply]
    split
    · next hc =>
      have hin : ∀ a : Fin 4, (![0, M, 0, 0] : Fin 4 → ℕ) a ≤ ((ix4 b t h d : (⟨4, ![B, L, H, D]⟩ : Shape).Idx) a).val * (![1, 1, 1, 1] : Fin 4 → ℕ) a + ((along1 L).symm i a).val ∧
          ((ix4 b t h d : (⟨4, ![B, L, H, D]⟩ : Shape).Idx) a).val * (![1, 1, 1, 1] : Fin 4 → ℕ) a + ((along1 L).symm i a).val - (![0, M, 0, 0] : Fin 4 → ℕ) a < (⟨4, ![B, L, H, D]⟩ : Shape).size a := fun a => by
        match a with
        | ⟨0, _⟩ => exact ⟨Nat.zero_le _, by show b.val * 1 + 0 - 0 < B; have := b.isLt; omega⟩
        | ⟨1, _⟩ => exact ⟨by show M ≤ t.val * 1 + i.val; omega, by show t.val * 1 + i.val - M < L; omega⟩
        | ⟨2, _⟩ => exact ⟨Nat.zero_le _, by show h.val * 1 + 0 - 0 < H; have := h.isLt; omega⟩
        | ⟨3, _⟩ => exact ⟨Nat.zero_le _, by show d.val * 1 + 0 - 0 < D; have := d.isLt; omega⟩
      refine Eq.trans ?_ (dif_pos hin).symm
      rw [← hx ⟨t.val + i.val - M, by omega⟩]
      refine congrArg x (funext fun a => Fin.ext ?_)
      match a with
      | ⟨0, _⟩ => show b.val = b.val * 1 + 0 - 0; omega
      | ⟨1, _⟩ => show t.val + i.val - M = t.val * 1 + i.val - M; omega
      | ⟨2, _⟩ => show h.val = h.val * 1 + 0 - 0; omega
      | ⟨3, _⟩ => show d.val = d.val * 1 + 0 - 0; omega
    · next hc =>
      symm
      apply dif_neg
      intro hin
      apply hc
      have := (hin 1).1
      change M ≤ t.val * 1 + i.val at this
      omega
  · rw [Fin.sum_univ_eq_sum_range (fun n => if M ≤ t.val + n then f (t.val + n - M) else 0) L]
    generalize t.val = T at ht ⊢
    rw [show L = (M - T) + (T + 1) by omega, Finset.sum_range_add,
      Finset.sum_eq_zero (fun n hn => if_neg (by have := Finset.mem_range.1 hn; omega)), zero_add]
    refine Finset.sum_congr rfl fun n _ => ?_
    rw [if_pos (by omega)]
    congr 1
    omega

/-- Positions compare as numbers. -/
theorem pos_bit {t x : ℕ} (ht : t < 4096) (hx : x < 4096) :
    IntOp.cmpi .sge (IntOp.addi (BitVec.ofNat 32 t) 0#32) (BitVec.ofNat 32 x) = if x ≤ t then 1#1 else 0#1 := by
  have e : ∀ n, n < 4096 → (BitVec.ofNat 32 n).toInt = n := fun n hn => by
    rw [BitVec.toInt_eq_toNat_of_lt (by rw [BitVec.toNat_ofNat, Nat.mod_eq_of_lt (by omega)]; omega), BitVec.toNat_ofNat, Nat.mod_eq_of_lt (by omega)]
  simp only [IntOp.cmpi, IntOp.addi, BitVec.add_zero, BitVec.sle, e t ht, e x hx, Nat.cast_le]
  by_cases h : x ≤ t <;> simp [h]

/-- The zero a scan starts its sums from. -/
theorem zero_eq : (constant (F := Ideal) S_ .f32 0x00000000#32) ix0 = 0 := Ideal.ofBits_zero_f32

/-- The scan's sums over the reals. -/
theorem scan_sums {L : ℕ} (hL : L ≤ 4096) {q k G : Fin L → Fin 256 → EReal} {v : Fin L → Fin 512 → EReal} {s : Fin 512 → Fin 256 → EReal}
    {Q K Γ : ℕ → Fin 256 → ℝ} {V : ℕ → Fin 512 → ℝ} {S : Fin 512 → Fin 256 → ℝ}
    (hq : ∀ t d, q t d = (Q t.val d : EReal)) (hk : ∀ t d, k t d = (K t.val d : EReal)) (hv : ∀ t e, v t e = (V t.val e : EReal))
    (hG : ∀ t d, G t d = (Γ t.val d : EReal)) (hs : ∀ e d, s e d = (S e d : EReal)) (t : Fin L) (e : Fin 512) :
    ∑ x, v x e * Scalar.select (Scalar.select (IntOp.cmpi .sge (IntOp.addi (BitVec.ofNat 32 t.val) 0#32) (BitVec.ofNat 32 x.val)) 1#1 0#1)
        (∑ d, q t d * k x d * Ideal.exp (G t d - G x d)) (id ((constant (F := Ideal) S_ .f32 0x00000000#32) ix0)) +
      ∑ d, s e d * (q t d * Ideal.exp (G t d)) =
    ((∑ x ∈ Finset.range (t.val + 1), (∑ d, Q t.val d * K x d * Real.exp (Γ t.val d - Γ x d)) * V x e + ∑ d, S e d * (Q t.val d * Real.exp (Γ t.val d)) : ℝ) : EReal) := by
  have ht := t.isLt
  rw [EReal.coe_add, ← sum_upto ht, coeSum, coeSum]
  congr 1
  · refine Finset.sum_congr rfl fun x _ => ?_
    have hx := x.isLt
    have e1 : ∑ d, q t d * k x d * Ideal.exp (G t d - G x d) = ((∑ d, Q t.val d * K x.val d * Real.exp (Γ t.val d - Γ x.val d) : ℝ) : EReal) := by
      rw [coeSum]
      refine Finset.sum_congr rfl fun d _ => ?_
      rw [hq, hk, hG, hG, ← EReal.coe_sub, Ideal.exp_coe, ← EReal.coe_mul, ← EReal.coe_mul]
    rw [pos_bit (by omega) (by omega), e1, hv]
    by_cases h : x.val ≤ t.val
    · rw [if_pos h, if_pos h, mul_comm, EReal.coe_mul]; rfl
    · rw [if_neg h, if_neg h]
      show _ * (constant (F := Ideal) S_ .f32 0x00000000#32) ix0 = _
      rw [zero_eq, mul_zero, EReal.coe_zero]
  · refine Finset.sum_congr rfl fun d _ => ?_
    rw [hs, hq, hG, Ideal.exp_coe, ← EReal.coe_mul, ← EReal.coe_mul]

section Towers

variable {F : FTy → Type} [FloatOps F]

/-- The running sums along 4096 positions. -/
def runs4096 (g : FVec F S4x4096x4x256 .f32) : FVec F S4x4096x4x256 .f32 :=
  Host.reduceWindowAdd ![1, 4096, 1, 1] ![1, 1, 1, 1] ![0, 4095, 0, 0] ![0, 0, 0, 0] g (broadcastInDim S_ ![] bcast_S_S_ (constant S_ .f32 0x00000000#32))
    reduceWindows_S4x4096x4x256_S4x4096x4x256_w1s1p0_0_w4096s1p4095_0_w1s1p0_0_w1s1p0_0 h_S_

/-- The running sums along 256 positions. -/
def runs256 (g : FVec F S4x256x4x256 .f32) : FVec F S4x256x4x256 .f32 :=
  Host.reduceWindowAdd ![1, 256, 1, 1] ![1, 1, 1, 1] ![0, 255, 0, 0] ![0, 0, 0, 0] g (broadcastInDim S_ ![] bcast_S_S_ (constant S_ .f32 0x00000000#32))
    reduceWindows_S4x256x4x256_S4x256x4x256_w1s1p0_0_w256s1p255_0_w1s1p0_0_w1s1p0_0 h_S_

/-- The reference's scan over sequences of 4096 positions: each output sums what the positions up to its own contribute, and what the state `s0` before them does. -/
def scan4096 (q k : FVec F S4x4096x4x256 .f32) (v : FVec F S4x4096x4x512 .f32) (G : FVec F S4x4096x4x256 .f32) (s0 : FVec F S4x4x256x512 .f32) : FVec F S4x4096x4x512 .f32 :=
  addf (transpose S4x4096x4x512 [0, 3, 1, 2] (Host.dotGeneral dot_S4x4096x4x512_S4x4096x4096x4_S4x4x512x4096_1_2_3_1_02_03 none v (
    select (broadcastInDim S4x4096x4096x4 ![0, 1, 2, 3] bcast_S1x4096x4096x1_S4x4096x4096x4_0_1_2_3 (broadcastInDim S1x4096x4096x1 ![1, 2] bcast_S4096x4096_S1x4096x4096x1_1_2
      (select (cmpi .sge (addi (iotaInDim S4096x4096 32 0) (broadcastInDim S4096x4096 ![] bcast_S_S4096x4096 (constantI S_ 32 0#32))) (iotaInDim S4096x4096 32 1))
        (broadcastInDim S4096x4096 ![] bcast_S_S4096x4096 (constantI S_ 1 1#1)) (broadcastInDim S4096x4096 ![] bcast_S_S4096x4096 (constantI S_ 1 0#1)))))
      (Host.reduceAdd (mulf (mulf
          (broadcastInDim S4x4096x4096x4x256 ![0, 1, 2, 3, 4] bcast_S4x4096x1x4x256_S4x4096x4096x4x256_0_1_2_3_4 (broadcastInDim S4x4096x1x4x256 ![0, 1, 3, 4] bcast_S4x4096x4x256_S4x4096x1x4x256_0_1_3_4 q))
          (broadcastInDim S4x4096x4096x4x256 ![0, 1, 2, 3, 4] bcast_S4x1x4096x4x256_S4x4096x4096x4x256_0_1_2_3_4 (broadcastInDim S4x1x4096x4x256 ![0, 2, 3, 4] bcast_S4x4096x4x256_S4x1x4096x4x256_0_2_3_4 k)))
        (Host.exp (subf
          (broadcastInDim S4x4096x4096x4x256 ![0, 1, 2, 3, 4] bcast_S4x4096x1x4x256_S4x4096x4096x4x256_0_1_2_3_4 (broadcastInDim S4x4096x1x4x256 ![0, 1, 3, 4] bcast_S4x4096x4x256_S4x4096x1x4x256_0_1_3_4 G))
          (broadcastInDim S4x4096x4096x4x256 ![0, 1, 2, 3, 4] bcast_S4x1x4096x4x256_S4x4096x4096x4x256_0_1_2_3_4 (broadcastInDim S4x1x4096x4x256 ![0, 2, 3, 4] bcast_S4x4096x4x256_S4x1x4096x4x256_0_2_3_4 G)))))
        (constant S_ .f32 0x00000000#32) reducesTo_S4x4096x4096x4x256_S4x4096x4096x4_d4 h_S_)
      (broadcastInDim S4x4096x4096x4 ![] bcast_S_S4x4096x4096x4 (id (constant S_ .f32 0x00000000#32))))) transposes_S4x4x512x4096_S4x4096x4x512_0_3_1_2)
    (transpose S4x4096x4x512 [0, 3, 1, 2] (Host.dotGeneral dot_S4x4x256x512_S4x4096x4x256_S4x4x512x4096_2_3_3_1_01_02 none s0 (mulf q (Host.exp G)))
      transposes_S4x4x512x4096_S4x4096x4x512_0_3_1_2)

/-- The reference's scan over sequences of 256 positions: each output sums what the positions up to its own contribute, and what the state `s0` before them does. -/
def scan256 (q k : FVec F S4x256x4x256 .f32) (v : FVec F S4x256x4x512 .f32) (G : FVec F S4x256x4x256 .f32) (s0 : FVec F S4x4x256x512 .f32) : FVec F S4x256x4x512 .f32 :=
  addf (transpose S4x256x4x512 [0, 3, 1, 2] (Host.dotGeneral dot_S4x256x4x512_S4x256x256x4_S4x4x512x256_1_2_3_1_02_03 none v (
    select (broadcastInDim S4x256x256x4 ![0, 1, 2, 3] bcast_S1x256x256x1_S4x256x256x4_0_1_2_3 (broadcastInDim S1x256x256x1 ![1, 2] bcast_S256x256_S1x256x256x1_1_2
      (select (cmpi .sge (addi (iotaInDim S256x256 32 0) (broadcastInDim S256x256 ![] bcast_S_S256x256 (constantI S_ 32 0#32))) (iotaInDim S256x256 32 1))
        (broadcastInDim S256x256 ![] bcast_S_S256x256 (constantI S_ 1 1#1)) (broadcastInDim S256x256 ![] bcast_S_S256x256 (constantI S_ 1 0#1)))))
      (Host.reduceAdd (mulf (mulf
          (broadcastInDim S4x256x256x4x256 ![0, 1, 2, 3, 4] bcast_S4x256x1x4x256_S4x256x256x4x256_0_1_2_3_4 (broadcastInDim S4x256x1x4x256 ![0, 1, 3, 4] bcast_S4x256x4x256_S4x256x1x4x256_0_1_3_4 q))
          (broadcastInDim S4x256x256x4x256 ![0, 1, 2, 3, 4] bcast_S4x1x256x4x256_S4x256x256x4x256_0_1_2_3_4 (broadcastInDim S4x1x256x4x256 ![0, 2, 3, 4] bcast_S4x256x4x256_S4x1x256x4x256_0_2_3_4 k)))
        (Host.exp (subf
          (broadcastInDim S4x256x256x4x256 ![0, 1, 2, 3, 4] bcast_S4x256x1x4x256_S4x256x256x4x256_0_1_2_3_4 (broadcastInDim S4x256x1x4x256 ![0, 1, 3, 4] bcast_S4x256x4x256_S4x256x1x4x256_0_1_3_4 G))
          (broadcastInDim S4x256x256x4x256 ![0, 1, 2, 3, 4] bcast_S4x1x256x4x256_S4x256x256x4x256_0_1_2_3_4 (broadcastInDim S4x1x256x4x256 ![0, 2, 3, 4] bcast_S4x256x4x256_S4x1x256x4x256_0_2_3_4 G)))))
        (constant S_ .f32 0x00000000#32) reducesTo_S4x256x256x4x256_S4x256x256x4_d4 h_S_)
      (broadcastInDim S4x256x256x4 ![] bcast_S_S4x256x256x4 (id (constant S_ .f32 0x00000000#32))))) transposes_S4x4x512x256_S4x256x4x512_0_3_1_2)
    (transpose S4x256x4x512 [0, 3, 1, 2] (Host.dotGeneral dot_S4x4x256x512_S4x256x4x256_S4x4x512x256_2_3_3_1_01_02 none s0 (mulf q (Host.exp G)))
      transposes_S4x4x512x256_S4x256x4x512_0_3_1_2)

/-- The state after sequences of 256 positions from the zero state. -/
def final (k : FVec F S4x256x4x256 .f32) (v : FVec F S4x256x4x512 .f32) (G : FVec F S4x256x4x256 .f32) : FVec F S4x4x256x512 .f32 :=
  Host.dotGeneral dot_S4x256x4x256_S4x256x4x512_S4x4x256x512_1_1_3_3_02_02 none (mulf k (Host.exp (subf
    (broadcastInDim S4x256x4x256 ![0, 1, 2, 3] bcast_S4x1x4x256_S4x256x4x256_0_1_2_3 (extractStridedSlice S4x1x4x256 ![0, 255, 0, 0] G slices_S4x256x4x256_S4x1x4x256_0_255_0_0)) G))) v

end Towers

/-- A sequence's final state over the reals. -/
theorem final_real {k G : FVec Ideal S4x256x4x256 .f32} {v : FVec Ideal S4x256x4x512 .f32} {K Γ : ℕ → Fin 256 → ℝ} {V : ℕ → Fin 512 → ℝ} (b h : Fin 4)
    (hk : ∀ t d, k (ix4 b t h d) = (K t.val d : EReal)) (hv : ∀ t e, v (ix4 b t h e) = (V t.val e : EReal)) (hG : ∀ t d, G (ix4 b t h d) = (Γ t.val d : EReal))
    (d : Fin 256) (e : Fin 512) :
    final k v G (ix4 b h d e) = ((∑ x ∈ Finset.range 256, Real.exp (Γ 255 d - Γ x d) * K x d * V x e : ℝ) : EReal) := by
  pointwise [final]
  rw [← Fin.sum_univ_eq_sum_range (fun x => Real.exp (Γ 255 d - Γ x d) * K x d * V x e), coeSum]
  refine Finset.sum_congr rfl fun x _ => ?_
  rw [hk, hv, hG, hG, ← EReal.coe_sub, Ideal.exp_coe, ← EReal.coe_mul, ← EReal.coe_mul, mul_comm (Real.exp _)]
  rfl

/-- The running sums along 4096 positions, over the reals. -/
theorem runs4096_real {g : FVec Ideal S4x4096x4x256 .f32} {Γ : ℕ → Fin 256 → ℝ} (b h : Fin 4) (hg : ∀ t d, g (ix4 b t h d) = (Γ t.val d : EReal)) (t : Fin 4096) (d : Fin 256) :
    runs4096 g (ix4 b t h d) = ((∑ j ∈ Finset.range (t.val + 1), Γ j d : ℝ) : EReal) := by
  rw [coeSum]
  have h0 : (broadcastInDim S_ ![] bcast_S_S_ (constant (F := Ideal) S_ .f32 0x00000000#32)) (Shape.Idx.first h_S_) = (0 : EReal) := Ideal.ofBits_zero_f32
  unfold runs4096 Host.reduceWindowAdd
  rw [h0]
  exact window_sum (M := 4095) rfl g _ b t h d (fun j => (Γ j d : EReal)) fun i => hg i d

/-- The outputs of 4096 positions, over the reals. -/
theorem scan4096_real {q k G : FVec Ideal S4x4096x4x256 .f32} {v : FVec Ideal S4x4096x4x512 .f32} {s : FVec Ideal S4x4x256x512 .f32} {Q K Γ : ℕ → Fin 256 → ℝ}
    {V : ℕ → Fin 512 → ℝ} {S : Fin 512 → Fin 256 → ℝ} (b h : Fin 4) (hq : ∀ t d, q (ix4 b t h d) = (Q t.val d : EReal)) (hk : ∀ t d, k (ix4 b t h d) = (K t.val d : EReal))
    (hv : ∀ t e, v (ix4 b t h e) = (V t.val e : EReal)) (hG : ∀ t d, G (ix4 b t h d) = (Γ t.val d : EReal)) (hs : ∀ e d, s (ix4 b h d e) = (S e d : EReal)) (t : Fin 4096) (e : Fin 512) :
    scan4096 q k v G s (ix4 b t h e) =
      ((∑ x ∈ Finset.range (t.val + 1), (∑ d, Q t.val d * K x d * Real.exp (Γ t.val d - Γ x d)) * V x e + ∑ d, S e d * (Q t.val d * Real.exp (Γ t.val d)) : ℝ) : EReal) := by
  pointwise [scan4096]
  exact scan_sums (q := fun t d => q (ix4 b t h d)) (k := fun t d => k (ix4 b t h d)) (v := fun t e => v (ix4 b t h e)) (G := fun t d => G (ix4 b t h d)) (s := fun e d => s (ix4 b h d e))
    (by norm_num) hq hk hv hG hs t e

/-- The running sums along 256 positions, over the reals. -/
theorem runs256_real {g : FVec Ideal S4x256x4x256 .f32} {Γ : ℕ → Fin 256 → ℝ} (b h : Fin 4) (hg : ∀ t d, g (ix4 b t h d) = (Γ t.val d : EReal)) (t : Fin 256) (d : Fin 256) :
    runs256 g (ix4 b t h d) = ((∑ j ∈ Finset.range (t.val + 1), Γ j d : ℝ) : EReal) := by
  rw [coeSum]
  have h0 : (broadcastInDim S_ ![] bcast_S_S_ (constant (F := Ideal) S_ .f32 0x00000000#32)) (Shape.Idx.first h_S_) = (0 : EReal) := Ideal.ofBits_zero_f32
  unfold runs256 Host.reduceWindowAdd
  rw [h0]
  exact window_sum (M := 255) rfl g _ b t h d (fun j => (Γ j d : EReal)) fun i => hg i d

/-- The outputs of 256 positions, over the reals. -/
theorem scan256_real {q k G : FVec Ideal S4x256x4x256 .f32} {v : FVec Ideal S4x256x4x512 .f32} {s : FVec Ideal S4x4x256x512 .f32} {Q K Γ : ℕ → Fin 256 → ℝ}
    {V : ℕ → Fin 512 → ℝ} {S : Fin 512 → Fin 256 → ℝ} (b h : Fin 4) (hq : ∀ t d, q (ix4 b t h d) = (Q t.val d : EReal)) (hk : ∀ t d, k (ix4 b t h d) = (K t.val d : EReal))
    (hv : ∀ t e, v (ix4 b t h e) = (V t.val e : EReal)) (hG : ∀ t d, G (ix4 b t h d) = (Γ t.val d : EReal)) (hs : ∀ e d, s (ix4 b h d e) = (S e d : EReal)) (t : Fin 256) (e : Fin 512) :
    scan256 q k v G s (ix4 b t h e) =
      ((∑ x ∈ Finset.range (t.val + 1), (∑ d, Q t.val d * K x d * Real.exp (Γ t.val d - Γ x d)) * V x e + ∑ d, S e d * (Q t.val d * Real.exp (Γ t.val d)) : ℝ) : EReal) := by
  pointwise [scan256]
  exact scan_sums (q := fun t d => q (ix4 b t h d)) (k := fun t d => k (ix4 b t h d)) (v := fun t e => v (ix4 b t h e)) (G := fun t d => G (ix4 b t h d)) (s := fun e d => s (ix4 b h d e))
    (by norm_num) hq hk hv hG hs t e

end Cert.Gla

end
-- ==== Proof.Ref.lean ====
/- The reference's two results over the reals: at each position of each sequence the recurrence's output, the context rows' final state
   carried into the latent rows. -/
module

public import proofs.«01_k».proof.Proof.Inputs
public import proofs.«01_k».proof.Proof.Scan

@[expose] public section

noncomputable section

namespace Cert.Gla

open Cert.ReferenceIdeal Cert.ReferenceIdeal.Gen Cert.ReferenceIdeal.Read Idealize.ShloMosaic Idealize.ShloMosaic.TcCoe Idealize.SL.Sem

/-- A sequence's sums over its first positions and the ones after them. -/
theorem Seqs.sum_add (s : Seqs) (n m : ℕ) (d : Fin 256) : s.sum (n + m) d = s.sum n d + ∑ j ∈ Finset.range m, s.g (n + j) d := by
  unfold Seqs.sum; exact Finset.sum_range_add _ _ _

/-- The output after `n` positions: what the positions from `n` on contribute, and what the state after the first `n` does. -/
theorem Seqs.out_split (s : Seqs) (n t : ℕ) (e : Fin 512) :
    s.out (n + t) e = ∑ x ∈ Finset.range (t + 1), (∑ d, s.q (n + t) d * (1 / 16) * s.k (n + x) d *
        Real.exp (∑ j ∈ Finset.range (t + 1), s.g (n + j) d - ∑ j ∈ Finset.range (x + 1), s.g (n + j) d)) * s.v (n + x) e +
      ∑ d, s.state n e d * (s.q (n + t) d * (1 / 16) * Real.exp (∑ j ∈ Finset.range (t + 1), s.g (n + j) d)) := by
  unfold Seqs.out
  rw [show n + t + 1 = n + (t + 1) by omega, Finset.sum_range_add, add_comm]
  congr 1
  · refine Finset.sum_congr rfl fun x _ => ?_
    congr 1
    refine Finset.sum_congr rfl fun d _ => ?_
    rw [show n + x + 1 = n + (x + 1) by omega, s.sum_add, s.sum_add, add_sub_add_left_eq_sub]
  · unfold Seqs.state
    simp only [Finset.sum_mul]
    rw [Finset.sum_comm]
    refine Finset.sum_congr rfl fun d _ => Finset.sum_congr rfl fun i _ => ?_
    rw [s.sum_add, add_sub_right_comm, Real.exp_add]
    ring

/-- The outputs of a context sequence. -/
theorem context_out {s : Seqs} {q k g : FVec Ideal S4x256x4x256 .f32} {v : FVec Ideal S4x256x4x512 .f32} {z : FVec Ideal S4x4x256x512 .f32} {b h : Fin 4}
    (hq : ∀ t d, q (ix4 b t h d) = ((s.q t.val d * (1 / 16) : ℝ) : EReal)) (hk : ∀ t d, k (ix4 b t h d) = (s.k t.val d : EReal)) (hv : ∀ t e, v (ix4 b t h e) = (s.v t.val e : EReal))
    (hg : ∀ t d, g (ix4 b t h d) = (s.g t.val d : EReal)) (hz : ∀ e d, z (ix4 b h d e) = 0) (t : Fin 256) (e : Fin 512) :
    scan256 q k v (runs256 g) z (ix4 b t h e) = (s.out t.val e : EReal) := by
  rw [scan256_real (Q := fun t d => s.q t d * (1 / 16)) (K := s.k) (V := s.v) (Γ := fun t d => s.sum (t + 1) d) (S := fun _ _ => 0) b h hq hk hv (runs256_real b h hg) (fun e d => by rw [hz, EReal.coe_zero])]
  congr 1
  simp only [zero_mul, Finset.sum_const_zero, add_zero]
  rfl

/-- The state a context sequence leaves. -/
theorem context_state {s : Seqs} {k g : FVec Ideal S4x256x4x256 .f32} {v : FVec Ideal S4x256x4x512 .f32} {b h : Fin 4}
    (hk : ∀ t d, k (ix4 b t h d) = (s.k t.val d : EReal)) (hv : ∀ t e, v (ix4 b t h e) = (s.v t.val e : EReal))
    (hg : ∀ t d, g (ix4 b t h d) = (s.g t.val d : EReal)) (e : Fin 512) (d : Fin 256) :
    final k v (runs256 g) (ix4 b h d e) = (s.state 256 e d : EReal) :=
  final_real (K := s.k) (V := s.v) (Γ := fun t d => s.sum (t + 1) d) b h hk hv (runs256_real b h hg) d e

/-- The outputs of a latent sequence, from the state its context leaves. -/
theorem latent_out {s : Seqs} {q k g : FVec Ideal S4x4096x4x256 .f32} {v : FVec Ideal S4x4096x4x512 .f32} {z : FVec Ideal S4x4x256x512 .f32} {b h : Fin 4}
    (hq : ∀ t d, q (ix4 b t h d) = ((s.q (256 + t.val) d * (1 / 16) : ℝ) : EReal)) (hk : ∀ t d, k (ix4 b t h d) = (s.k (256 + t.val) d : EReal))
    (hv : ∀ t e, v (ix4 b t h e) = (s.v (256 + t.val) e : EReal)) (hg : ∀ t d, g (ix4 b t h d) = (s.g (256 + t.val) d : EReal))
    (hz : ∀ e d, z (ix4 b h d e) = (s.state 256 e d : EReal)) (t : Fin 4096) (e : Fin 512) :
    scan4096 q k v (runs4096 g) z (ix4 b t h e) = (s.out (256 + t.val) e : EReal) := by
  rw [scan4096_real (Q := fun t d => s.q (256 + t) d * (1 / 16)) (K := fun t => s.k (256 + t)) (V := fun t => s.v (256 + t)) (Γ := fun t d => ∑ j ∈ Finset.range (t + 1), s.g (256 + j) d)
    (S := s.state 256) b h hq hk hv (runs4096_real (Γ := fun t => s.g (256 + t)) b h hg) hz, s.out_split]

/-- An array reversed along its positions. -/
theorem reverse_apply {A : Type} {B L H E : ℕ} (x : (⟨4, ![B, L, H, E]⟩ : Shape).Idx → A) (b : Fin B) (t : Fin L) (h : Fin H) (d : Fin E) :
    Host.reverse [1] x (ix4 b t h d) = x (ix4 b t.rev h d) := by
  refine congrArg x (funext fun a => ?_)
  match a with
  | ⟨0, _⟩ => rfl
  | ⟨1, _⟩ => rfl
  | ⟨2, _⟩ => rfl
  | ⟨3, _⟩ => rfl

/-- A forward context row. -/
theorem rowC0 (b : Fin 4) (t : Fin 256) : (rowAt 0 b.val t.val).val = 16384 + (256 * b.val + t.val) := by
  simp only [rowAt, rowN, if_true]
  rw [if_pos t.isLt]; omega

/-- A backward context row. -/
theorem rowC1 (b : Fin 4) (t : Fin 256) : (rowAt 1 b.val t.val).val = 16384 + (256 * b.val + t.rev.val) := by
  have ht := t.isLt
  simp only [rowAt, rowN, Fin.val_rev]
  rw [if_pos ht, if_neg (by decide)]; omega

/-- A forward latent row. -/
theorem rowL0 (b : Fin 4) (t : Fin 4096) : (rowAt 0 b.val (256 + t.val)).val = 4096 * b.val + t.val := by
  have ht := t.isLt
  simp only [rowAt, rowN, if_true]
  rw [if_neg (by omega)]; omega

/-- A backward latent row. -/
theorem rowL1 (b : Fin 4) (t : Fin 4096) : (rowAt 1 b.val (256 + t.val)).val = 4096 * b.val + t.rev.val := by
  have ht := t.isLt
  simp only [rowAt, rowN, Fin.val_rev]
  rw [if_neg (by omega), if_neg (by decide)]; omega

/-- The zero state. -/
theorem zero_state (b h : Fin 4) (e : Fin 512) (d : Fin 256) : val_main_v93 (F := Ideal) (ix4 b h d e) = 0 := by
  pointwise [val_main_v93, val_main_cst_5]

variable {D : Data} {x0 : (⟨S17408x6144, .bf16⟩ : BufTy).Contents (Elt Ideal)} {x1 : (⟨S17408x128, .f32⟩ : BufTy).Contents (Elt Ideal)} {x2 : (⟨S2x16x1024, .f32⟩ : BufTy).Contents (Elt Ideal)} {x3 : (⟨S2x1024, .f32⟩ : BufTy).Contents (Elt Ideal)}

/-- The forward context sequences' final states. -/
theorem stateF (H : D.Of x0 x1 x2 x3) (b h : Fin 4) (e : Fin 512) (d : Fin 256) : val_main_v82 (F := Ideal) x0 x1 x2 x3 (ix4 b h d e) = ((D.seqs 0 b.val h).state 256 e d : EReal) :=
  context_state (s := D.seqs 0 b.val h) (fun t d => con_k H (rowC0 b t) h d) (fun t d => con_v H (rowC0 b t) h d) (fun t d => con_gF H (rowC0 b t) h d) e d

/-- The forward context sequences' outputs. -/
theorem contextF (H : D.Of x0 x1 x2 x3) (b : Fin 4) (t : Fin 256) (h : Fin 4) (e : Fin 512) : val_main_v173 (F := Ideal) x0 x1 x2 x3 (ix4 b t h e) = ((D.seqs 0 b.val h).out t.val e : EReal) :=
  context_out (s := D.seqs 0 b.val h) (fun t d => con_q H (rowC0 b t) h d) (fun t d => con_k H (rowC0 b t) h d) (fun t d => con_v H (rowC0 b t) h d) (fun t d => con_gF H (rowC0 b t) h d) (zero_state b h) t e

/-- The forward latent sequences' outputs. -/
theorem latentF (H : D.Of x0 x1 x2 x3) (b : Fin 4) (t : Fin 4096) (h : Fin 4) (e : Fin 512) : val_main_v118 (F := Ideal) x0 x1 x2 x3 (ix4 b t h e) = ((D.seqs 0 b.val h).out (256 + t.val) e : EReal) :=
  latent_out (s := D.seqs 0 b.val h) (fun t d => lat_q H (rowL0 b t) h d) (fun t d => lat_k H (rowL0 b t) h d) (fun t d => lat_v H (rowL0 b t) h d)
    (fun t d => lat_gF H (rowL0 b t) h d) (stateF H b h) t e

/-- The backward context sequences' final states. -/
theorem stateB (H : D.Of x0 x1 x2 x3) (b h : Fin 4) (e : Fin 512) (d : Fin 256) : val_main_v92 (F := Ideal) x0 x1 x2 x3 (ix4 b h d e) = ((D.seqs 1 b.val h).state 256 e d : EReal) :=
  context_state (s := D.seqs 1 b.val h) (fun t d => (reverse_apply _ b t h d).trans (con_k H (rowC1 b t) h d)) (fun t d => (reverse_apply _ b t h d).trans (con_v H (rowC1 b t) h d)) (fun t d => (reverse_apply _ b t h d).trans (con_gB H (rowC1 b t) h d)) e d

/-- The backward context sequences' outputs. -/
theorem contextB (H : D.Of x0 x1 x2 x3) (b : Fin 4) (t : Fin 256) (h : Fin 4) (e : Fin 512) : val_main_v202 (F := Ideal) x0 x1 x2 x3 (ix4 b t h e) = ((D.seqs 1 b.val h).out t.val e : EReal) :=
  context_out (s := D.seqs 1 b.val h) (fun t d => (reverse_apply _ b t h d).trans (con_q H (rowC1 b t) h d)) (fun t d => (reverse_apply _ b t h d).trans (con_k H (rowC1 b t) h d)) (fun t d => (reverse_apply _ b t h d).trans (con_v H (rowC1 b t) h d)) (fun t d => (reverse_apply _ b t h d).trans (con_gB H (rowC1 b t) h d)) (zero_state b h) t e

/-- The backward latent sequences' outputs. -/
theorem latentB (H : D.Of x0 x1 x2 x3) (b : Fin 4) (t : Fin 4096) (h : Fin 4) (e : Fin 512) : val_main_v147 (F := Ideal) x0 x1 x2 x3 (ix4 b t h e) = ((D.seqs 1 b.val h).out (256 + t.val) e : EReal) :=
  latent_out (s := D.seqs 1 b.val h) (fun t d => (reverse_apply _ b t h d).trans (lat_q H (rowL1 b t) h d)) (fun t d => (reverse_apply _ b t h d).trans (lat_k H (rowL1 b t) h d)) (fun t d => (reverse_apply _ b t h d).trans (lat_v H (rowL1 b t) h d))
    (fun t d => (reverse_apply _ b t h d).trans (lat_gB H (rowL1 b t) h d)) (stateB H b h) t e

/-- The forward result at a head's column. -/
theorem referenceF (H : D.Of x0 x1 x2 x3) (b j : ℕ) (hb : b < 4) (hj : j < 4352) (h : Fin 4) (e : Fin 512) :
    val_main_v207 (F := Ideal) x0 x1 x2 x3 (ix2 (rowAt 0 b j) (he h e)) = ((D.seqs 0 b h).out j e : EReal) := by
  have ch : (he h e).val / 512 = h.val := by simp only [he]; omega
  have ce : (he h e).val % 512 = e.val := by simp only [he]; omega
  pointwise [val_main_v207, val_main_v206, val_main_v204, val_main_v205]
  by_cases hc : j < 256
  · have hr := rowC0 ⟨b, hb⟩ ⟨j, hc⟩
    simp only [Fin.val_rev] at hr
    rw [dif_neg (by omega)]
    have hl : val_main_v173 (F := Ideal) x0 x1 x2 x3 (ix4 ⟨b, hb⟩ ⟨j, hc⟩ h e) = ((D.seqs 0 b h).out j e : EReal) := contextF H ⟨b, hb⟩ ⟨j, hc⟩ h e
    refine Eq.trans (congrArg _ ?_) hl
    refine congr (congr (congrArg₂ ix4 (Fin.ext ?_) (Fin.ext ?_)) (Fin.ext ch)) (Fin.ext ce)
    · dsimp only; omega
    · simp only [Fin.val_rev]; omega
  · have hr := rowL0 ⟨b, hb⟩ ⟨j - 256, by omega⟩
    simp only [Fin.val_rev, show 256 + (j - 256) = j by omega] at hr
    rw [dif_pos (by omega)]
    have hk := latentF H ⟨b, hb⟩ ⟨j - 256, by omega⟩ h e
    simp only [show 256 + (j - 256) = j by omega] at hk
    have hl : val_main_v118 (F := Ideal) x0 x1 x2 x3 (ix4 ⟨b, hb⟩ ⟨j - 256, by omega⟩ h e) = ((D.seqs 0 b h).out j e : EReal) := hk
    refine Eq.trans (congrArg _ ?_) hl
    refine congr (congr (congrArg₂ ix4 (Fin.ext ?_) (Fin.ext ?_)) (Fin.ext ch)) (Fin.ext ce)
    · dsimp only; omega
    · simp only [Fin.val_rev]; omega

/-- The backward result at a head's column. -/
theorem referenceB (H : D.Of x0 x1 x2 x3) (b j : ℕ) (hb : b < 4) (hj : j < 4352) (h : Fin 4) (e : Fin 512) :
    val_main_v211 (F := Ideal) x0 x1 x2 x3 (ix2 (rowAt 1 b j) (he h e)) = ((D.seqs 1 b h).out j e : EReal) := by
  have ch : (he h e).val / 512 = h.val := by simp only [he]; omega
  have ce : (he h e).val % 512 = e.val := by simp only [he]; omega
  pointwise [val_main_v211, val_main_v210, val_main_v208, val_main_v209]
  by_cases hc : j < 256
  · have hr := rowC1 ⟨b, hb⟩ ⟨j, hc⟩
    simp only [Fin.val_rev] at hr
    rw [dif_neg (by omega)]
    have hl : val_main_v203 (F := Ideal) x0 x1 x2 x3 (ix4 ⟨b, hb⟩ (Fin.rev ⟨j, hc⟩) h e) = ((D.seqs 1 b h).out j e : EReal) := (reverse_apply (val_main_v202 (F := Ideal) x0 x1 x2 x3) _ _ h e).trans (by rw [Fin.rev_rev]; exact contextB H ⟨b, hb⟩ ⟨j, hc⟩ h e)
    refine Eq.trans (congrArg _ ?_) hl
    refine congr (congr (congrArg₂ ix4 (Fin.ext ?_) (Fin.ext ?_)) (Fin.ext ch)) (Fin.ext ce)
    · dsimp only; omega
    · simp only [Fin.val_rev]; omega
  · have hr := rowL1 ⟨b, hb⟩ ⟨j - 256, by omega⟩
    simp only [Fin.val_rev, show 256 + (j - 256) = j by omega] at hr
    rw [dif_pos (by omega)]
    have hk := latentB H ⟨b, hb⟩ ⟨j - 256, by omega⟩ h e
    simp only [show 256 + (j - 256) = j by omega] at hk
    have hl : val_main_v148 (F := Ideal) x0 x1 x2 x3 (ix4 ⟨b, hb⟩ (Fin.rev ⟨j - 256, by omega⟩) h e) = ((D.seqs 1 b h).out j e : EReal) := (reverse_apply (val_main_v147 (F := Ideal) x0 x1 x2 x3) _ _ h e).trans (by rw [Fin.rev_rev]; exact hk)
    refine Eq.trans (congrArg _ ?_) hl
    refine congr (congr (congrArg₂ ix4 (Fin.ext ?_) (Fin.ext ?_)) (Fin.ext ch)) (Fin.ext ce)
    · dsimp only; omega
    · simp only [Fin.val_rev]; omega

end Cert.Gla

end
-- ==== Proof.Finite.lean ====
/- Finite arguments are real numbers. -/
module

public import proofs.«01_k».proof.Defs
public import proofs.«01_k».proof.Proof.Fold
public import Idealize.ShloMosaic.Lib.Pointwise
public import Idealize.ShloMosaic.Lib.ValueIdx

@[expose] public section

noncomputable section

namespace Cert.Gla

open Idealize.ShloMosaic Idealize.ShloMosaic.TcCoe Idealize.SL.Sem

/-- The precondition's shape relations. -/
instance finite_facts : Cert.Pre_finite.Facts where
  bcast_S_S17408x6144 := by decide
  bcast_S_S17408x128 := by decide
  bcast_S_S2x16x1024 := by decide
  bcast_S_S2x1024 := by decide

/-- The 16-bit pattern of infinity. -/
theorem inf_bf16 : Ideal.ofBits .bf16 0x7F80#16 = ⊤ := by
  simp [Ideal.ofBits, Ideal.ieee]

/-- The 32-bit pattern of infinity. -/
theorem inf_f32 : Ideal.ofBits .f32 0x7F800000#32 = ⊤ := by
  simp [Ideal.ofBits, Ideal.ieee]

/-- An extended real whose magnitude compares below infinity is a real number. -/
theorem real_of_lt {φ : FTy} {x y : EReal} (hy : y = ⊤) (h : FloatOps.cmpf (F := Ideal) (φ := φ) .olt (FloatOps.hostAbsf (F := Ideal) (φ := φ) x) y = 1#1) : x = (x.toReal : EReal) := by
  subst hy
  have hlt : max x (-x) < ⊤ := by
    by_contra hc
    have : FloatOps.cmpf (F := Ideal) (φ := φ) .olt (FloatOps.hostAbsf (F := Ideal) (φ := φ) x) ⊤ = BitVec.ofBool (decide (max x (-x) < ⊤)) := rfl
    rw [this, decide_eq_false hc] at h
    exact absurd h (by decide)
  refine (EReal.coe_toReal (fun hx => ?_) (fun hx => ?_)).symm
  · rw [hx] at hlt; simp at hlt
  · rw [hx] at hlt; simp at hlt

/-- The real numbers the arguments hold. -/
def dataOf (x0 : FVec Ideal Cert.Pre_finite.S17408x6144 .bf16) (x1 : FVec Ideal Cert.Pre_finite.S17408x128 .f32) (x2 : FVec Ideal Cert.Pre_finite.S2x16x1024 .f32)
    (x3 : FVec Ideal Cert.Pre_finite.S2x1024 .f32) : Data where
  p r x := (x0 (ix2 r x) : EReal).toReal
  z r x := (x1 (ix2 r x) : EReal).toReal
  w a i x := (x2 (ix3 a i x) : EReal).toReal
  b a x := (x3 (ix2 a x) : EReal).toReal

/-- Finite arguments hold them. -/
theorem dataOf_of {x0 : FVec Ideal Cert.Pre_finite.S17408x6144 .bf16} {x1 : FVec Ideal Cert.Pre_finite.S17408x128 .f32} {x2 : FVec Ideal Cert.Pre_finite.S2x16x1024 .f32}
    {x3 : FVec Ideal Cert.Pre_finite.S2x1024 .f32} (h0 : (Cert.Pre_finite.fn (F := Ideal) x0 x1 x2 x3).1 = fun _ => 1#1) (h1 : (Cert.Pre_finite.fn (F := Ideal) x0 x1 x2 x3).2.1 = fun _ => 1#1)
    (h2 : (Cert.Pre_finite.fn (F := Ideal) x0 x1 x2 x3).2.2.1 = fun _ => 1#1) (h3 : (Cert.Pre_finite.fn (F := Ideal) x0 x1 x2 x3).2.2.2 = fun _ => 1#1) :
    (dataOf x0 x1 x2 x3).Of x0 x1 x2 x3 where
  p r x := real_of_lt (φ := .bf16) inf_bf16 (congrFun h0 (ix2 r x))
  z r x := real_of_lt (φ := .f32) inf_f32 (congrFun h1 (ix2 r x))
  w a i x := real_of_lt (φ := .f32) inf_f32 (congrFun h2 (ix3 a i x))
  b a x := real_of_lt (φ := .f32) inf_f32 (congrFun h3 (ix2 a x))

end Cert.Gla

end
-- ==== Proof.FfnTripI.lean ====
/- One trip of the loop that prenorms a tile, 16 rows at a time. Over the extended reals. -/
module

public import proofs.«01_k».proof.Proof.Gen.Kernel2Ideal.Frame
public import proofs.«01_k».proof.Proof.Gen.Kernel2Ideal.Points
public import proofs.«01_k».proof.Proof.Gen.Kernel2Ideal.Loops
public import Idealize.ShloMosaic.Lib.Tactic
public import Idealize.ShloMosaic.Lib.Pipeline.Kit
public import Idealize.ShloMosaic.Lib.Pipeline.Frame
public import Idealize.ShloMosaic.Lib.Pointwise
public import Idealize.ShloMosaic.Lib.WritesUnit

@[expose] public section

set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The tile of the input, the prenormed tile and the two modulation rows: the kernel's own buffers. -/
abbrev xM : Memref sig .tc .vmem S1024x2048 .f32 := Memref.whole cc0_scratch0
abbrev hM : Memref sig .tc .vmem S1024x2048 .bf16 := Memref.whole cc0_scratch1
abbrev mM : Memref sig .tc .vmem S2x16x2048 .f32 := Memref.whole cc0_scratch2

/-- A memref's buffer on core `c`, held whole at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

abbrev slab0 : Rect S2x16x2048 := Rect.unit (s := S2x16x2048) ![0, 0, 0] S1x16x2048.size inb_S2x16x2048_S1x16x2048_0_0_0
abbrev slab1 : Rect S2x16x2048 := Rect.unit (s := S2x16x2048) ![1, 0, 0] S1x16x2048.size inb_S2x16x2048_S1x16x2048_1_0_0

/-- The rows of `X` that lie in the group of sixteen around row `y`. -/
def group (X : S1024x2048.Idx → F .f32) (y : S1024x2048.Idx) : Vec F S16x2048 .f32 :=
  fun z => X (ix2 (⟨((y 0).val / 16 * 16 + (z 0).val) % 1024, Nat.mod_lt _ (by decide)⟩ : Fin 1024) (⟨(z 1).val, (z 1).isLt⟩ : Fin 2048))

/-- The prenormed tile: each group of sixteen rows on its own. -/
def normed (X : S1024x2048.Idx → F .f32) (A B : Vec F S1x16x2048 .f32) (y : S1024x2048.Idx) : F .bf16 :=
  k0_pay2 (group X y) A B (ix2 (⟨(y 0).val % 16, Nat.mod_lt _ (by decide)⟩ : Fin 16) (⟨(y 1).val, (y 1).isLt⟩ : Fin 2048))

/-- Before trip `k`: the tile and the modulation rows as they were, and of the other two the first `128 k` rows done. -/
abbrev tripInv (c : Dev nD) (arg10 : Memref sig .tc .vmem S1024x2048 .f32) (X : BufTy.Contents (Elt F) xM.view.ty)
    (Y : BufTy.Contents (Elt F) mM.view.ty) (k : ℕ) : sProp 𝕄 :=
  iprop(pt c xM X ∗ pt c mM Y
    ∗ (∃ f, pt c arg10 f ∗ ⌜∀ y : S1024x2048.Idx, (y 0).val < 128 * k → arg10.view.read (Elt F) f y = xM.view.read (Elt F) X y⌝)
    ∗ (∃ f, pt c hM f ∗ ⌜∀ y : S1024x2048.Idx, (y 0).val < 128 * k → hM.view.read (Elt F) f y
        = normed (xM.view.read (Elt F) X) (mM.view.readAt (Elt F) slab0.toLoadRect Y) (mM.view.readAt (Elt F) slab1.toLoadRect Y) y⌝))

/-- Sixteen more rows at the newest piece: the rows below them as before, theirs the piece's. -/
theorem step_rows {κ : Kind} {sp : Space} {e : EltTy} (v : View sig κ sp S1024x2048 e) (f : v.ty.Contents (Elt F)) (G : S1024x2048.Idx → Elt F e)
    {off : Fin 2 → ℕ} {o : ℕ} (hoff : off = ![o, 0]) (inb : ∀ a : Fin 2, off a + S16x2048.size a ≤ S1024x2048.size a)
    (w : (Rect.unit (s := S1024x2048) off S16x2048.size inb).shape.Idx → Elt F e) (L : List (View.Piece (Elt F) S1024x2048 e))
    (hL : ∀ y : S1024x2048.Idx, (y 0).val < o → v.read (Elt F) (v.writes (Elt F) f L) y = G y)
    (hw : ∀ x, w x = G ((Rect.unit (s := S1024x2048) off S16x2048.size inb).emb x)) :
    ∀ y : S1024x2048.Idx, (y 0).val < o + 16 →
      v.read (Elt F) (v.writes (Elt F) f ((⟨Rect.unit (s := S1024x2048) off S16x2048.size inb, w⟩ : View.Piece (Elt F) S1024x2048 e) :: L)) y = G y := by
  intro y hy
  by_cases h : o ≤ (y 0).val
  · rw [View.read_writes_cons_rows v f inb w L y hoff (W := 16) rfl rfl, dif_pos ⟨h, hy⟩, hw]
    congr 1
    subst hoff
    funext a
    apply Fin.ext
    fin_cases a
    · refine (Rect.emb_apply _ _ _).trans ?_
      show o + 1 * ((y 0).val - o) = (y 0).val; omega
    · refine (Rect.emb_apply _ _ _).trans ?_
      show 0 + 1 * ((y 1).val - 0) = (y 1).val; omega
  · rw [View.read_writes_cons_rows_of_not_mem v f inb w L y hoff (W := 16) rfl (Or.inl (by omega))]
    exact hL y (by omega)

/-- A group of sixteen rows prenormed from its own rows of the tile. -/
theorem normed_at (X : BufTy.Contents (Elt F) xM.view.ty) (A B : Vec F S1x16x2048 .f32) {off : Fin 2 → ℕ} {g : ℕ}
    (hoff : off = ![16 * g, 0]) (inb : ∀ a : Fin 2, off a + S16x2048.size a ≤ S1024x2048.size a)
    (x : (Rect.unit (s := S1024x2048) off S16x2048.size inb).shape.Idx) :
    k0_pay2 (F := F) (xM.view.readAt (Elt F) (Rect.unit (s := S1024x2048) off S16x2048.size inb).toLoadRect X) A B x
      = normed (F := F) (xM.view.read (Elt F) X) A B ((Rect.unit (s := S1024x2048) off S16x2048.size inb).emb x) := by
  subst hoff
  have hg : 16 * g + 16 ≤ 1024 := inb 0
  have hx : (x 0).val < 16 := (x 0).isLt
  have e0 : ((Rect.unit (s := S1024x2048) ![16 * g, 0] S16x2048.size inb).emb x 0).val = 16 * g + 1 * (x 0).val := Rect.emb_apply _ _ _
  have e1 : ((Rect.unit (s := S1024x2048) ![16 * g, 0] S16x2048.size inb).emb x 1).val = 0 + 1 * (x 1).val := Rect.emb_apply _ _ _
  have hX : xM.view.readAt (Elt F) (Rect.unit (s := S1024x2048) ![16 * g, 0] S16x2048.size inb).toLoadRect X
      = group (F := F) (xM.view.read (Elt F) X) ((Rect.unit (s := S1024x2048) ![16 * g, 0] S16x2048.size inb).emb x) := by
    funext z
    have hz : (z 0).val < 16 := (z 0).isLt
    refine congrArg (xM.view.read (Elt F) X) (?_ : (Rect.unit (s := S1024x2048) ![16 * g, 0] S16x2048.size inb).emb z = _)
    funext a
    apply Fin.ext
    fin_cases a
    · refine (Rect.emb_apply _ _ _).trans ?_
      show 16 * g + 1 * (z 0).val = (((Rect.unit (s := S1024x2048) ![16 * g, 0] S16x2048.size inb).emb x 0).val / 16 * 16 + (z 0).val) % 1024
      rw [e0]; omega
    · refine (Rect.emb_apply _ _ _).trans ?_
      show 0 + 1 * (z 1).val = (z 1).val; omega
  unfold normed
  rw [hX]
  refine congrArg (k0_pay2 (F := F) _ A B) ?_
  funext a
  apply Fin.ext
  fin_cases a
  · show (x 0).val = ((Rect.unit (s := S1024x2048) ![16 * g, 0] S16x2048.size inb).emb x 0).val % 16
    rw [e0]; omega
  · show (x 1).val = ((Rect.unit (s := S1024x2048) ![16 * g, 0] S16x2048.size inb).emb x 1).val
    rw [e1]; omega

/-- The eight groups of trip `k` on top of the trips before it. -/
theorem rows8 {κ : Kind} {sp : Space} {e : EltTy} (v : View sig κ sp S1024x2048 e) (f : v.ty.Contents (Elt F)) (G : S1024x2048.Idx → Elt F e)
    (k : Fin k0_t1_loop.trips) (h : ∀ y : S1024x2048.Idx, (y 0).val < 128 * k.val → v.read (Elt F) f y = G y) :
    ∀ (inb0 : ∀ a : Fin 2, k0_off3 k 0#32 a + S16x2048.size a ≤ S1024x2048.size a) (inb1 : ∀ a : Fin 2, k0_off3 k 16#32 a + S16x2048.size a ≤ S1024x2048.size a) (inb2 : ∀ a : Fin 2, k0_off3 k 32#32 a + S16x2048.size a ≤ S1024x2048.size a) (inb3 : ∀ a : Fin 2, k0_off3 k 48#32 a + S16x2048.size a ≤ S1024x2048.size a) (inb4 : ∀ a : Fin 2, k0_off3 k 64#32 a + S16x2048.size a ≤ S1024x2048.size a) (inb5 : ∀ a : Fin 2, k0_off3 k 80#32 a + S16x2048.size a ≤ S1024x2048.size a) (inb6 : ∀ a : Fin 2, k0_off3 k 96#32 a + S16x2048.size a ≤ S1024x2048.size a) (inb7 : ∀ a : Fin 2, k0_off3 k 112#32 a + S16x2048.size a ≤ S1024x2048.size a)
      (w0 : (Rect.unit (s := S1024x2048) (k0_off3 k 0#32) S16x2048.size inb0).shape.Idx → Elt F e)
      (w1 : (Rect.unit (s := S1024x2048) (k0_off3 k 16#32) S16x2048.size inb1).shape.Idx → Elt F e)
      (w2 : (Rect.unit (s := S1024x2048) (k0_off3 k 32#32) S16x2048.size inb2).shape.Idx → Elt F e)
      (w3 : (Rect.unit (s := S1024x2048) (k0_off3 k 48#32) S16x2048.size inb3).shape.Idx → Elt F e)
      (w4 : (Rect.unit (s := S1024x2048) (k0_off3 k 64#32) S16x2048.size inb4).shape.Idx → Elt F e)
      (w5 : (Rect.unit (s := S1024x2048) (k0_off3 k 80#32) S16x2048.size inb5).shape.Idx → Elt F e)
      (w6 : (Rect.unit (s := S1024x2048) (k0_off3 k 96#32) S16x2048.size inb6).shape.Idx → Elt F e)
      (w7 : (Rect.unit (s := S1024x2048) (k0_off3 k 112#32) S16x2048.size inb7).shape.Idx → Elt F e),
      (∀ x, w0 x = G ((Rect.unit (s := S1024x2048) (k0_off3 k 0#32) S16x2048.size inb0).emb x)) →
      (∀ x, w1 x = G ((Rect.unit (s := S1024x2048) (k0_off3 k 16#32) S16x2048.size inb1).emb x)) →
      (∀ x, w2 x = G ((Rect.unit (s := S1024x2048) (k0_off3 k 32#32) S16x2048.size inb2).emb x)) →
      (∀ x, w3 x = G ((Rect.unit (s := S1024x2048) (k0_off3 k 48#32) S16x2048.size inb3).emb x)) →
      (∀ x, w4 x = G ((Rect.unit (s := S1024x2048) (k0_off3 k 64#32) S16x2048.size inb4).emb x)) →
      (∀ x, w5 x = G ((Rect.unit (s := S1024x2048) (k0_off3 k 80#32) S16x2048.size inb5).emb x)) →
      (∀ x, w6 x = G ((Rect.unit (s := S1024x2048) (k0_off3 k 96#32) S16x2048.size inb6).emb x)) →
      (∀ x, w7 x = G ((Rect.unit (s := S1024x2048) (k0_off3 k 112#32) S16x2048.size inb7).emb x)) →
      ∀ y : S1024x2048.Idx, (y 0).val < 128 * (k.val + 1) →
        v.read (Elt F) (v.writes (Elt F) f [⟨Rect.unit (s := S1024x2048) (k0_off3 k 112#32) S16x2048.size inb7, w7⟩, ⟨Rect.unit (s := S1024x2048) (k0_off3 k 96#32) S16x2048.size inb6, w6⟩, ⟨Rect.unit (s := S1024x2048) (k0_off3 k 80#32) S16x2048.size inb5, w5⟩, ⟨Rect.unit (s := S1024x2048) (k0_off3 k 64#32) S16x2048.size inb4, w4⟩, ⟨Rect.unit (s := S1024x2048) (k0_off3 k 48#32) S16x2048.size inb3, w3⟩, ⟨Rect.unit (s := S1024x2048) (k0_off3 k 32#32) S16x2048.size inb2, w2⟩, ⟨Rect.unit (s := S1024x2048) (k0_off3 k 16#32) S16x2048.size inb1, w1⟩, ⟨Rect.unit (s := S1024x2048) (k0_off3 k 0#32) S16x2048.size inb0, w0⟩]) y = G y := by
  intro inb0 inb1 inb2 inb3 inb4 inb5 inb6 inb7 w0 w1 w2 w3 w4 w5 w6 w7 h0 h1 h2 h3 h4 h5 h6 h7 y hy
  have g0 := step_rows v f G (k0_off3_eq k 0) inb0 w0 [] (fun y hy => h y (by simpa using hy)) h0
  have g1 := step_rows v f G (k0_off3_eq k 1) inb1 w1 _ (fun y hy => g0 y (by simp at hy ⊢; omega)) h1
  have g2 := step_rows v f G (k0_off3_eq k 2) inb2 w2 _ (fun y hy => g1 y (by simp at hy ⊢; omega)) h2
  have g3 := step_rows v f G (k0_off3_eq k 3) inb3 w3 _ (fun y hy => g2 y (by simp at hy ⊢; omega)) h3
  have g4 := step_rows v f G (k0_off3_eq k 4) inb4 w4 _ (fun y hy => g3 y (by simp at hy ⊢; omega)) h4
  have g5 := step_rows v f G (k0_off3_eq k 5) inb5 w5 _ (fun y hy => g4 y (by simp at hy ⊢; omega)) h5
  have g6 := step_rows v f G (k0_off3_eq k 6) inb6 w6 _ (fun y hy => g5 y (by simp at hy ⊢; omega)) h6
  have g7 := step_rows v f G (k0_off3_eq k 7) inb7 w7 _ (fun y hy => g6 y (by simp at hy ⊢; omega)) h7
  exact g7 y (by simp; omega)

theorem trip (𝒱 : Variants) (c : Dev nD) (bd : Option 𝒱.V) (E : Set ℕ) (i : grid0.Coords) (arg2 : Memref sig .tc .hbm S17408x2048 .f32) (harg2 : arg2.IsWhole) (arg3 : Memref sig .tc .hbm S17408x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x1x2048x1024 .bf16) (harg8 : arg8.IsWhole) (arg9 : Memref sig .tc .vmem S1x1x512x2048 .bf16) (harg9 : arg9.IsWhole) (arg10 : Memref sig .tc .vmem S1024x2048 .f32) (harg10 : arg10.IsWhole) (arg14 : DmaSems sig S_) (k0_h2 : k0_cond2 i = 1#1)
    (X : BufTy.Contents (Elt F) xM.view.ty) (Y : BufTy.Contents (Elt F) mM.view.ty) (k : Fin k0_t1_loop.trips) :
    tripInv (F := F) c arg10 X Y k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 xM (Memref.isWhole_whole _) hM (Memref.isWhole_whole _) mM (Memref.isWhole_whole _) arg14 k0_h2 k PUnit.unit)
          (fun _ => tripInv (F := F) c arg10 X Y (k.val + 1)) := by
  have hk : k.val < 8 := Nat.lt_of_lt_of_le k.isLt k0_t1_abs.2.1
  unfold k0_t1_body
  iintro ⟨HX, HY, ⟨%fo, HO, %ho⟩, ⟨%fh, HH, %hh⟩⟩
  sl_exec
  sl_step
  isplitl [HX]; · iexact HX
  isplitl [HY]; · iexact HY
  isplitl [HO]
  · iexists _; isplitl [HO]; · iexact HO
    ipureintro
    have q := rows8 arg10.view fo (xM.view.read (Elt F) X) k (fun y hy => ho y hy)
    exact fun y hy => q _ _ _ _ _ _ _ _ _ _ _ _ _ _ _ _ (fun _ => rfl) (fun _ => rfl) (fun _ => rfl) (fun _ => rfl) (fun _ => rfl) (fun _ => rfl)
      (fun _ => rfl) (fun _ => rfl) y hy
  iexists _; isplitl [HH]; · iexact HH
  ipureintro
  have q := rows8 hM.view fh (normed (F := F) (xM.view.read (Elt F) X) (mM.view.readAt (Elt F) slab0.toLoadRect Y) (mM.view.readAt (Elt F) slab1.toLoadRect Y)) k (fun y hy => hh y hy)
  exact fun y hy => q _ _ _ _ _ _ _ _ _ _ _ _ _ _ _ _
    (fun x => normed_at X _ _ ((k0_off3_eq k 0).trans (by congr 1; simp; omega : _ = ![16 * (8 * k.val + 0), 0])) _ x)
    (fun x => normed_at X _ _ ((k0_off3_eq k 1).trans (by congr 1; simp; omega : _ = ![16 * (8 * k.val + 1), 0])) _ x)
    (fun x => normed_at X _ _ ((k0_off3_eq k 2).trans (by congr 1; simp; omega : _ = ![16 * (8 * k.val + 2), 0])) _ x)
    (fun x => normed_at X _ _ ((k0_off3_eq k 3).trans (by congr 1; simp; omega : _ = ![16 * (8 * k.val + 3), 0])) _ x)
    (fun x => normed_at X _ _ ((k0_off3_eq k 4).trans (by congr 1; simp; omega : _ = ![16 * (8 * k.val + 4), 0])) _ x)
    (fun x => normed_at X _ _ ((k0_off3_eq k 5).trans (by congr 1; simp; omega : _ = ![16 * (8 * k.val + 5), 0])) _ x)
    (fun x => normed_at X _ _ ((k0_off3_eq k 6).trans (by congr 1; simp; omega : _ = ![16 * (8 * k.val + 6), 0])) _ x)
    (fun x => normed_at X _ _ ((k0_off3_eq k 7).trans (by congr 1; simp; omega : _ = ![16 * (8 * k.val + 7), 0])) _ x)
    y hy

end Cert.Proof.Kernel2Ideal
end
-- ==== Proof.FfnBodyI.lean ====
/- The windows, buffers and scratch of one grid point of the half feed-forward layer. Over the extended reals. -/
module

public import proofs.«01_k».proof.Proof.Gen.Kernel2Ideal.Frame
public import proofs.«01_k».proof.Proof.Gen.Kernel2Ideal.Points
public import proofs.«01_k».proof.Proof.Gen.Kernel2Ideal.Loops
public import proofs.«01_k».proof.Proof.FfnTripI
public import Idealize.ShloMosaic.Lib.Tactic
public import Idealize.ShloMosaic.Lib.Pipeline.Kit
public import Idealize.ShloMosaic.Lib.Pipeline.Frame
public import Idealize.ShloMosaic.Lib.Pointwise
public import Idealize.ShloMosaic.Lib.WritesUnit
public import Idealize.ShloMosaic.Lib.VecWindow

@[expose] public section

set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option warn.classDefReducibility false in
@[sl_loop] def loopInv (𝒱 : Variants) (c : Dev nD) (bd : Option 𝒱.V) (E : Set ℕ) (i : grid0.Coords) (arg2 : Memref sig .tc .hbm S17408x2048 .f32) (harg2 : arg2.IsWhole) (arg3 : Memref sig .tc .hbm S17408x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x1x2048x1024 .bf16) (harg8 : arg8.IsWhole) (arg9 : Memref sig .tc .vmem S1x1x512x2048 .bf16) (harg9 : arg9.IsWhole) (arg10 : Memref sig .tc .vmem S1024x2048 .f32) (harg10 : arg10.IsWhole) (arg14 : DmaSems sig S_) (k0_h2 : k0_cond2 i = 1#1)
    (X : BufTy.Contents (Elt F) xM.view.ty) (Y : BufTy.Contents (Elt F) mM.view.ty) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 xM (Memref.isWhole_whole _) hM (Memref.isWhole_whole _) mM (Memref.isWhole_whole _) arg14 k0_h2 where
  inv k _ := tripInv (F := F) c arg10 X Y k
  step k _ := trip (F := F) 𝒱 c bd E i arg2 harg2 arg3 harg3 arg4 harg4 arg5 harg5 arg6 harg6 arg7 harg7 arg8 harg8 arg9 harg9 arg10 harg10 arg14 k0_h2 X Y k

/-- What one grid point adds to the tile: the prenormed rows through one slice of the two weight stacks. -/
def step (h : FVec F S1024x2048 .bf16) (w : Vec F S1x1x2048x1024 .bf16) (o : Vec F S1024x2048 .f32) (g : Vec F S1x1x2048 .f32) (d : Vec F S1x1x512x2048 .bf16) :
    FVec F S1024x2048 .f32 := k0_pay1 (k0_pay16 h w) (k0_pay17 o) g d

theorem slab1_read (f : BufTy.Contents (Elt F) mM.view.ty) (p q : S1x16x2048.Idx → F .f32) :
    mM.view.readAt (Elt F) slab1.toLoadRect (mM.view.writes (Elt F) f [⟨slab1, p⟩, ⟨slab0, q⟩]) = p :=
  funext fun y => View.read_writes_cons_unit_of_mem mM.view f _ _ _ _ y rfl (fun a => by
    show (![1, 0, 0] : Fin 3 → ℕ) a + 1 * (y a).val = _ + (y a).val
    rw [Nat.one_mul])

theorem slab0_read (f : BufTy.Contents (Elt F) mM.view.ty) (p q : S1x16x2048.Idx → F .f32) :
    mM.view.readAt (Elt F) slab0.toLoadRect (mM.view.writes (Elt F) f [⟨slab1, p⟩, ⟨slab0, q⟩]) = q :=
  funext fun y => (View.read_writes_cons_unit_of_not_mem mM.view f _ _ _ _ rfl 0 (by
      left
      show 0 + 1 * (y 0).val < 1
      have : (y 0).val < 1 := (y 0).isLt
      omega)).trans
    (View.read_writes_cons_unit_of_mem mM.view f _ _ _ _ y rfl (fun a => by
      show (![0, 0, 0] : Fin 3 → ℕ) a + 1 * (y a).val = _ + (y a).val
      rw [Nat.one_mul]))

theorem trips_eq : Scf.trips k0_t1_loop.lb k0_t1_loop.ub k0_t1_loop.st = 8 := by decide

section Body

variable (c : Dev nD) (i : grid0.Coords)
  (M4 : Memref sig .tc .vmem S1x1x2048 .f32) (h4 : M4.IsWhole) (M5 : Memref sig .tc .vmem S1x1x2048 .f32) (h5 : M5.IsWhole) (M6 : Memref sig .tc .vmem S1x1x2048 .f32) (h6 : M6.IsWhole) (M7 : Memref sig .tc .vmem S1x2048 .f32) (h7 : M7.IsWhole) (M8 : Memref sig .tc .vmem S1x1x2048x1024 .bf16) (h8 : M8.IsWhole) (M9 : Memref sig .tc .vmem S1x1x512x2048 .bf16) (h9 : M9.IsWhole) (M10 : Memref sig .tc .vmem S1024x2048 .f32) (h10 : M10.IsWhole)

/-- The kernel at grid point `i` on the staging buffers `M4` … `M10`. -/
abbrev bodyG : Prog (TpuEff nD τ sig (Elt F) Λ₀ .tc) PUnit :=
  cc0_ffn_half (F := F) i (Memref.whole main_arg0) (Memref.isWhole_whole _) (Memref.whole main_arg0) (Memref.isWhole_whole _) M4 h4 M5 h5 M6 h6 M7 h7 M8 h8 M9 h9 M10 h10 xM (Memref.isWhole_whole _) hM (Memref.isWhole_whole _) mM (Memref.isWhole_whole _) cc0_scratch3

/-- The first condition, as the kernel computes it: both coordinates zero. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

variable (f4 : BufTy.Contents (Elt F) M4.view.ty) (f5 : BufTy.Contents (Elt F) M5.view.ty) (f6 : BufTy.Contents (Elt F) M6.view.ty) (f7 : BufTy.Contents (Elt F) M7.view.ty) (f8 : BufTy.Contents (Elt F) M8.view.ty) (f9 : BufTy.Contents (Elt F) M9.view.ty) (f10 : BufTy.Contents (Elt F) M10.view.ty)
  (fh : BufTy.Contents (Elt F) hM.view.ty)

/-- The staged inputs. -/
abbrev ins : sProp 𝕄 := iprop(pt c M4 f4 ∗ pt c M5 f5 ∗ pt c M6 f6 ∗ pt c M7 f7 ∗ pt c M8 f8 ∗ pt c M9 f9)

theorem out_val :
    M10.view.read (Elt F) (M10.view.writes (Elt F) f10 [⟨Rect.unit (s := S1024x2048) ![0, 0] S1024x2048.size inb_S1024x2048_S1024x2048_0_0,
      k0_pay1 (F := F) (k0_pay16 (hM.view.readAt (Elt F) (Rect.unit (s := S1024x2048) ![0, 0] S1024x2048.size inb_S1024x2048_S1024x2048_0_0).toLoadRect fh)
          (M8.view.readAt (Elt F) (Rect.unit (s := S1x1x2048x1024) ![0, 0, 0, 0] S1x1x2048x1024.size inb_S1x1x2048x1024_S1x1x2048x1024_0_0_0_0).toLoadRect f8))
        (k0_pay17 (M10.view.readAt (Elt F) (Rect.unit (s := S1024x2048) ![0, 0] S1024x2048.size inb_S1024x2048_S1024x2048_0_0).toLoadRect f10))
        (M6.view.readAt (Elt F) (Rect.unit (s := S1x1x2048) ![0, 0, 0] S1x1x2048.size inb_S1x1x2048_S1x1x2048_0_0_0).toLoadRect f6)
        (M9.view.readAt (Elt F) (Rect.unit (s := S1x1x512x2048) ![0, 0, 0, 0] S1x1x512x2048.size inb_S1x1x512x2048_S1x1x512x2048_0_0_0_0).toLoadRect f9)⟩])
      = step (hM.view.read (Elt F) fh) (M8.view.read (Elt F) f8) (M10.view.read (Elt F) f10) (M6.view.read (Elt F) f6) (M9.view.read (Elt F) f9) := by
  rw [View.readAt_full hM.view fh inb_S1024x2048_S1024x2048_0_0, View.readAt_full M8.view f8 inb_S1x1x2048x1024_S1x1x2048x1024_0_0_0_0,
    View.readAt_full M10.view f10 inb_S1024x2048_S1024x2048_0_0, View.readAt_full M6.view f6 inb_S1x1x2048_S1x1x2048_0_0_0,
    View.readAt_full M9.view f9 inb_S1x1x512x2048_S1x1x512x2048_0_0_0_0]
  exact View.read_writes_full M10.view f10 inb_S1024x2048_S1024x2048_0_0 _ []

/-- A point with no transfer: only the output's tile moves on. -/
theorem run_plain (hc1 : ¬ cond1 i = 1#1) (hc2 : ¬ k0_cond2 i = 1#1) (hc5 : ¬ k0_cond5 i = 1#1) :
    iprop(ins c M4 M5 M6 M7 M8 M9 f4 f5 f6 f7 f8 f9 ∗ pt c M10 f10 ∗ pt c hM fh)
      ⊢ wp frame (wpE (defs₀ (F := F)) Variants.none (c : Thread nD τ) none) Set.univ (bodyG (F := F) i M4 h4 M5 h5 M6 h6 M7 h7 M8 h8 M9 h9 M10 h10)
        (fun _ => iprop(ins c M4 M5 M6 M7 M8 M9 f4 f5 f6 f7 f8 f9
          ∗ (∃ f, pt c M10 f ∗ ⌜M10.view.read (Elt F) f = step (hM.view.read (Elt F) fh) (M8.view.read (Elt F) f8) (M10.view.read (Elt F) f10) (M6.view.read (Elt F) f6) (M9.view.read (Elt F) f9)⌝)
          ∗ pt c hM fh)) := by
  iintro ⟨⟨H4, H5, H6, H7, H8, H9⟩, HO, HH⟩
  unfold bodyG
  sl_unfold [cc0_ffn_half]
  sl_exec
  sl_step
  isplitl [H4 H5 H6 H7 H8 H9]
  · isplitl [H4]; · iexact H4
    isplitl [H5]; · iexact H5
    isplitl [H6]; · iexact H6
    isplitl [H7]; · iexact H7
    isplitl [H8]; · iexact H8
    iexact H9
  isplitl [HO]
  · iexists _; isplitl [HO]; · iexact HO
    ipureintro
    exact out_val M6 M8 M9 M10 f6 f8 f9 f10 fh
  iexact HH

/-- `x` in memory. -/
abbrev aM : Memref sig .tc .hbm S17408x2048 .f32 := Memref.whole main_arg0

/-- A transfer of the rows from `off` under way into the tile's buffer, the other rows of `x` in hand. -/
def pending (V : BufTy.Contents (Elt F) aM.view.ty) (off : Fin 2 → ℕ) (inb : ∀ a, off a + S1024x2048.size a ≤ S17408x2048.size a) : sProp 𝕄 :=
  iprop((∃ fx, Transfers.Flight countersEmb (c : Thread nD τ) (.dma 13) () 262144
      iprop((xM.view.loc (c : Thread nD τ) ↦[xM.view.set]{fullShare} xM.view.writes (Elt F) fx [⟨Rect.whole S1024x2048, ReadAs.same.apply ((aM.slice (Rect.unit (s := S17408x2048) off S1024x2048.size inb) (fun _ => rfl)).view.read (Elt F) V)⟩])
        ∗ aM.view.loc (c : Thread nD τ) ↦[(aM.slice (Rect.unit (s := S17408x2048) off S1024x2048.size inb) (fun _ => rfl)).view.set]{fullShare} V))
    ∗ aM.view.loc (c : Thread nD τ) ↦[aM.view.set \ (aM.slice (Rect.unit (s := S17408x2048) off S1024x2048.size inb) (fun _ => rfl)).view.set]{fullShare} V)

/-- A point that only asks for the next tile. -/
theorem run_issue (V : BufTy.Contents (Elt F) aM.view.ty) (fx : BufTy.Contents (Elt F) xM.view.ty) (hc1 : ¬ cond1 i = 1#1) (hc2 : ¬ k0_cond2 i = 1#1) (hc5 : k0_cond5 i = 1#1) (hc6 : k0_cond6 i = 1#1) (hc7 : ¬ k0_cond7 i = 1#1) :
    iprop(ins c M4 M5 M6 M7 M8 M9 f4 f5 f6 f7 f8 f9 ∗ pt c M10 f10 ∗ pt c hM fh ∗ pt c aM V ∗ pt c xM fx ∗ semVal ((c : Thread nD τ), .dma 13) 0)
      ⊢ wp frame (wpE (defs₀ (F := F)) Variants.none (c : Thread nD τ) none) Set.univ (bodyG (F := F) i M4 h4 M5 h5 M6 h6 M7 h7 M8 h8 M9 h9 M10 h10)
        (fun _ => iprop(ins c M4 M5 M6 M7 M8 M9 f4 f5 f6 f7 f8 f9
          ∗ (∃ f, pt c M10 f ∗ ⌜M10.view.read (Elt F) f = step (hM.view.read (Elt F) fh) (M8.view.read (Elt F) f8) (M10.view.read (Elt F) f10) (M6.view.read (Elt F) f6) (M9.view.read (Elt F) f9)⌝)
          ∗ pt c hM fh ∗ pending c V (k0_off4 i) (k0_off4_inb i hc5 hc6))) := by
  iintro ⟨⟨H4, H5, H6, H7, H8, H9⟩, HO, HH, HA, HX, HS⟩
  unfold bodyG
  sl_unfold [cc0_ffn_half]
  sl_exec
  sl_step
  isplitl [H4 H5 H6 H7 H8 H9]
  · isplitl [H4]; · iexact H4
    isplitl [H5]; · iexact H5
    isplitl [H6]; · iexact H6
    isplitl [H7]; · iexact H7
    isplitl [H8]; · iexact H8
    iexact H9
  isplitl [HO]
  · iexists _; isplitl [HO]; · iexact HO
    ipureintro
    exact out_val M6 M8 M9 M10 f6 f8 f9 f10 fh
  isplitl [HH]; · iexact HH
  unfold pending
  isplitl [HS]; · iexists fx; iexact HS
  iexact HA

/-- What a tile's first point leaves in the rows it prenorms. -/
abbrev hOf (sh sc : Vec F S1x1x2048 .f32) (g : Vec F S1x2048 .f32) (x : S1024x2048.Idx → F .f32) : S1024x2048.Idx → F .bf16 :=
  normed (F := F) x (k0_pay12 g sc) (k0_pay13 sh)

end Body

end Cert.Proof.Kernel2Ideal
end
-- ==== Proof.FfnValsI.lean ====
/- The values a grid point computes: the normed tile, and a step of 512 columns. Over the extended reals. -/
module

public import proofs.«01_k».proof.Proof.Gen.Kernel2Ideal.Frame
public import proofs.«01_k».proof.Proof.Gen.Kernel2Ideal.Points
public import proofs.«01_k».proof.Proof.Gen.Kernel2Ideal.Loops
public import proofs.«01_k».proof.Proof.FfnBodyI
public import Idealize.ShloMosaic.Lib.Tactic
public import Idealize.ShloMosaic.Lib.Pipeline.Kit
public import Idealize.ShloMosaic.Lib.Pipeline.Frame
public import Idealize.ShloMosaic.Lib.Pointwise
public import Idealize.ShloMosaic.Lib.WritesUnit
public import Idealize.ShloMosaic.Lib.VecWindow

@[expose] public section

set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Body

variable (c : Dev nD) (i : grid0.Coords)
  (M4 : Memref sig .tc .vmem S1x1x2048 .f32) (h4 : M4.IsWhole) (M5 : Memref sig .tc .vmem S1x1x2048 .f32) (h5 : M5.IsWhole) (M6 : Memref sig .tc .vmem S1x1x2048 .f32) (h6 : M6.IsWhole) (M7 : Memref sig .tc .vmem S1x2048 .f32) (h7 : M7.IsWhole) (M8 : Memref sig .tc .vmem S1x1x2048x1024 .bf16) (h8 : M8.IsWhole) (M9 : Memref sig .tc .vmem S1x1x512x2048 .bf16) (h9 : M9.IsWhole) (M10 : Memref sig .tc .vmem S1024x2048 .f32) (h10 : M10.IsWhole)

variable (f4 : BufTy.Contents (Elt F) M4.view.ty) (f5 : BufTy.Contents (Elt F) M5.view.ty) (f6 : BufTy.Contents (Elt F) M6.view.ty) (f7 : BufTy.Contents (Elt F) M7.view.ty) (f8 : BufTy.Contents (Elt F) M8.view.ty) (f9 : BufTy.Contents (Elt F) M9.view.ty) (f10 : BufTy.Contents (Elt F) M10.view.ty)
  (fh : BufTy.Contents (Elt F) hM.view.ty)

/-- What a tile's first point hands back. -/
abbrev firstPost (V : BufTy.Contents (Elt F) aM.view.ty) (x : S1024x2048.Idx → F .f32) : sProp 𝕄 :=
  iprop(ins c M4 M5 M6 M7 M8 M9 f4 f5 f6 f7 f8 f9
    ∗ (∃ f, pt c M10 f ∗ ⌜M10.view.read (Elt F) f = step (hOf (M4.view.read (Elt F) f4) (M5.view.read (Elt F) f5) (M7.view.read (Elt F) f7) x) (M8.view.read (Elt F) f8) x (M6.view.read (Elt F) f6) (M9.view.read (Elt F) f9)⌝)
    ∗ (∃ f, pt c hM f ∗ ⌜hM.view.read (Elt F) f = hOf (M4.view.read (Elt F) f4) (M5.view.read (Elt F) f5) (M7.view.read (Elt F) f7) x⌝)
    ∗ (∃ f, pt c mM f) ∗ (∃ f, pt c xM f) ∗ pt c aM V ∗ semVal ((c : Thread nD τ), .dma 13) 0 ∗ (∃ W, owes (c : Thread nD τ) 0 W))

/-- The tile and the prenormed rows, read off the loop's exit. -/
theorem first_vals (x : S1024x2048.Idx → F .f32) (g0 : BufTy.Contents (Elt F) M10.view.ty) (g1 : BufTy.Contents (Elt F) hM.view.ty) (jx : BufTy.Contents (Elt F) xM.view.ty) (jm : BufTy.Contents (Elt F) mM.view.ty)
    (h0 : ∀ y : S1024x2048.Idx, (y 0).val < 128 * Scf.trips k0_t1_loop.lb k0_t1_loop.ub k0_t1_loop.st → M10.view.read (Elt F) g0 y = xM.view.read (Elt F) (xM.view.writes (Elt F) jx [⟨Rect.whole S1024x2048, x⟩]) y)
    (h1 : ∀ y : S1024x2048.Idx, (y 0).val < 128 * Scf.trips k0_t1_loop.lb k0_t1_loop.ub k0_t1_loop.st → hM.view.read (Elt F) g1 y
      = normed (xM.view.read (Elt F) (xM.view.writes (Elt F) jx [⟨Rect.whole S1024x2048, x⟩]))
          (mM.view.readAt (Elt F) slab0.toLoadRect (mM.view.writes (Elt F) jm [⟨slab1, k0_pay13 (M4.view.readAt (Elt F) (Rect.unit (s := S1x1x2048) ![0, 0, 0] S1x1x2048.size inb_S1x1x2048_S1x1x2048_0_0_0).toLoadRect f4)⟩, ⟨slab0, k0_pay12 (M7.view.readAt (Elt F) (Rect.unit (s := S1x2048) ![0, 0] S1x2048.size inb_S1x2048_S1x2048_0_0).toLoadRect f7) (M5.view.readAt (Elt F) (Rect.unit (s := S1x1x2048) ![0, 0, 0] S1x1x2048.size inb_S1x1x2048_S1x1x2048_0_0_0).toLoadRect f5)⟩]))
          (mM.view.readAt (Elt F) slab1.toLoadRect (mM.view.writes (Elt F) jm [⟨slab1, k0_pay13 (M4.view.readAt (Elt F) (Rect.unit (s := S1x1x2048) ![0, 0, 0] S1x1x2048.size inb_S1x1x2048_S1x1x2048_0_0_0).toLoadRect f4)⟩, ⟨slab0, k0_pay12 (M7.view.readAt (Elt F) (Rect.unit (s := S1x2048) ![0, 0] S1x2048.size inb_S1x2048_S1x2048_0_0).toLoadRect f7) (M5.view.readAt (Elt F) (Rect.unit (s := S1x1x2048) ![0, 0, 0] S1x1x2048.size inb_S1x1x2048_S1x1x2048_0_0_0).toLoadRect f5)⟩])) y) :
    M10.view.read (Elt F) g0 = x ∧ hM.view.read (Elt F) g1 = hOf (M4.view.read (Elt F) f4) (M5.view.read (Elt F) f5) (M7.view.read (Elt F) f7) x := by
  have hy : ∀ y : S1024x2048.Idx, (y 0).val < 128 * Scf.trips k0_t1_loop.lb k0_t1_loop.ub k0_t1_loop.st := fun y => by
    rw [trips_eq]; exact (y 0).isLt
  constructor
  · funext y
    rw [h0 y (hy y), View.read_writes_whole]
  · funext y
    rw [h1 y (hy y), View.read_writes_whole, slab0_read, slab1_read, View.readAt_full M4.view f4 inb_S1x1x2048_S1x1x2048_0_0_0,
      View.readAt_full M5.view f5 inb_S1x1x2048_S1x1x2048_0_0_0, View.readAt_full M7.view f7 inb_S1x2048_S1x2048_0_0]

end Body

end Cert.Proof.Kernel2Ideal
end
-- ==== Proof.FfnFirstI.lean ====
/- The first point of a tile: it waits for the tile's rows, norms them, and starts the output. Over the extended reals. -/
module

public import proofs.«01_k».proof.Proof.Gen.Kernel2Ideal.Frame
public import proofs.«01_k».proof.Proof.Gen.Kernel2Ideal.Points
public import proofs.«01_k».proof.Proof.Gen.Kernel2Ideal.Loops
public import proofs.«01_k».proof.Proof.FfnValsI
public import Idealize.ShloMosaic.Lib.Tactic
public import Idealize.ShloMosaic.Lib.Pipeline.Kit
public import Idealize.ShloMosaic.Lib.Pipeline.Frame
public import Idealize.ShloMosaic.Lib.Pointwise
public import Idealize.ShloMosaic.Lib.WritesUnit
public import Idealize.ShloMosaic.Lib.VecWindow

@[expose] public section

set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Body

variable (c : Dev nD) (i : grid0.Coords)
  (M4 : Memref sig .tc .vmem S1x1x2048 .f32) (h4 : M4.IsWhole) (M5 : Memref sig .tc .vmem S1x1x2048 .f32) (h5 : M5.IsWhole) (M6 : Memref sig .tc .vmem S1x1x2048 .f32) (h6 : M6.IsWhole) (M7 : Memref sig .tc .vmem S1x2048 .f32) (h7 : M7.IsWhole) (M8 : Memref sig .tc .vmem S1x1x2048x1024 .bf16) (h8 : M8.IsWhole) (M9 : Memref sig .tc .vmem S1x1x512x2048 .bf16) (h9 : M9.IsWhole) (M10 : Memref sig .tc .vmem S1024x2048 .f32) (h10 : M10.IsWhole)

variable (f4 : BufTy.Contents (Elt F) M4.view.ty) (f5 : BufTy.Contents (Elt F) M5.view.ty) (f6 : BufTy.Contents (Elt F) M6.view.ty) (f7 : BufTy.Contents (Elt F) M7.view.ty) (f8 : BufTy.Contents (Elt F) M8.view.ty) (f9 : BufTy.Contents (Elt F) M9.view.ty) (f10 : BufTy.Contents (Elt F) M10.view.ty)
  (fh : BufTy.Contents (Elt F) hM.view.ty)

/-- A tile's first point, after the very first: the tile arrives, is prenormed, and is taken one step. -/
theorem run_first (V : BufTy.Contents (Elt F) aM.view.ty) (fm : BufTy.Contents (Elt F) mM.view.ty) (off : Fin 2 → ℕ) (inb) (W : Waits sig Unit)
    (hc1 : ¬ cond1 i = 1#1) (hc2 : k0_cond2 i = 1#1) (hc3 : k0_cond3 i = 1#1) (hc4 : ¬ k0_cond4 i = 1#1) (hc5 : ¬ k0_cond5 i = 1#1) :
    iprop(ins c M4 M5 M6 M7 M8 M9 f4 f5 f6 f7 f8 f9 ∗ pt c M10 f10 ∗ pt c hM fh ∗ pt c mM fm ∗ pending c V off inb ∗ owes (c : Thread nD τ) 0 W)
      ⊢ wp frame (wpE (defs₀ (F := F)) Variants.none (c : Thread nD τ) none) Set.univ (bodyG (F := F) i M4 h4 M5 h5 M6 h6 M7 h7 M8 h8 M9 h9 M10 h10)
        (fun _ => firstPost c M4 M5 M6 M7 M8 M9 M10 f4 f5 f6 f7 f8 f9 V ((aM.slice (Rect.unit (s := S17408x2048) off S1024x2048.size inb) (fun _ => rfl)).view.read (Elt F) V)) := by
  unfold pending
  iintro ⟨⟨H4, H5, H6, H7, H8, H9⟩, HO, HH, HM, ⟨⟨%fx, HF⟩, HA⟩, HW⟩
  unfold bodyG
  sl_unfold [cc0_ffn_half]
  sl_exec
  obtain ⟨e0, e1⟩ := first_vals M4 M5 M7 M10 f4 f5 f7 _ fL0 fL1 _ _ hL3 hL5
  sl_step
  isplitl [H4 H5 H6 H7 H8 H9]
  · isplitl [H4]; · iexact H4
    isplitl [H5]; · iexact H5
    isplitl [H6]; · iexact H6
    isplitl [H7]; · iexact H7
    isplitl [H8]; · iexact H8
    iexact H9
  isplitl [HO]
  · iexists _; isplitl [HO]; · iexact HO
    ipureintro
    exact ((out_val M6 M8 M9 M10 f6 f8 f9 fL0 fL1).trans (congr_arg₂ (fun a b => step a (M8.view.read (Elt F) f8) b (M6.view.read (Elt F) f6) (M9.view.read (Elt F) f9)) e1 e0))
  isplitl [HH]
  · iexists _; isplitl [HH]; · iexact HH
    ipureintro; exact e1
  isplitl [HM]; · iexists _; iexact HM
  isplitl [HF_dst]; · iexists _; iexact HF_dst
  isplitl [HA]; · iexact HA
  isplitl [HF]; · iexact HF
  iexists _; iexact HW

end Body

end Cert.Proof.Kernel2Ideal
end
-- ==== Proof.FfnZeroI.lean ====
/- The first point of the grid: it also starts and awaits the first tile's copy. Over the extended reals. -/
module

public import proofs.«01_k».proof.Proof.Gen.Kernel2Ideal.Frame
public import proofs.«01_k».proof.Proof.Gen.Kernel2Ideal.Points
public import proofs.«01_k».proof.Proof.Gen.Kernel2Ideal.Loops
public import proofs.«01_k».proof.Proof.FfnValsI
public import Idealize.ShloMosaic.Lib.Tactic
public import Idealize.ShloMosaic.Lib.Pipeline.Kit
public import Idealize.ShloMosaic.Lib.Pipeline.Frame
public import Idealize.ShloMosaic.Lib.Pointwise
public import Idealize.ShloMosaic.Lib.WritesUnit
public import Idealize.ShloMosaic.Lib.VecWindow

@[expose] public section

set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Body

variable (c : Dev nD) (i : grid0.Coords)
  (M4 : Memref sig .tc .vmem S1x1x2048 .f32) (h4 : M4.IsWhole) (M5 : Memref sig .tc .vmem S1x1x2048 .f32) (h5 : M5.IsWhole) (M6 : Memref sig .tc .vmem S1x1x2048 .f32) (h6 : M6.IsWhole) (M7 : Memref sig .tc .vmem S1x2048 .f32) (h7 : M7.IsWhole) (M8 : Memref sig .tc .vmem S1x1x2048x1024 .bf16) (h8 : M8.IsWhole) (M9 : Memref sig .tc .vmem S1x1x512x2048 .bf16) (h9 : M9.IsWhole) (M10 : Memref sig .tc .vmem S1024x2048 .f32) (h10 : M10.IsWhole)

variable (f4 : BufTy.Contents (Elt F) M4.view.ty) (f5 : BufTy.Contents (Elt F) M5.view.ty) (f6 : BufTy.Contents (Elt F) M6.view.ty) (f7 : BufTy.Contents (Elt F) M7.view.ty) (f8 : BufTy.Contents (Elt F) M8.view.ty) (f9 : BufTy.Contents (Elt F) M9.view.ty) (f10 : BufTy.Contents (Elt F) M10.view.ty)
  (fh : BufTy.Contents (Elt F) hM.view.ty)

/-- The very first point: the first tile is asked for and arrives, is prenormed, and is taken one step. -/
theorem run_zero (V : BufTy.Contents (Elt F) aM.view.ty) (fm : BufTy.Contents (Elt F) mM.view.ty) (fx : BufTy.Contents (Elt F) xM.view.ty) (W : Waits sig Unit)
    (hc1 : cond1 i = 1#1) (hc2 : k0_cond2 i = 1#1) (hc3 : k0_cond3 i = 1#1) (hc4 : ¬ k0_cond4 i = 1#1) (hc5 : ¬ k0_cond5 i = 1#1) :
    iprop(ins c M4 M5 M6 M7 M8 M9 f4 f5 f6 f7 f8 f9 ∗ pt c M10 f10 ∗ pt c hM fh ∗ pt c mM fm ∗ pt c xM fx ∗ pt c aM V ∗ semVal ((c : Thread nD τ), .dma 13) 0 ∗ owes (c : Thread nD τ) 0 W)
      ⊢ wp frame (wpE (defs₀ (F := F)) Variants.none (c : Thread nD τ) none) Set.univ (bodyG (F := F) i M4 h4 M5 h5 M6 h6 M7 h7 M8 h8 M9 h9 M10 h10)
        (fun _ => firstPost c M4 M5 M6 M7 M8 M9 M10 f4 f5 f6 f7 f8 f9 V ((aM.slice (Rect.unit (s := S17408x2048) ![0, 0] S1024x2048.size inb_S17408x2048_S1024x2048_0_0) (fun _ => rfl)).view.read (Elt F) V)) := by
  iintro ⟨⟨H4, H5, H6, H7, H8, H9⟩, HO, HH, HM, HX, HA, HS, HW⟩
  unfold bodyG
  sl_unfold [cc0_ffn_half]
  sl_exec
  obtain ⟨e0, e1⟩ := first_vals M4 M5 M7 M10 f4 f5 f7 _ fL0 fL1 _ _ hL3 hL5
  sl_step
  isplitl [H4 H5 H6 H7 H8 H9]
  · isplitl [H4]; · iexact H4
    isplitl [H5]; · iexact H5
    isplitl [H6]; · iexact H6
    isplitl [H7]; · iexact H7
    isplitl [H8]; · iexact H8
    iexact H9
  isplitl [HO]
  · iexists _; isplitl [HO]; · iexact HO
    ipureintro
    exact ((out_val M6 M8 M9 M10 f6 f8 f9 fL0 fL1).trans (congr_arg₂ (fun a b => step a (M8.view.read (Elt F) f8) b (M6.view.read (Elt F) f6) (M9.view.read (Elt F) f9)) e1 e0))
  isplitl [HH]
  · iexists _; isplitl [HH]; · iexact HH
    ipureintro; exact e1
  isplitl [HM]; · iexists _; iexact HM
  isplitl [HX]; · iexists _; iexact HX
  isplitl [HA]; · iexact HA
  isplitl [HS]; · iexact HS
  iexists _; iexact HW

end Body

end Cert.Proof.Kernel2Ideal
end
-- ==== Proof.FfnDatI.lean ====
/- What the output block holds after each grid point. Over the extended reals. -/
module

public import proofs.«01_k».proof.Proof.Gen.Kernel2Ideal.Frame
public import proofs.«01_k».proof.Proof.Gen.Kernel2Ideal.Points
public import proofs.«01_k».proof.Proof.Gen.Kernel2Ideal.Loops
public import proofs.«01_k».proof.Proof.FfnFirstI
public import proofs.«01_k».proof.Proof.FfnZeroI
public import Idealize.ShloMosaic.Lib.Tactic
public import Idealize.ShloMosaic.Lib.Pipeline.Kit
public import Idealize.ShloMosaic.Lib.Pipeline.Frame
public import Idealize.ShloMosaic.Lib.Pointwise
public import Idealize.ShloMosaic.Lib.WritesUnit
public import Idealize.ShloMosaic.Lib.VecWindow

@[expose] public section

set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)
local notation "𝕄" => MT nD τ sig Unit (Elt F) ℕ (Pipeline.UD sig nD τ) ℕ

variable (m : (ℓ : Loc nD τ sig) → Buf (Elt F) ℓ) (ρ : Dev nD → PrngReg)

/-! ## What the staging buffers hold -/

theorem tile_inb (b : Fin 17) : ∀ a : Fin 2, (![1024 * b.val, 0] : Fin 2 → ℕ) a + S1024x2048.size a ≤ S17408x2048.size a :=
  Fin.forall_fin_two.mpr ⟨by
    show 1024 * b.val + 1024 ≤ 17408
    omega, by
    show 0 + 2048 ≤ 2048
    omega⟩

/-- Tile `b` of `x`. -/
def xt (c : Dev nD) (b : Fin 17) : S1024x2048.Idx → F .f32 :=
  (aM.slice (Rect.unit (s := S17408x2048) ![1024 * b.val, 0] S1024x2048.size (tile_inb b)) (fun _ => rfl)).view.read (Elt F) (V m c main_arg0)

theorem xt_of (c : Dev nD) (b : Fin 17) (off : Fin 2 → ℕ) (inb : ∀ a, off a + S1024x2048.size a ≤ S17408x2048.size a) (h : off = ![1024 * b.val, 0]) :
    (aM.slice (Rect.unit (s := S17408x2048) off S1024x2048.size inb) (fun _ => rfl)).view.read (Elt F) (V m c main_arg0) = xt m c b := by
  subst h; rfl

/-- Point `j` of tile `b`. -/
def tp (b : Fin 17) (j : ℕ) : Fin cfg0.N := ⟨(11 * b.val + j) % 187, Nat.mod_lt _ (by decide)⟩

theorem tp_eq (t : Fin cfg0.N) (hb : t.val / 11 < 17) : tp ⟨t.val / 11, hb⟩ (t.val % 11) = t := Fin.ext (by
  have h : t.val < 187 := t.isLt
  show (11 * (t.val / 11) + t.val % 11) % 187 = t.val
  rw [Nat.div_add_mod, Nat.mod_eq_of_lt h])

/-- The prenormed rows of tile `b`. -/
def hT (c : Dev nD) (b : Fin 17) : S1024x2048.Idx → F .bf16 :=
  hOf (iblk m c 0 (tp b 0)) (iblk m c 1 (tp b 0)) (iblk m c 3 (tp b 0)) (xt m c b)

/-- Tile `b` after point `j`. -/
def oT (c : Dev nD) (b : Fin 17) : ℕ → FVec F S1024x2048 .f32
  | 0 => step (hT m c b) (iblk m c 4 (tp b 0)) (xt m c b) (iblk m c 2 (tp b 0)) (iblk m c 5 (tp b 0))
  | j + 1 => step (hT m c b) (iblk m c 4 (tp b (j + 1))) (oT c b j) (iblk m c 2 (tp b (j + 1))) (iblk m c 5 (tp b (j + 1)))

theorem tile_lt (n : ℕ) : (n / 11) % 17 < 17 := Nat.mod_lt _ (by decide)
/-- The tile of point `n`. -/
abbrev tl (n : ℕ) : Fin 17 := ⟨(n / 11) % 17, tile_lt n⟩

/-! ## What is held between points -/

/-- Between points no transfer is under way right after a tile's arrival, before the first point, and on the last tile. -/
abbrev quiet (n : ℕ) : Prop := n % 11 = 1 ∨ n = 0 ∨ 177 ≤ n

/-- `x` and the tile's buffer, before point `n`. -/
def xPart (c : Dev nD) (n : ℕ) : sProp 𝕄 :=
  if quiet n then iprop(pt c aM (V m c main_arg0) ∗ (∃ f, pt c xM f) ∗ semVal ((c : Thread nD τ), .dma 13) 0)
  else pending c (V m c main_arg0) ![1024 * (tl (n + 9)).val, 0] (tile_inb (tl (n + 9)))

/-- The prenormed rows, before point `n`. -/
def hPart (c : Dev nD) (n : ℕ) : sProp 𝕄 := iprop(∃ f, pt c hM f ∗ ⌜n % 11 ≠ 0 → hM.view.read (Elt F) f = hT m c (tl n)⌝)

def phi (c : Dev nD) (n : ℕ) : sProp 𝕄 := iprop(xPart m c n ∗ hPart m c n ∗ (∃ f, pt c mM f) ∗ (∃ r, prngReg c r))

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oT m c (tl t.val) (t.val % 11)
  Φ t := phi m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = oT m c (tl t.val) (t.val % 11) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- Past a tile's first point the output's buffer holds the tile as the point before left it. -/
theorem before_6 (c : Dev nD) (t : Fin cfg0.N) (h : t.val % 11 ≠ 0) (d) : (dats m 0 c).before 6 t d = oT m c (tl t.val) (t.val % 11 - 1) := by
  have hlt : t.val < 187 := t.isLt
  rw [(dats m 0 c).before_out_kept 6 rfl t (fun e => h (by rw [e])) (Bool.eq_false_iff.mpr fun e => by
    have := (flush0_6 _).mp e
    dsimp only at this
    omega) (fun _ => rfl) (fun _ _ => rfl), after_6]
  have e1 : tl (t.val - 1) = tl t.val := Fin.ext (by
    show (t.val - 1) / 11 % 17 = t.val / 11 % 17
    omega)
  have e2 : (t.val - 1) % 11 = t.val % 11 - 1 := by omega
  show oT m c (tl (t.val - 1)) ((t.val - 1) % 11) = _
  rw [e1, e2]

/-! ## The conditions at a point -/

theorem coord0 : ∀ t : Fin cfg0.N, (grid0.coords t 0).val = t.val / 11 := by decide
theorem c1_zero : ∀ t : Fin cfg0.N, t.val = 0 → cond1 (grid0.coords t) = 1#1 := by decide
theorem c1_pos : ∀ t : Fin cfg0.N, t.val ≠ 0 → ¬ cond1 (grid0.coords t) = 1#1 := by decide
theorem c2_on : ∀ t : Fin cfg0.N, t.val % 11 = 0 → k0_cond2 (grid0.coords t) = 1#1 := by decide
theorem c2_off : ∀ t : Fin cfg0.N, t.val % 11 ≠ 0 → ¬ k0_cond2 (grid0.coords t) = 1#1 := by decide
theorem c3_on : ∀ t : Fin cfg0.N, k0_cond3 (grid0.coords t) = 1#1 := by decide
theorem c4_off : ∀ t : Fin cfg0.N, ¬ k0_cond4 (grid0.coords t) = 1#1 := by decide
theorem c5_on : ∀ t : Fin cfg0.N, t.val % 11 = 1 → t.val < 177 → k0_cond5 (grid0.coords t) = 1#1 := by decide
theorem c5_off : ∀ t : Fin cfg0.N, ¬ (t.val % 11 = 1 ∧ t.val < 177) → ¬ k0_cond5 (grid0.coords t) = 1#1 := by decide
theorem c6_on : ∀ t : Fin cfg0.N, t.val < 176 → k0_cond6 (grid0.coords t) = 1#1 := by decide
theorem c7_off : ∀ t : Fin cfg0.N, t.val < 176 → ¬ k0_cond7 (grid0.coords t) = 1#1 := by decide

end Cert.Proof.Kernel2Ideal
end
-- ==== Proof.FfnLaunchI.lean ====
/- What holds between grid points (the row copy under way, the normed tile), each grid point, and the whole run. Over the extended reals. -/
module

public import proofs.«01_k».proof.Proof.Gen.Kernel2Ideal.Frame
public import proofs.«01_k».proof.Proof.Gen.Kernel2Ideal.Points
public import proofs.«01_k».proof.Proof.Gen.Kernel2Ideal.Loops
public import proofs.«01_k».proof.Proof.FfnDatI
public import Idealize.ShloMosaic.Lib.Tactic
public import Idealize.ShloMosaic.Lib.Pipeline.Kit
public import Idealize.ShloMosaic.Lib.Pipeline.Frame
public import Idealize.ShloMosaic.Lib.Pointwise
public import Idealize.ShloMosaic.Lib.WritesUnit
public import Idealize.ShloMosaic.Lib.VecWindow

@[expose] public section

set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)
local notation "𝕄" => MT nD τ sig Unit (Elt F) ℕ (Pipeline.UD sig nD τ) ℕ

variable (m : (ℓ : Loc nD τ sig) → Buf (Elt F) ℓ) (ρ : Dev nD → PrngReg)

/-! ## The invariant at each kind of point -/

theorem xPart_quiet (c : Dev nD) (n : ℕ) (h : quiet n) :
    xPart m c n = iprop(pt c aM (V m c main_arg0) ∗ (∃ f, pt c xM f) ∗ semVal ((c : Thread nD τ), .dma 13) 0) := if_pos h
theorem xPart_busy (c : Dev nD) (n : ℕ) (h : ¬ quiet n) :
    xPart m c n = pending c (V m c main_arg0) ![1024 * (tl (n + 9)).val, 0] (tile_inb (tl (n + 9))) := if_neg h

theorem xPart_same (c : Dev nD) (n : ℕ) (hn : n < 187) (h0 : n % 11 ≠ 0) (h1 : ¬ (n % 11 = 1 ∧ n < 177)) : xPart m c n = xPart m c (n + 1) := by
  by_cases h : 177 ≤ n
  · rw [xPart_quiet m c n (Or.inr (Or.inr h)), xPart_quiet m c (n + 1) (Or.inr (Or.inr (by omega)))]
  · rw [xPart_busy m c n (by omega), xPart_busy m c (n + 1) (by omega)]
    have e : tl (n + 9) = tl (n + 1 + 9) := Fin.ext (by
      show (n + 9) / 11 % 17 = (n + 1 + 9) / 11 % 17
      omega)
    rw [e]

theorem pending_of (c : Dev nD) (v : BufTy.Contents (Elt F) aM.view.ty) (off off' : Fin 2 → ℕ) (inb : ∀ a, off a + S1024x2048.size a ≤ S17408x2048.size a)
    (inb' : ∀ a, off' a + S1024x2048.size a ≤ S17408x2048.size a) (h : off = off') : pending (F := F) c v off inb = pending c v off' inb' := by
  subst h; rfl

theorem tl_of (n b : ℕ) (h : n / 11 = b) (hb : b < 17) : (tl n).val = b := by
  show n / 11 % 17 = b
  omega

/-- The staged inputs hold their blocks. -/
def blocks (c : Dev nD) (t : Fin cfg0.N) (f4 : BufTy.Contents (Elt F) (st0_0 t).view.ty) (f5 : BufTy.Contents (Elt F) (st0_1 t).view.ty) (f6 : BufTy.Contents (Elt F) (st0_2 t).view.ty)
    (f7 : BufTy.Contents (Elt F) (st0_3 t).view.ty) (f8 : BufTy.Contents (Elt F) (st0_4 t).view.ty) (f9 : BufTy.Contents (Elt F) (st0_5 t).view.ty) : Prop :=
  (st0_0 t).view.read (Elt F) f4 = iblk m c 0 t ∧ (st0_1 t).view.read (Elt F) f5 = iblk m c 1 t ∧ (st0_2 t).view.read (Elt F) f6 = iblk m c 2 t
    ∧ (st0_3 t).view.read (Elt F) f7 = iblk m c 3 t ∧ (st0_4 t).view.read (Elt F) f8 = iblk m c 4 t ∧ (st0_5 t).view.read (Elt F) f9 = iblk m c 5 t

/-! ## One point -/

/-- What a point is handed, its staging buffers open. -/
abbrev handed (c : Dev nD) (t : Fin cfg0.N) (f4 : BufTy.Contents (Elt F) (st0_0 t).view.ty) (f5 : BufTy.Contents (Elt F) (st0_1 t).view.ty) (f6 : BufTy.Contents (Elt F) (st0_2 t).view.ty)
    (f7 : BufTy.Contents (Elt F) (st0_3 t).view.ty) (f8 : BufTy.Contents (Elt F) (st0_4 t).view.ty) (f9 : BufTy.Contents (Elt F) (st0_5 t).view.ty)
    (f10 : BufTy.Contents (Elt F) (st0_6 t).view.ty) (W : Waits sig Unit) : sProp 𝕄 :=
  iprop(ins c (st0_0 t) (st0_1 t) (st0_2 t) (st0_3 t) (st0_4 t) (st0_5 t) f4 f5 f6 f7 f8 f9 ∗ pt c (st0_6 t) f10 ∗ phi m c t.val ∗ owes (c : Thread nD τ) 0 W)

/-- What it hands back. -/
abbrev back (c : Dev nD) (t : Fin cfg0.N) (f4 : BufTy.Contents (Elt F) (st0_0 t).view.ty) (f5 : BufTy.Contents (Elt F) (st0_1 t).view.ty) (f6 : BufTy.Contents (Elt F) (st0_2 t).view.ty)
    (f7 : BufTy.Contents (Elt F) (st0_3 t).view.ty) (f8 : BufTy.Contents (Elt F) (st0_4 t).view.ty) (f9 : BufTy.Contents (Elt F) (st0_5 t).view.ty) : sProp 𝕄 :=
  iprop(ins c (st0_0 t) (st0_1 t) (st0_2 t) (st0_3 t) (st0_4 t) (st0_5 t) f4 f5 f6 f7 f8 f9
    ∗ (∃ f, pt c (st0_6 t) f ∗ ⌜(st0_6 t).view.read (Elt F) f = oT m c (tl t.val) (t.val % 11)⌝) ∗ phi m c (t.val + 1) ∗ (∃ W, owes (c : Thread nD τ) 0 W))

section Point

variable (c : Dev nD) (t : Fin cfg0.N) (f4 : BufTy.Contents (Elt F) (st0_0 t).view.ty) (f5 : BufTy.Contents (Elt F) (st0_1 t).view.ty) (f6 : BufTy.Contents (Elt F) (st0_2 t).view.ty)
    (f7 : BufTy.Contents (Elt F) (st0_3 t).view.ty) (f8 : BufTy.Contents (Elt F) (st0_4 t).view.ty) (f9 : BufTy.Contents (Elt F) (st0_5 t).view.ty)
    (f10 : BufTy.Contents (Elt F) (st0_6 t).view.ty) (W : Waits sig Unit) (hb : blocks m c t f4 f5 f6 f7 f8 f9)

include hb

theorem tp_tl (j : ℕ) (hj : t.val % 11 = j) : tp (tl t.val) j = t := Fin.ext (by
  have h : t.val < 187 := t.isLt
  show (11 * (t.val / 11 % 17) + j) % 187 = t.val
  omega)

/-- A later point's value. -/
theorem later_val (h0 : t.val % 11 ≠ 0) (h10 : (st0_6 t).view.read (Elt F) f10 = oT m c (tl t.val) (t.val % 11 - 1)) :
    step (hT m c (tl t.val)) ((st0_4 t).view.read (Elt F) f8) ((st0_6 t).view.read (Elt F) f10) ((st0_2 t).view.read (Elt F) f6) ((st0_5 t).view.read (Elt F) f9)
      = oT m c (tl t.val) (t.val % 11) := by
  obtain ⟨-, -, e6, -, e8, e9⟩ := hb
  obtain ⟨j, hj⟩ := Nat.exists_eq_succ_of_ne_zero h0
  have et : tp (tl t.val) (j + 1) = t := Fin.ext (by
    have h : t.val < 187 := t.isLt
    show (11 * (t.val / 11 % 17) + (j + 1)) % 187 = t.val
    omega)
  rw [h10, e6, e8, e9, hj]
  show step _ _ (oT m c (tl t.val) j) _ _ = step _ _ _ _ _
  rw [et]

/-- A first point's value. -/
theorem first_val (h0 : t.val % 11 = 0) :
    step (hOf ((st0_0 t).view.read (Elt F) f4) ((st0_1 t).view.read (Elt F) f5) ((st0_3 t).view.read (Elt F) f7) (xt m c (tl t.val))) ((st0_4 t).view.read (Elt F) f8)
        (xt m c (tl t.val)) ((st0_2 t).view.read (Elt F) f6) ((st0_5 t).view.read (Elt F) f9)
      = oT m c (tl t.val) (t.val % 11) := by
  obtain ⟨e4, e5, e6, e7, e8, e9⟩ := hb
  have et : tp (tl t.val) 0 = t := Fin.ext (by
    have h : t.val < 187 := t.isLt
    show (11 * (t.val / 11 % 17) + 0) % 187 = t.val
    omega)
  rw [e4, e5, e6, e7, e8, e9, h0]
  show _ = step (hOf _ _ _ _) _ _ _ _
  rw [et]

theorem first_h (h0 : t.val % 11 = 0) :
    hOf ((st0_0 t).view.read (Elt F) f4) ((st0_1 t).view.read (Elt F) f5) ((st0_3 t).view.read (Elt F) f7) (xt m c (tl t.val)) = hT m c (tl (t.val + 1)) := by
  obtain ⟨e4, e5, -, e7, -, -⟩ := hb
  have et : tp (tl t.val) 0 = t := Fin.ext (by
    have h : t.val < 187 := t.isLt
    show (11 * (t.val / 11 % 17) + 0) % 187 = t.val
    omega)
  have el : tl (t.val + 1) = tl t.val := Fin.ext (by
    show (t.val + 1) / 11 % 17 = t.val / 11 % 17
    omega)
  rw [e4, e5, e7, el]
  show _ = hOf _ _ _ _
  rw [et]

theorem point_plain (h0 : t.val % 11 ≠ 0) (h1 : ¬ (t.val % 11 = 1 ∧ t.val < 177)) (h10 : (st0_6 t).view.read (Elt F) f10 = oT m c (tl t.val) (t.val % 11 - 1)) :
    handed m c t f4 f5 f6 f7 f8 f9 f10 W ⊢ wp frame (wpE (defs₀ (F := F)) Variants.none (c : Thread nD τ) none) Set.univ (bodyAt0 t) (fun _ => back m c t f4 f5 f6 f7 f8 f9) := by
  have hv := later_val m c t f4 f5 f6 f7 f8 f9 f10 hb h0 h10
  have ht : t.val < 187 := t.isLt
  unfold handed back phi hPart
  rw [xPart_same m c t.val ht h0 h1]
  iintro ⟨HI, HO, ⟨HX, ⟨%fh, HH, %hh⟩, HM, HG⟩, HW⟩
  iapply (wp_wand_r frame (wpE (defs₀ (F := F)) Variants.none (c : Thread nD τ) none) Set.univ)
  isplitl [HI HO HH]
  · iapply (run_plain (F := F) c (grid0.coords t) (st0_0 t) _ (st0_1 t) _ (st0_2 t) _ (st0_3 t) _ (st0_4 t) _ (st0_5 t) _ (st0_6 t) _ f4 f5 f6 f7 f8 f9 f10 fh
      (c1_pos t (fun e => h0 (by rw [e]))) (c2_off t h0) (c5_off t h1))
    isplitl [HI]; · iexact HI
    isplitl [HO]; · iexact HO
    iexact HH
  iintro %_ ⟨HI, ⟨%f, HO, %hf⟩, HH⟩
  isplitl [HI]; · iexact HI
  isplitl [HO]
  · iexists f; isplitl [HO]; · iexact HO
    ipureintro; rw [hf, hh h0]; exact hv
  isplitl [HX HH HM HG]
  · isplitl [HX]
    · iexact HX
    isplitl [HH]
    · iexists fh; isplitl [HH]; · iexact HH
      ipureintro
      intro hne
      have el : tl (t.val + 1) = tl t.val := Fin.ext (by
        show (t.val + 1) / 11 % 17 = t.val / 11 % 17
        omega)
      rw [el]; exact hh h0
    isplitl [HM]; · iexact HM
    iexact HG
  iexists W; iexact HW

theorem point_issue (h1 : t.val % 11 = 1) (h2 : t.val < 177) (h10 : (st0_6 t).view.read (Elt F) f10 = oT m c (tl t.val) (t.val % 11 - 1)) :
    handed m c t f4 f5 f6 f7 f8 f9 f10 W ⊢ wp frame (wpE (defs₀ (F := F)) Variants.none (c : Thread nD τ) none) Set.univ (bodyAt0 t) (fun _ => back m c t f4 f5 f6 f7 f8 f9) := by
  have h0 : t.val % 11 ≠ 0 := by omega
  have h3 : t.val < 176 := by omega
  have hv := later_val m c t f4 f5 f6 f7 f8 f9 f10 hb h0 h10
  have ht : t.val < 187 := t.isLt
  have eo : k0_off4 (grid0.coords t) = ![1024 * (tl (t.val + 1 + 9)).val, 0] := by
    have el : (tl (t.val + 1 + 9)).val = t.val / 11 + 1 := tl_of _ _ (by omega) (by omega)
    rw [k0_off4_eq, coord0, el, Nat.mul_add]
  unfold handed back phi hPart
  rw [xPart_quiet m c t.val (Or.inl h1), xPart_busy m c (t.val + 1) (by unfold quiet; omega),
    ← pending_of c (V m c main_arg0) _ _ (k0_off4_inb (grid0.coords t) (c5_on t h1 h2) (c6_on t h3)) _ eo]
  iintro ⟨HI, HO, ⟨⟨HA, ⟨%fx, HX⟩, HS⟩, ⟨%fh, HH, %hh⟩, HM, HG⟩, HW⟩
  iapply (wp_wand_r frame (wpE (defs₀ (F := F)) Variants.none (c : Thread nD τ) none) Set.univ)
  isplitl [HI HO HH HA HX HS]
  · iapply (run_issue (F := F) c (grid0.coords t) (st0_0 t) _ (st0_1 t) _ (st0_2 t) _ (st0_3 t) _ (st0_4 t) _ (st0_5 t) _ (st0_6 t) _ f4 f5 f6 f7 f8 f9 f10 fh
      (V m c main_arg0) fx (c1_pos t (fun e => h0 (by rw [e]))) (c2_off t h0) (c5_on t h1 h2) (c6_on t h3) (c7_off t h3))
    isplitl [HI]; · iexact HI
    isplitl [HO]; · iexact HO
    isplitl [HH]; · iexact HH
    isplitl [HA]; · iexact HA
    isplitl [HX]; · iexact HX
    iexact HS
  iintro %_ ⟨HI, ⟨%f, HO, %hf⟩, HH, HX⟩
  isplitl [HI]; · iexact HI
  isplitl [HO]
  · iexists f; isplitl [HO]; · iexact HO
    ipureintro; rw [hf, hh h0]; exact hv
  isplitl [HX HH HM HG]
  · isplitl [HX]; · iexact HX
    isplitl [HH]
    · iexists fh; isplitl [HH]; · iexact HH
      ipureintro
      intro hne
      have el : tl (t.val + 1) = tl t.val := Fin.ext (by
        show (t.val + 1) / 11 % 17 = t.val / 11 % 17
        omega)
      rw [el]; exact hh h0
    isplitl [HM]; · iexact HM
    iexact HG
  iexists W; iexact HW

theorem point_first (h0 : t.val % 11 = 0) (h1 : t.val ≠ 0) :
    handed m c t f4 f5 f6 f7 f8 f9 f10 W ⊢ wp frame (wpE (defs₀ (F := F)) Variants.none (c : Thread nD τ) none) Set.univ (bodyAt0 t) (fun _ => back m c t f4 f5 f6 f7 f8 f9) := by
  have hv := first_val m c t f4 f5 f6 f7 f8 f9 hb h0
  have hh := first_h m c t f4 f5 f6 f7 f8 f9 hb h0
  have ht : t.val < 187 := t.isLt
  have eb : tl (t.val + 9) = tl t.val := Fin.ext (by
    show (t.val + 9) / 11 % 17 = t.val / 11 % 17
    omega)
  unfold handed back phi hPart
  rw [xPart_busy m c t.val (by unfold quiet; omega), xPart_quiet m c (t.val + 1) (Or.inl (by omega))]
  iintro ⟨HI, HO, ⟨HX, ⟨%fh, HH, -⟩, ⟨%fm, HM⟩, HG⟩, HW⟩
  iapply (wp_wand_r frame (wpE (defs₀ (F := F)) Variants.none (c : Thread nD τ) none) Set.univ)
  isplitl [HI HO HH HM HX HW]
  · iapply (run_first (F := F) c (grid0.coords t) (st0_0 t) _ (st0_1 t) _ (st0_2 t) _ (st0_3 t) _ (st0_4 t) _ (st0_5 t) _ (st0_6 t) _ f4 f5 f6 f7 f8 f9 f10 fh
      (V m c main_arg0) fm _ _ W (c1_pos t h1) (c2_on t h0) (c3_on t) (c4_off t) (c5_off t (by omega)))
    isplitl [HI]; · iexact HI
    isplitl [HO]; · iexact HO
    isplitl [HH]; · iexact HH
    isplitl [HM]; · iexact HM
    isplitl [HX]; · iexact HX
    iexact HW
  rw [xt_of m c (tl t.val) _ _ (by rw [eb])]
  iintro %_ ⟨HI, ⟨%f, HO, %hf⟩, ⟨%fh', HH, %hh'⟩, HM, HX, HA, HS, HW⟩
  isplitl [HI]; · iexact HI
  isplitl [HO]
  · iexists f; isplitl [HO]; · iexact HO
    ipureintro; exact hf.trans hv
  isplitl [HX HA HS HH HM HG]
  · isplitl [HX HA HS]
    · isplitl [HA]; · iexact HA
      isplitl [HX]; · iexact HX
      iexact HS
    isplitl [HH]
    · iexists fh'; isplitl [HH]; · iexact HH
      ipureintro
      exact fun _ => hh'.trans hh
    isplitl [HM]; · iexact HM
    iexact HG
  iexact HW

theorem point_zero (h1 : t.val = 0) :
    handed m c t f4 f5 f6 f7 f8 f9 f10 W ⊢ wp frame (wpE (defs₀ (F := F)) Variants.none (c : Thread nD τ) none) Set.univ (bodyAt0 t) (fun _ => back m c t f4 f5 f6 f7 f8 f9) := by
  have h0 : t.val % 11 = 0 := by rw [h1]
  have hv := first_val m c t f4 f5 f6 f7 f8 f9 hb h0
  have hh := first_h m c t f4 f5 f6 f7 f8 f9 hb h0
  have eb : (tl t.val).val = 0 := tl_of _ _ (by omega) (by omega)
  unfold handed back phi hPart
  rw [xPart_quiet m c t.val (Or.inr (Or.inl h1)), xPart_quiet m c (t.val + 1) (Or.inl (by omega))]
  iintro ⟨HI, HO, ⟨⟨HA, ⟨%fx, HX⟩, HS⟩, ⟨%fh, HH, -⟩, ⟨%fm, HM⟩, HG⟩, HW⟩
  iapply (wp_wand_r frame (wpE (defs₀ (F := F)) Variants.none (c : Thread nD τ) none) Set.univ)
  isplitl [HI HO HH HM HX HA HS HW]
  · iapply (run_zero (F := F) c (grid0.coords t) (st0_0 t) _ (st0_1 t) _ (st0_2 t) _ (st0_3 t) _ (st0_4 t) _ (st0_5 t) _ (st0_6 t) _ f4 f5 f6 f7 f8 f9 f10 fh
      (V m c main_arg0) fm fx W (c1_zero t h1) (c2_on t h0) (c3_on t) (c4_off t) (c5_off t (by omega)))
    isplitl [HI]; · iexact HI
    isplitl [HO]; · iexact HO
    isplitl [HH]; · iexact HH
    isplitl [HM]; · iexact HM
    isplitl [HX]; · iexact HX
    isplitl [HA]; · iexact HA
    isplitl [HS]; · iexact HS
    iexact HW
  rw [xt_of m c (tl t.val) _ _ (by rw [eb])]
  iintro %_ ⟨HI, ⟨%f, HO, %hf⟩, ⟨%fh', HH, %hh'⟩, HM, HX, HA, HS, HW⟩
  isplitl [HI]; · iexact HI
  isplitl [HO]
  · iexists f; isplitl [HO]; · iexact HO
    ipureintro; exact hf.trans hv
  isplitl [HX HA HS HH HM HG]
  · isplitl [HX HA HS]
    · isplitl [HA]; · iexact HA
      isplitl [HX]; · iexact HX
      iexact HS
    isplitl [HH]
    · iexists fh'; isplitl [HH]; · iexact HH
      ipureintro
      exact fun _ => hh'.trans hh
    isplitl [HM]; · iexact HM
    iexact HG
  iexact HW

/-- Every point. -/
theorem point (h10 : t.val % 11 ≠ 0 → (st0_6 t).view.read (Elt F) f10 = oT m c (tl t.val) (t.val % 11 - 1)) :
    handed m c t f4 f5 f6 f7 f8 f9 f10 W ⊢ wp frame (wpE (defs₀ (F := F)) Variants.none (c : Thread nD τ) none) Set.univ (bodyAt0 t) (fun _ => back m c t f4 f5 f6 f7 f8 f9) := by
  by_cases h0 : t.val % 11 = 0
  · by_cases h1 : t.val = 0
    · exact point_zero m c t f4 f5 f6 f7 f8 f9 f10 W hb h1
    · exact point_first m c t f4 f5 f6 f7 f8 f9 f10 W hb h0 h1
  · by_cases h1 : t.val % 11 = 1 ∧ t.val < 177
    · exact point_issue m c t f4 f5 f6 f7 f8 f9 f10 W hb h1.1 h1.2 (h10 h0)
    · exact point_plain m c t f4 f5 f6 f7 f8 f9 f10 W hb h0 h1 (h10 h0)

end Point

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.castSucc = phi m c t.val from rfl, show (dats m 0 c).Φ t.succ = phi m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5]
  rw [after_0, after_1, after_2, after_3, after_4, after_5, after_6]
  unfold owns
  iintro ⟨HP, ⟨%W, -, HW⟩, ⟨%d0, %f4, %e4, H4⟩, ⟨%d1, %f5, %e5, H5⟩, ⟨%d2, %f6, %e6, H6⟩, ⟨%d3, %f7, %e7, H7⟩, ⟨%d4, %f8, %e8, H8⟩, ⟨%d5, %f9, %e9, H9⟩, ⟨%d6, %f10, %e10, H10⟩⟩
  iapply (wp_wand_r frame (wpE (defs₀ (F := F)) Variants.none (c : Thread nD τ) none) Set.univ)
  isplitl [HP HW H4 H5 H6 H7 H8 H9 H10]
  · iapply (point m c t f4 f5 f6 f7 f8 f9 f10 W ⟨e4, e5, e6, e7, e8, e9⟩ (fun h => e10.trans (before_6 m c t h d6)))
    isplitl [H4 H5 H6 H7 H8 H9]
    · isplitl [H4]; · iexact H4
      isplitl [H5]; · iexact H5
      isplitl [H6]; · iexact H6
      isplitl [H7]; · iexact H7
      isplitl [H8]; · iexact H8
      iexact H9
    isplitl [H10]; · iexact H10
    isplitl [HP]; · iexact HP
    iexact HW
  iintro %_ ⟨⟨H4, H5, H6, H7, H8, H9⟩, ⟨%f, H10, %hf⟩, HP, ⟨%W', HW⟩⟩
  isplitl [HP]; · iexact HP
  isplitl [HW]
  · iexists W'; isplitr; · ipureintro; exact fun _ _ => Or.inl trivial
    iexact HW
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  iexists f; isplitr; · ipureintro; exact hf
  iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmain' (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The kernel's own semaphore. -/
abbrev osem : Fin 1 → SemLoc sig := fun j => (![SemLoc.dma 13] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 13) 0) := by
  rw [Pipeline.ownSems0_eq_of_list c osem [0] (by decide) (by decide)]; rfl
def H0 : Finset (Ref sig .tc) := {main_arg0}
theorem H0_sub : H0 ⊆ Pipeline.restRefs sig spec0 := by decide
theorem hbm_eq (c : Dev nD) :
    (bigSep H0 (fun b => ((c : Thread nD τ).loc b) ↦{fullShare} V m c b) : sProp 𝕄)
      = iprop(((c : Thread nD τ).loc main_arg0) ↦{fullShare} V m c main_arg0) := by
  rw [BI.bigSep_eq_bigSepL_of_eq [main_arg0] (by decide) (by decide)]; rfl

/-- The library's invariant at the ends of the run, spelled out. -/
theorem PhiD_eq (c : Dev nD) :
    (Pipeline.ΦD osem spec0 H0 (V m) c : sProp 𝕄)
      = iprop(iprop((∃ f, pt c xM f) ∗ (∃ f, pt c hM f) ∗ (∃ f, pt c mM f)) ∗ (∃ r, prngReg c r) ∗ semVal ((c : Thread nD τ), SemLoc.dma 13) 0
          ∗ pt c aM (V m c main_arg0)) := by
  rw [Pipeline.ΦD_eq, scopedRest0_eq, ownSems_eq, hbm_eq]
  simp only [pt, View.set_whole]
  try rfl

theorem phi_in (c : Dev nD) : Pipeline.ΦD osem spec0 H0 (V m) c ⊢ phi m c 0 := by
  rw [PhiD_eq]
  unfold phi hPart
  rw [xPart_quiet m c 0 (Or.inr (Or.inl rfl))]
  iintro ⟨⟨HX, ⟨%fh, HH⟩, HM⟩, HG, HS, HA⟩
  isplitl [HX HS HA]
  · isplitl [HA]; · iexact HA
    isplitl [HX]; · iexact HX
    iexact HS
  isplitl [HH]
  · iexists fh; isplitl [HH]; · iexact HH
    ipureintro; exact fun h => absurd rfl h
  isplitl [HM]; · iexact HM
  iexact HG

theorem phi_out (c : Dev nD) : phi m c 187 ⊢ Pipeline.ΦD osem spec0 H0 (V m) c := by
  rw [PhiD_eq]
  unfold phi hPart
  rw [xPart_quiet m c 187 (Or.inr (Or.inr (by decide)))]
  iintro ⟨⟨HA, HX, HS⟩, ⟨%fh, HH, -⟩, HM, HG⟩
  isplitl [HX HH HM]
  · isplitl [HX]; · iexact HX
    isplitl [HH]; · iexists fh; iexact HH
    iexact HM
  isplitl [HG]; · iexact HG
  isplitl [HS]; · iexact HS
  iexact HA

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem defs₀ Variants.none ownSemFacts H0 H0_sub m ρ main
    (hbody := fun c => (body_obligation m c).loose) (hq := fun c w _ => rfl)
    (howed := fun _ _ => rfl) (V := V m) (hmain := hmain' m Variants.none) (hA := A_eq m)
    (hin := fun c => phi_in m c) (hout := fun c => phi_out m c) (hQ' := fun _ h => h)

/-- The arguments keep their contents, every semaphore ends at zero, and the result is what the write-backs left. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (∀ c : Dev nD, r.2.mem ((spec0 6).arr.view.loc (c.tc : Thread nD τ)) = (dats m 0 c).arrAt 6 cfg0.N)
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c)))⟩, fun c => (h.1 c).1 6, h.2⟩) (run_main m ρ)

end Cert.Proof.Kernel2Ideal
end
-- ==== Proof.FfnCore.lean ====
/- The half feed-forward layer as one function of its arguments over the extended reals: what each row's element is, and that on finite
   arguments every product in it is a real number. -/
module

public import Idealize.ShloMosaic.Lib.Pointwise
public import Idealize.ShloMosaic.Lib.ValueIdx

@[expose] public section

noncomputable section

namespace Cert.Ffn

open Idealize.ShloMosaic Idealize.ShloMosaic.TcCoe Idealize.SL.Sem

/-- An extended real that is a real number. -/
def Fin' (x : EReal) : Prop := ∃ r : ℝ, x = (r : EReal)

theorem Fin'.add {x y : EReal} : Fin' x → Fin' y → Fin' (x + y) := fun ⟨a, ha⟩ ⟨b, hb⟩ => ⟨a + b, by rw [ha, hb, EReal.coe_add]⟩
theorem Fin'.mul {x y : EReal} : Fin' x → Fin' y → Fin' (x * y) := fun ⟨a, ha⟩ ⟨b, hb⟩ => ⟨a * b, by rw [ha, hb, EReal.coe_mul]⟩
theorem sum_coe {ι : Type} (s : Finset ι) (f : ι → ℝ) : ((∑ i ∈ s, f i : ℝ) : EReal) = ∑ i ∈ s, (f i : EReal) := by
  classical
  refine Finset.induction_on s (by simp) fun a s h ih => ?_
  rw [Finset.sum_insert h, Finset.sum_insert h, EReal.coe_add, ih]
theorem Fin'.sum {ι : Type} (s : Finset ι) {f : ι → EReal} (h : ∀ i, Fin' (f i)) : Fin' (∑ i ∈ s, f i) := by
  choose g hg using h
  exact ⟨∑ i ∈ s, g i, by rw [sum_coe]; exact Finset.sum_congr rfl fun i _ => hg i⟩

/-- A real factor over a sum of real numbers. -/
theorem mul_sum' {ι : Type} (s : Finset ι) {c : EReal} {f : ι → EReal} (hc : Fin' c) (h : ∀ i, Fin' (f i)) : c * ∑ i ∈ s, f i = ∑ i ∈ s, c * f i := by
  obtain ⟨r, rfl⟩ := hc
  choose g hg using h
  have e : f = fun i => (g i : EReal) := funext hg
  subst e
  rw [← sum_coe, ← EReal.coe_mul, Finset.mul_sum, sum_coe]
  simp only [EReal.coe_mul]

/-- The row length, the small number under the root, and the half. -/
theorem len_eq : Ideal.ofBits .f32 1157627904#32 = ((2048 : ℝ) : EReal) := by
  simp [Ideal.ofBits, Ideal.ieee, -EReal.coe_mul]; norm_num
theorem eps_eq : Ideal.ofBits .f32 897988541#32 = ((8796093 / 8796093022208 : ℝ) : EReal) := by
  simp [Ideal.ofBits, Ideal.ieee, -EReal.coe_mul]; norm_num
theorem half_eq : Ideal.ofBits .f32 1056964608#32 = ((1 / 2 : ℝ) : EReal) := by
  simp [Ideal.ofBits, Ideal.ieee, -EReal.coe_mul]; norm_num

/-- The sigmoid of a real number is one. -/
theorem sigmoid_fin {x : EReal} (h : Fin' x) : Fin' (Ideal.div 1 (1 + Ideal.exp (-x))) := by
  obtain ⟨r, rfl⟩ := h
  refine ⟨1 / (1 + Real.exp (-r)), ?_⟩
  rw [← EReal.coe_neg, Ideal.exp_coe, ← EReal.coe_one, ← EReal.coe_add, Ideal.div_coe (by positivity), ← EReal.coe_mul, one_mul]

variable (x0 : (⟨2, ![17408, 2048]⟩ : Shape).Idx → EReal) (x1 : (⟨3, ![45, 1, 2048]⟩ : Shape).Idx → EReal) (x2 : (⟨2, ![1, 2048]⟩ : Shape).Idx → EReal)
    (x3 : (⟨4, ![4, 2, 2048, 11264]⟩ : Shape).Idx → EReal) (x4 : (⟨4, ![4, 2, 5632, 2048]⟩ : Shape).Idx → EReal)

/-- A modulation row of a row's sequence: four sequences of 4096 rows, then the context rows. -/
def mod (r : Fin 17408) (a : Fin 9) (k : Fin 2048) : EReal := x1 (ix3 ⟨9 * (r.val / 4096) + a.val, by omega⟩ 0 k)

/-- One over a row's root mean square. -/
def scale (r : Fin 17408) : EReal :=
  Ideal.rsqrt (Ideal.div (∑ x : Fin 2048, x0 (ix2 r x) * x0 (ix2 r x)) (Ideal.ofBits .f32 1157627904#32) + Ideal.ofBits .f32 897988541#32)

/-- The normed, scaled and shifted row. -/
def norm (r : Fin 17408) (k : Fin 2048) : EReal := x0 (ix2 r k) * scale x0 r * (x2 (ix2 0 k) * (1 + mod x1 r 7 k)) + mod x1 r 6 k

/-- The gate's and the other projection's columns. -/
def gate (r : Fin 17408) (f : Fin 5632) : EReal := ∑ x : Fin 2048, norm x0 x1 x2 r x * x3 (ix4 1 1 x ⟨f.val / 512 * 1024 + f.val % 512, by omega⟩)
def up (r : Fin 17408) (f : Fin 5632) : EReal := ∑ x : Fin 2048, norm x0 x1 x2 r x * x3 (ix4 1 1 x ⟨f.val / 512 * 1024 + 512 + f.val % 512, by omega⟩)

/-- The activation. -/
def act (r : Fin 17408) (f : Fin 5632) : EReal :=
  gate x0 x1 x2 x3 r f * Ideal.div 1 (1 + Ideal.exp (-gate x0 x1 x2 x3 r f)) * up x0 x1 x2 x3 r f

/-- Half the output's modulation row. -/
def half (r : Fin 17408) (k : Fin 2048) : EReal := Ideal.ofBits .f32 1056964608#32 * mod x1 r 8 k

/-- The layer's result. -/
def layer (r : Fin 17408) (k : Fin 2048) : EReal :=
  x0 (ix2 r k) + half x1 r k * ∑ f : Fin 5632, act x0 x1 x2 x3 r f * x4 (ix4 1 1 f k)

/-- Every element of every argument is a real number. -/
structure AllFin : Prop where
  f0 : ∀ r k, Fin' (x0 (ix2 r k))
  f1 : ∀ r k, Fin' (x1 (ix3 r 0 k))
  f2 : ∀ k, Fin' (x2 (ix2 0 k))
  f3 : ∀ k e, Fin' (x3 (ix4 1 1 k e))
  f4 : ∀ e k, Fin' (x4 (ix4 1 1 e k))

variable {x0 x1 x2 x3 x4} (H : AllFin x0 x1 x2 x3 x4)
include H

theorem scale_fin (r : Fin 17408) : Fin' (scale x0 r) := by
  choose g hg using H.f0 r
  have e : ∑ x : Fin 2048, x0 (ix2 r x) * x0 (ix2 r x) = ((∑ x : Fin 2048, g x * g x : ℝ) : EReal) := by
    rw [sum_coe]; exact Finset.sum_congr rfl fun x _ => by rw [hg, EReal.coe_mul]
  have hp : 0 < (∑ x : Fin 2048, g x * g x) * (1 / 2048) + 8796093 / 8796093022208 :=
    add_pos_of_nonneg_of_pos (mul_nonneg (Finset.sum_nonneg fun x _ => mul_self_nonneg _) (by norm_num)) (by norm_num)
  unfold scale
  rw [e, len_eq, eps_eq, Ideal.div_coe (by norm_num), ← EReal.coe_mul, ← EReal.coe_add, Ideal.rsqrt_coe, if_neg (not_lt.2 hp.le), if_neg hp.ne']
  exact ⟨_, rfl⟩

theorem mod_fin (r : Fin 17408) (a : Fin 9) (k : Fin 2048) : Fin' (mod x1 r a k) := H.f1 _ _

theorem norm_fin (r : Fin 17408) (k : Fin 2048) : Fin' (norm x0 x1 x2 r k) :=
  (((H.f0 _ _).mul (scale_fin H r)).mul ((H.f2 _).mul (Fin'.add ⟨1, EReal.coe_one.symm⟩ (mod_fin H _ _ _)))).add (mod_fin H _ _ _)

theorem gate_fin (r : Fin 17408) (f : Fin 5632) : Fin' (gate x0 x1 x2 x3 r f) := Fin'.sum _ fun x => (norm_fin H r x).mul (H.f3 _ _)
theorem up_fin (r : Fin 17408) (f : Fin 5632) : Fin' (up x0 x1 x2 x3 r f) := Fin'.sum _ fun x => (norm_fin H r x).mul (H.f3 _ _)
theorem act_fin (r : Fin 17408) (f : Fin 5632) : Fin' (act x0 x1 x2 x3 r f) :=
  ((gate_fin H r f).mul (sigmoid_fin (gate_fin H r f))).mul (up_fin H r f)
theorem half_fin (r : Fin 17408) (k : Fin 2048) : Fin' (half x1 r k) := Fin'.mul ⟨_, half_eq⟩ (mod_fin H _ _ _)

omit H in
/-- The columns, 512 at a time. -/
theorem sum_tiles {A : Type} [AddCommMonoid A] (F : Fin 5632 → A) :
    ∑ f, F f = ∑ j ∈ Finset.range 11, ∑ e : Fin 512, F ⟨(512 * j + e.val) % 5632, Nat.mod_lt _ (by decide)⟩ := by
  rw [Finset.sum_range (fun j => ∑ e : Fin 512, F ⟨(512 * j + e.val) % 5632, Nat.mod_lt _ (by decide)⟩), ← Fintype.sum_prod_type',
    ← Equiv.sum_comp (finProdFinEquiv (m := 11) (n := 512)) (fun f : Fin (11 * 512) => F f)]
  refine Finset.sum_congr rfl fun p _ => congrArg F (Fin.ext ?_)
  have h1 := p.1.isLt
  have h2 := p.2.isLt
  show p.2.val + 512 * p.1.val = (512 * p.1.val + p.2.val) % 5632
  omega

/-- The result, 512 columns at a time. -/
theorem layer_tiles (r : Fin 17408) (k : Fin 2048) :
    layer x0 x1 x2 x3 x4 r k = x0 (ix2 r k) + ∑ j ∈ Finset.range 11, half x1 r k * ∑ e : Fin 512,
      act x0 x1 x2 x3 r ⟨(512 * j + e.val) % 5632, Nat.mod_lt _ (by decide)⟩ * x4 (ix4 1 1 ⟨(512 * j + e.val) % 5632, Nat.mod_lt _ (by decide)⟩ k) := by
  unfold layer
  rw [sum_tiles (fun f => act x0 x1 x2 x3 r f * x4 (ix4 1 1 f k)), mul_sum' _ (half_fin H r k)]
  exact fun j => Fin'.sum _ fun e => (act_fin H r _).mul (H.f4 _ _)

end Cert.Ffn

end
-- ==== Proof.FfnPayI.lean ====
/- The result array over the extended reals: each grid point's arithmetic, each window's block, and the sum over a tile's steps. -/
module

public import proofs.«01_k».proof.Proof.Gen.Kernel2Ideal.Frame
public import proofs.«01_k».proof.Proof.Gen.Kernel2Ideal.Points
public import proofs.«01_k».proof.Proof.Gen.Kernel2Ideal.Loops
public import proofs.«01_k».proof.Proof.FfnLaunchI
public import proofs.«01_k».proof.Proof.FfnCore
public import Idealize.ShloMosaic.Lib.ValueIdx
public import Idealize.ShloMosaic.Lib.Pipeline.ValueKit.Point
public import Idealize.ShloMosaic.Lib.Tactic
public import Idealize.ShloMosaic.Lib.Pipeline.Kit
public import Idealize.ShloMosaic.Lib.Pipeline.Frame
public import Idealize.ShloMosaic.Lib.Pointwise
public import Idealize.ShloMosaic.Lib.WritesUnit
public import Idealize.ShloMosaic.Lib.VecWindow

@[expose] public section

set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation)

/-- Each window's block at a grid point. -/
theorem idx0 : ∀ t : Fin cfg0.N, win0_0.index t = ![9 * (t.val / 44) + 6, 0, 0] ∧ win0_1.index t = ![9 * (t.val / 44) + 7, 0, 0] ∧ win0_2.index t = ![9 * (t.val / 44) + 8, 0, 0]
    ∧ win0_3.index t = ![0, 0] ∧ win0_4.index t = ![1, 1, 0, t.val % 11] ∧ win0_5.index t = ![1, 1, t.val % 11, 0] ∧ win0_6.index t = ![t.val / 11, 0] := by decide +kernel

/-- No output block is written back twice. -/
theorem idx_inj6 : ∀ t t' : Fin cfg0.N, (cfg0.win 6).flush t = true → (cfg0.win 6).flush t' = true → t ≠ t' → win0_6.index t ≠ win0_6.index t' := fun t t' h h' hne e => by
  rw [(idx0 t).2.2.2.2.2.2, (idx0 t').2.2.2.2.2.2] at e
  have e0 : t.val / 11 = t'.val / 11 := congrFun e 0
  have f := (flush0_6 t).mp h
  have f' := (flush0_6 t').mp h'
  exact hne (Fin.ext (by omega))

variable (m : (ℓ : Loc nD τ sig) → Buf (Elt Ideal) ℓ) (c : Dev nD) (t : Fin cfg0.N)

/-- Each output block ends as its last point leaves it. -/
theorem blocks6 (hf : (cfg0.win 6).flush t = true) : ((cfg0.win 6).blk t).view.read (Elt Ideal) ((dats m 0 c).arrAt 6 cfg0.N) = (dats m 0 c).flushed 6 t :=
  (dats m 0 c).read_blk_arrAt_eq_flushed 6 (fun t t' h h' hne => (cfg0.win 6).disjoint_blk (idx_inj6 t t' h h' hne)) cfg0.N t t.isLt hf

/-- The grid has 187 points. -/
theorem pt0 : t.val < 187 := t.isLt

/-- The six input blocks, as elements of the arguments: the shift. -/
theorem blk0 (k : Fin 2048) : iblk m c 0 t (ix3 0 0 k) = m ((c : Thread nD τ).loc main_arg1) (ix3 ⟨9 * (t.val / 44) + 6, by have := pt0 t; omega⟩ 0 k) := by
  blk_ext! [iblk, V, idx0 t]
/-- The scale. -/
theorem blk1 (k : Fin 2048) : iblk m c 1 t (ix3 0 0 k) = m ((c : Thread nD τ).loc main_arg1) (ix3 ⟨9 * (t.val / 44) + 7, by have := pt0 t; omega⟩ 0 k) := by
  blk_ext! [iblk, V, idx0 t]
/-- The output's gate. -/
theorem blk2 (k : Fin 2048) : iblk m c 2 t (ix3 0 0 k) = m ((c : Thread nD τ).loc main_arg1) (ix3 ⟨9 * (t.val / 44) + 8, by have := pt0 t; omega⟩ 0 k) := by
  blk_ext! [iblk, V, idx0 t]
/-- The norm's row. -/
theorem blk3 (k : Fin 2048) : iblk m c 3 t (ix2 0 k) = m ((c : Thread nD τ).loc main_arg2) (ix2 0 k) := by
  blk_ext! [iblk, V, idx0 t]
/-- 512 columns of each of the two projections. -/
theorem blk4 (k : Fin 2048) (e : Fin 1024) : iblk m c 4 t (ix4 0 0 k e) = m ((c : Thread nD τ).loc main_arg3) (ix4 1 1 k ⟨1024 * (t.val % 11) + e.val, by omega⟩) := by
  blk_ext! [iblk, V, idx0 t]
/-- 512 rows of the last projection. -/
theorem blk5 (e : Fin 512) (d : Fin 2048) : iblk m c 5 t (ix4 0 0 e d) = m ((c : Thread nD τ).loc main_arg4) (ix4 1 1 ⟨512 * (t.val % 11) + e.val, by omega⟩ d) := by
  blk_ext! [iblk, V, idx0 t]

/-- An element of a tile's last block, in the array. -/
theorem arr6 (hf : t.val % 11 = 10) (r : Fin 1024) (d : Fin 2048) :
    (dats m 0 c).arrAt 6 cfg0.N (ix2 ⟨1024 * (t.val / 11) + r.val, by have := pt0 t; omega⟩ d) = oT m c (tl t.val) (t.val % 11) (ix2 r d) := by
  have h := congrFun (blocks6 m c t ((flush0_6 t).mpr hf)) (ix2 r d)
  rw [show (dats m 0 c).flushed 6 t = (cfg0.win 6).cut (grid0.coords t) ((dats m 0 c).after 6 t) from rfl, after_6] at h
  refine Eq.trans ?_ (h.trans ?_)
  · symm; blk_ext [idx0 t]
  · rfl

/-- A tile is 1024 rows. -/
theorem xt_apply (b : Fin 17) (r : Fin 1024) (d : Fin 2048) : xt m c b (ix2 r d) = m ((c : Thread nD τ).loc main_arg0) (ix2 ⟨1024 * b.val + r.val, by omega⟩ d) := by
  unfold xt
  refine congrArg (m ((c : Thread nD τ).loc main_arg0)) (?_ : (Rect.unit (s := S17408x2048) ![1024 * b.val, 0] S1024x2048.size (tile_inb b)).emb (ix2 r d) = _)
  funext a
  apply Fin.ext
  fin_cases a
  · refine (Rect.emb_apply _ _ _).trans ?_
    show 1024 * b.val + 1 * r.val = 1024 * b.val + r.val; omega
  · refine (Rect.emb_apply _ _ _).trans ?_
    show 0 + 1 * d.val = d.val; omega

/-- The arithmetic of a grid point: the row that multiplies the normed rows. -/
theorem p12 (g : Vec Ideal S1x2048 .f32) (s : Vec Ideal S1x1x2048 .f32) (a : Fin 16) (k : Fin 2048) :
    k0_pay12 (F := Ideal) g s (ix3 0 a k) = g (ix2 0 k) * (1 + s (ix3 0 0 k)) := by
  pointwise [k0_pay12]
/-- The row that is added. -/
theorem p13 (s : Vec Ideal S1x1x2048 .f32) (a : Fin 16) (k : Fin 2048) : k0_pay13 (F := Ideal) s (ix3 0 a k) = s (ix3 0 0 k) := by
  pointwise [k0_pay13]
/-- Sixteen rows normed, multiplied and shifted. -/
theorem p2 (x : Vec Ideal S16x2048 .f32) (A B : Vec Ideal S1x16x2048 .f32) (a : Fin 16) (k : Fin 2048) : k0_pay2 (F := Ideal) x A B (ix2 a k)
    = x (ix2 a k) * Ideal.rsqrt (Ideal.div (∑ y : Fin 2048, x (ix2 a y) * x (ix2 a y)) (Ideal.ofBits .f32 1157627904#32) + Ideal.ofBits .f32 897988541#32) * A (ix3 0 a k) + B (ix3 0 a k) := by
  pointwise [k0_pay2]
/-- The activation of 512 columns. -/
theorem p16 (h : Vec Ideal S1024x2048 .bf16) (w : Vec Ideal S1x1x2048x1024 .bf16) (r : Fin 1024) (e : Fin 512) : k0_pay16 (F := Ideal) h w (ix2 r e)
    = (∑ x : Fin 2048, (h (ix2 r x) : EReal) * w (ix4 0 0 x ⟨e.val, by omega⟩)) * Ideal.div 1 (1 + Ideal.exp (-∑ x : Fin 2048, (h (ix2 r x) : EReal) * w (ix4 0 0 x ⟨e.val, by omega⟩)))
      * ∑ x : Fin 2048, (h (ix2 r x) : EReal) * w (ix4 0 0 x ⟨512 + e.val, by omega⟩) := by
  pointwise [k0_pay16]
  rw [zero_sub]
/-- The last projection, and the residual. -/
theorem p1 (a : FVec Ideal S1024x512 .bf16) (o : FVec Ideal S1024x2048 .f32) (g : Vec Ideal S1x1x2048 .f32) (w : Vec Ideal S1x1x512x2048 .bf16) (r : Fin 1024) (d : Fin 2048) :
    k0_pay1 (F := Ideal) a (k0_pay17 (F := Ideal) o) g w (ix2 r d)
      = (o (ix2 r d) : EReal) + Ideal.ofBits .f32 1056964608#32 * g (ix3 0 0 d) * ∑ x : Fin 512, (a (ix2 r x) : EReal) * w (ix4 0 0 x d) := by
  pointwise [k0_pay1, k0_pay17]

/-! ## The tiles -/

/-- The call's arguments. -/
abbrev a0 : (⟨2, ![17408, 2048]⟩ : Shape).Idx → EReal := m ((c : Thread nD τ).loc main_arg0)
abbrev a1 : (⟨3, ![45, 1, 2048]⟩ : Shape).Idx → EReal := m ((c : Thread nD τ).loc main_arg1)
abbrev a2 : (⟨2, ![1, 2048]⟩ : Shape).Idx → EReal := m ((c : Thread nD τ).loc main_arg2)
abbrev a3 : (⟨4, ![4, 2, 2048, 11264]⟩ : Shape).Idx → EReal := m ((c : Thread nD τ).loc main_arg3)
abbrev a4 : (⟨4, ![4, 2, 5632, 2048]⟩ : Shape).Idx → EReal := m ((c : Thread nD τ).loc main_arg4)

/-- Row `r` of tile `b`. -/
abbrev row (b : Fin 17) (r : Fin 1024) : Fin 17408 := ⟨1024 * b.val + r.val, by omega⟩

/-- The number of a point. -/
theorem tp_val (b : Fin 17) (j : ℕ) (hj : j < 11) : (tp b j).val = 11 * b.val + j := by
  show (11 * b.val + j) % 187 = _
  omega

/-- The modulation row of a point is its rows' own. -/
theorem mod_at (b : Fin 17) (r : Fin 1024) (j : ℕ) (hj : j < 11) (a : Fin 9) (q : Fin 45) (hq : q.val = 9 * ((tp b j).val / 44) + a.val) (k : Fin 2048) :
    m ((c : Thread nD τ).loc main_arg1) (ix3 q 0 k) = Cert.Ffn.mod (a1 m c) (row b r) a k := by
  unfold Cert.Ffn.mod
  refine congrArg (a1 m c) (congrArg (fun z => ix3 z 0 k) (Fin.ext ?_))
  show q.val = 9 * ((1024 * b.val + r.val) / 4096) + a.val
  rw [hq, tp_val b j hj]
  omega

/-- The prenormed tile holds the normed rows. -/
theorem hT_apply (b : Fin 17) (r : Fin 1024) (k : Fin 2048) : hT m c b (ix2 r k) = Cert.Ffn.norm (a0 m c) (a1 m c) (a2 m c) (row b r) k := by
  have hg : ∀ y : Fin 2048, group (F := Ideal) (xt m c b) (ix2 r k) (ix2 (⟨r.val % 16, Nat.mod_lt _ (by decide)⟩ : Fin 16) y) = a0 m c (ix2 (row b r) y) := fun y => by
    refine Eq.trans ?_ (xt_apply m c b r y)
    refine congrArg (xt m c b) (congrArg (fun z => ix2 z y) (Fin.ext ?_))
    show (r.val / 16 * 16 + r.val % 16) % 1024 = r.val
    have := r.isLt
    omega
  unfold hT hOf normed
  refine (p2 _ _ _ ⟨r.val % 16, Nat.mod_lt _ (by decide)⟩ k).trans ?_
  rw [p12, p13, blk0, blk1, blk3]
  simp only [hg]
  rw [mod_at m c b r 0 (by decide) 7 _ rfl k, mod_at m c b r 0 (by decide) 6 _ rfl k]
  rfl

/-- One step: 512 columns of the two projections and rows of the last. -/
theorem step_apply (b : Fin 17) (j : ℕ) (hj : j < 11) (o : FVec Ideal S1024x2048 .f32) (r : Fin 1024) (d : Fin 2048) :
    step (hT m c b) (iblk m c 4 (tp b j)) o (iblk m c 2 (tp b j)) (iblk m c 5 (tp b j)) (ix2 r d)
      = (o (ix2 r d) : EReal) + Cert.Ffn.half (a1 m c) (row b r) d * ∑ e : Fin 512,
        Cert.Ffn.act (a0 m c) (a1 m c) (a2 m c) (a3 m c) (row b r) ⟨(512 * j + e.val) % 5632, Nat.mod_lt _ (by decide)⟩
          * a4 m c (ix4 1 1 ⟨(512 * j + e.val) % 5632, Nat.mod_lt _ (by decide)⟩ d) := by
  have hp := tp_val b j hj
  have hb := b.isLt
  unfold step
  rw [p1, blk2, mod_at m c b r j hj 8 _ rfl d]
  refine congrArg₂ (· + ·) rfl (congrArg₂ (· * ·) rfl (Finset.sum_congr rfl fun e _ => congrArg₂ (· * ·) ?_ ?_))
  · have he := e.isLt
    have hlo : ∑ x : Fin 2048, (hT m c b (ix2 r x) : EReal) * iblk m c 4 (tp b j) (ix4 0 0 x ⟨e.val, by omega⟩)
        = Cert.Ffn.gate (a0 m c) (a1 m c) (a2 m c) (a3 m c) (row b r) ⟨(512 * j + e.val) % 5632, Nat.mod_lt _ (by decide)⟩ := by
      unfold Cert.Ffn.gate
      refine Finset.sum_congr rfl fun x _ => ?_
      rw [hT_apply, blk4]
      refine congrArg₂ (· * ·) rfl (congrArg (a3 m c) (congrArg (fun z => ix4 1 1 x z) (Fin.ext ?_)))
      show 1024 * ((tp b j).val % 11) + e.val = (512 * j + e.val) % 5632 / 512 * 1024 + (512 * j + e.val) % 5632 % 512
      rw [hp]; omega
    have hhi : ∑ x : Fin 2048, (hT m c b (ix2 r x) : EReal) * iblk m c 4 (tp b j) (ix4 0 0 x ⟨512 + e.val, by omega⟩)
        = Cert.Ffn.up (a0 m c) (a1 m c) (a2 m c) (a3 m c) (row b r) ⟨(512 * j + e.val) % 5632, Nat.mod_lt _ (by decide)⟩ := by
      unfold Cert.Ffn.up
      refine Finset.sum_congr rfl fun x _ => ?_
      rw [hT_apply, blk4]
      refine congrArg₂ (· * ·) rfl (congrArg (a3 m c) (congrArg (fun z => ix4 1 1 x z) (Fin.ext ?_)))
      show 1024 * ((tp b j).val % 11) + (512 + e.val) = (512 * j + e.val) % 5632 / 512 * 1024 + 512 + (512 * j + e.val) % 5632 % 512
      rw [hp]; omega
    rw [p16, hlo, hhi]
    rfl
  · have he := e.isLt
    rw [blk5]
    refine congrArg (a4 m c) (congrArg (fun z => ix4 1 1 z d) (Fin.ext ?_))
    show 512 * ((tp b j).val % 11) + e.val = (512 * j + e.val) % 5632
    rw [hp]; omega

/-- A tile after point `j`. -/
theorem oT_apply (b : Fin 17) (r : Fin 1024) (d : Fin 2048) (j : ℕ) (hj : j < 11) :
    oT m c b j (ix2 r d) = (a0 m c (ix2 (row b r) d) : EReal) + ∑ i ∈ Finset.range (j + 1), Cert.Ffn.half (a1 m c) (row b r) d * ∑ e : Fin 512,
        Cert.Ffn.act (a0 m c) (a1 m c) (a2 m c) (a3 m c) (row b r) ⟨(512 * i + e.val) % 5632, Nat.mod_lt _ (by decide)⟩
          * a4 m c (ix4 1 1 ⟨(512 * i + e.val) % 5632, Nat.mod_lt _ (by decide)⟩ d) := by
  induction j with
  | zero =>
    refine (step_apply m c b 0 hj _ r d).trans ?_
    rw [xt_apply, Finset.sum_range_one]
  | succ j ih =>
    refine (step_apply m c b (j + 1) hj _ r d).trans ?_
    rw [ih (by omega), Finset.sum_range_succ _ (j + 1), add_assoc]

/-- On finite arguments the result array holds the layer. -/
theorem result (H : Cert.Ffn.AllFin (a0 m c) (a1 m c) (a2 m c) (a3 m c) (a4 m c)) (R : Fin 17408) (d : Fin 2048) :
    (dats m 0 c).arrAt 6 cfg0.N (ix2 R d) = Cert.Ffn.layer (a0 m c) (a1 m c) (a2 m c) (a3 m c) (a4 m c) R d := by
  have hR := R.isLt
  obtain ⟨b, r, rfl⟩ : ∃ (b : Fin 17) (r : Fin 1024), R = row b r := ⟨⟨R.val / 1024, by omega⟩, ⟨R.val % 1024, by omega⟩, Fin.ext (by
    show R.val = 1024 * (R.val / 1024) + R.val % 1024
    omega)⟩
  have hp := tp_val b 10 (by decide)
  have hb := b.isLt
  have hm : (tp b 10).val % 11 = 10 := by rw [hp]; omega
  have hd : (tp b 10).val / 11 = b.val := by rw [hp]; omega
  have ht : tl (tp b 10).val = b := Fin.ext (tl_of _ _ hd hb)
  have h := arr6 m c (tp b 10) hm r d
  rw [ht, hm, oT_apply m c b r d 10 (by decide)] at h
  rw [Cert.Ffn.layer_tiles H, ← h]
  refine congrArg ((dats m 0 c).arrAt 6 cfg0.N) (congrArg (fun z => ix2 z d) (Fin.ext ?_))
  show 1024 * b.val + r.val = 1024 * ((tp b 10).val / 11) + r.val
  rw [hd]

end Cert.Proof.Kernel2Ideal
end
-- ==== Proof.FfnRef.lean ====
/- The reference's result over the extended reals. -/
module

public import proofs.«01_k».proof.Proof.Gen.Reference2Ideal.Read
public import proofs.«01_k».proof.Proof.FfnCore
public import Idealize.ShloMosaic.Lib.Pointwise
public import Idealize.ShloMosaic.Lib.ValueIdx

@[expose] public section

noncomputable section

namespace Cert.Ffn

open Cert.Reference2Ideal Cert.Reference2Ideal.Gen Cert.Reference2Ideal.Read Idealize.ShloMosaic Idealize.ShloMosaic.TcCoe Idealize.SL.Sem

variable (x0 : (⟨S17408x2048, .f32⟩ : BufTy).Contents (Elt Ideal)) (x1 : (⟨S45x1x2048, .f32⟩ : BufTy).Contents (Elt Ideal)) (x2 : (⟨S1x2048, .f32⟩ : BufTy).Contents (Elt Ideal)) (x3 : (⟨S4x2x2048x11264, .bf16⟩ : BufTy).Contents (Elt Ideal)) (x4 : (⟨S4x2x5632x2048, .bf16⟩ : BufTy).Contents (Elt Ideal))

/-- The modulation rows, one set per row. -/
theorem ref_mod (r : Fin 17408) (a : Fin 9) (k : Fin 2048) : val_main_v20 (F := Ideal) x1 (ix3 r a k) = mod x1 r a k := by
  pointwise [val_main_v20, val_main_v17, val_main_v19, val_main_v18, val_main_v13, val_main_v14, val_main_v15, val_main_v16]
  have hr := r.isLt
  unfold mod
  split
  · exact congrArg x1 (congrArg (fun z => ix3 z 0 k) (Fin.ext (by dsimp only; omega)))
  · exact congrArg x1 (congrArg (fun z => ix3 z 0 k) (Fin.ext (by dsimp only; omega)))

/-- The normed rows. -/
theorem ref_norm (r : Fin 17408) (k : Fin 2048) : val_main_v42 (F := Ideal) x0 x1 x2 (ix2 r k) = norm x0 x1 x2 r k := by
  pointwise [val_main_v42, val_main_v39, val_main_v41, val_main_v40, val_main_v38, val_main_v37, val_main_v36, val_main_v35, val_main_cst_2, val_main_v34, val_main_v33, val_main_v32, val_main_v31, val_main_v30, val_main_v29, val_main_v28, val_main_v27, val_main_v26, val_main_v25, val_main_v24, val_main_v23, val_main_v22, val_main_v21, val_main_cst, val_main_cst_0, val_main_cst_1]
  rw [ref_mod, ref_mod, mul_assoc (_ * _) (x2 _)]
  rfl

/-- The gate's projection. -/
theorem ref_gate (r : Fin 17408) (k : Fin 5632) : val_main_v43 (F := Ideal) x0 x1 x2 x3 (ix2 r k) = gate x0 x1 x2 x3 r k := by
  pointwise [val_main_v43, val_main_v6, val_main_v5, val_main_v4, val_main_v3, val_main_v2, val_main_v1, val_main_v0]
  exact Finset.sum_congr rfl fun x _ => by rw [ref_norm]

/-- The other projection. -/
theorem ref_up (r : Fin 17408) (k : Fin 5632) : val_main_v45 (F := Ideal) x0 x1 x2 x3 (ix2 r k) = up x0 x1 x2 x3 r k := by
  pointwise [val_main_v45, val_main_v9, val_main_v8, val_main_v7, val_main_v3, val_main_v2, val_main_v1, val_main_v0]
  exact Finset.sum_congr rfl fun x _ => by rw [ref_norm]

/-- The activation. -/
theorem ref_act (r : Fin 17408) (k : Fin 5632) : val_main_v46 (F := Ideal) x0 x1 x2 x3 (ix2 r k) = act x0 x1 x2 x3 r k := by
  pointwise [val_main_v46, val_main_v44, val_main_call0_v5, val_main_call0_v4, val_main_call0_v3, val_main_call0_v2, val_main_call0_v1, val_main_call0_v0, val_main_call0_cst, val_main_call0_cst_0]
  rw [ref_gate, ref_up]
  rfl

/-- The reference's result is the layer. -/
theorem ref_layer (r : Fin 17408) (k : Fin 2048) : val_main_v53 (F := Ideal) x0 x1 x2 x3 x4 (ix2 r k) = layer x0 x1 x2 x3 x4 r k := by
  pointwise [val_main_v53, val_main_v52, val_main_v51, val_main_v50, val_main_v49, val_main_v48, val_main_v47, val_main_cst_3, val_main_v12, val_main_v11, val_main_v10]
  simp only [ref_act, ref_mod]
  rfl

end Cert.Ffn

end
-- ==== Proof.FfnFinite.lean ====
/- Finite arguments of the half feed-forward layer are real numbers. -/
module

public import proofs.«01_k».proof.Defs
public import proofs.«01_k».proof.Proof.Finite
public import proofs.«01_k».proof.Proof.FfnCore
public import Idealize.ShloMosaic.Lib.ValueIdx

@[expose] public section

noncomputable section

namespace Cert.Ffn

open Idealize.ShloMosaic Idealize.ShloMosaic.TcCoe Idealize.SL.Sem Cert.Gla

/-- The precondition's shape relations. -/
instance finite2_facts : Cert.Pre_finite2.Facts where
  bcast_S_S17408x2048 := by decide
  bcast_S_S45x1x2048 := by decide
  bcast_S_S1x2048 := by decide
  bcast_S_S4x2x2048x11264 := by decide
  bcast_S_S4x2x5632x2048 := by decide

/-- Arguments that pass the test are real numbers. -/
theorem allFin_of {x0 : FVec Ideal Cert.Pre_finite2.S17408x2048 .f32} {x1 : FVec Ideal Cert.Pre_finite2.S45x1x2048 .f32} {x2 : FVec Ideal Cert.Pre_finite2.S1x2048 .f32}
    {x3 : FVec Ideal Cert.Pre_finite2.S4x2x2048x11264 .bf16} {x4 : FVec Ideal Cert.Pre_finite2.S4x2x5632x2048 .bf16}
    (h0 : (Cert.Pre_finite2.fn (F := Ideal) x0 x1 x2 x3 x4).1 = fun _ => 1#1) (h1 : (Cert.Pre_finite2.fn (F := Ideal) x0 x1 x2 x3 x4).2.1 = fun _ => 1#1)
    (h2 : (Cert.Pre_finite2.fn (F := Ideal) x0 x1 x2 x3 x4).2.2.1 = fun _ => 1#1) (h3 : (Cert.Pre_finite2.fn (F := Ideal) x0 x1 x2 x3 x4).2.2.2.1 = fun _ => 1#1)
    (h4 : (Cert.Pre_finite2.fn (F := Ideal) x0 x1 x2 x3 x4).2.2.2.2 = fun _ => 1#1) : AllFin x0 x1 x2 x3 x4 where
  f0 r k := ⟨_, real_of_lt (φ := .f32) inf_f32 (congrFun h0 (ix2 r k))⟩
  f1 r k := ⟨_, real_of_lt (φ := .f32) inf_f32 (congrFun h1 (ix3 r 0 k))⟩
  f2 k := ⟨_, real_of_lt (φ := .f32) inf_f32 (congrFun h2 (ix2 0 k))⟩
  f3 k e := ⟨_, real_of_lt (φ := .bf16) inf_bf16 (congrFun h3 (ix4 1 1 k e))⟩
  f4 e k := ⟨_, real_of_lt (φ := .bf16) inf_bf16 (congrFun h4 (ix4 1 1 e k))⟩

end Cert.Ffn

end
-- ==== Proof.lean ====
/- The claims, for the scan and for the half feed-forward layer: both programs and the reference run and leave their arguments unchanged,
   the kernel keeps its text, and on finite arguments the kernel's results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Out
public import proofs.«01_k».proof.Proof.Ref
public import proofs.«01_k».proof.Proof.Finite
public import proofs.«01_k».proof.Proof.FfnLaunchK
public import proofs.«01_k».proof.Proof.FfnPayI
public import proofs.«01_k».proof.Proof.FfnRef
public import proofs.«01_k».proof.Proof.FfnFinite
public import Idealize.ShloMosaic.Adequacy
public import Idealize.ShloMosaic.Init

@[expose] public section

noncomputable section

namespace Cert.Proof

open Idealize.ShloMosaic Idealize.ShloMosaic.TcCoe Idealize.SL.Sem Cert.Gla

/-- The reference runs, keeps its arguments, and declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

/-- On finite arguments, two arrays that hold the recurrence's output at every position are equal: forward. -/
theorem forward_eq (m : (ℓ : Loc Cert.KernelIdeal.nD Cert.KernelIdeal.τ Cert.KernelIdeal.sig) → Buf (Elt Ideal) ℓ) (c : Dev Cert.KernelIdeal.nD) {D : Data}
    (H : D.Of (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))) :
    Cert.ReferenceIdeal.Read.val_main_v207 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = (Cert.KernelIdeal.Gen.dats m 0 c).arrAt 12 Cert.KernelIdeal.cfg0.N := by
  funext i
  obtain ⟨r, x, rfl⟩ : ∃ (r : Fin 17408) (x : Fin 2048), i = ix2 r x := ⟨i 0, i 1, eq_ix2 i⟩
  obtain ⟨b, j, hb, hj, rfl⟩ := row_cases 0 r
  obtain ⟨h, e, rfl⟩ := col_cases x
  exact (referenceF H b j hb hj h e).trans (resultF m c H b j hb hj h e).symm

/-- The same backward. -/
theorem backward_eq (m : (ℓ : Loc Cert.KernelIdeal.nD Cert.KernelIdeal.τ Cert.KernelIdeal.sig) → Buf (Elt Ideal) ℓ) (c : Dev Cert.KernelIdeal.nD) {D : Data}
    (H : D.Of (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))) :
    Cert.ReferenceIdeal.Read.val_main_v211 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = (Cert.KernelIdeal.Gen.dats m 0 c).arrAt 13 Cert.KernelIdeal.cfg0.N := by
  funext i
  obtain ⟨r, x, rfl⟩ : ∃ (r : Fin 17408) (x : Fin 2048), i = ix2 r x := ⟨i 0, i 1, eq_ix2 i⟩
  obtain ⟨b, j, hb, hj, rfl⟩ := row_cases 1 r
  obtain ⟨h, e, rfl⟩ := col_cases x
  exact (referenceB H b j hb hj h e).trans (resultB m c H b j hb hj h e).symm

/-- On finite arguments the kernel and the reference end with equal results. -/
theorem equal_results : Cert.algebraic_KernelIdeal_ReferenceIdeal_pre_finite := by
  intro m ρ m' ρ' hpre hagree
  refine ⟨fun c => (Cert.KernelIdeal.Gen.dats m 0 c).arrAt 12 Cert.KernelIdeal.cfg0.N, fun c => (Cert.KernelIdeal.Gen.dats m 0 c).arrAt 13 Cert.KernelIdeal.cfg0.N,
    Cert.KernelIdeal.Value.run_blocks m ρ, (θ_run Cert.ReferenceIdeal.defs _ _).mono (fun r h c => ?_) (Cert.ReferenceIdeal.Value.run (F := Ideal) m' ρ')⟩
  obtain ⟨h1, h2, hk⟩ := h c
  obtain ⟨a0, a1, a2, a3⟩ := hagree c
  obtain ⟨p0, p1, p2, p3⟩ := hpre c
  have H := dataOf_of p0 p1 p2 p3
  refine ⟨h1.trans ?_, h2.trans ?_, hk⟩
  · refine (Cert.ReferenceIdeal.Read.val_main_v207_eq _).trans ?_
    refine Eq.trans ?_ (forward_eq m c H)
    exact congr (congr (congrArg₂ _ a0 a1) a2) a3
  · refine (Cert.ReferenceIdeal.Read.val_main_v211_eq _).trans ?_
    refine Eq.trans ?_ (backward_eq m c H)
    exact congr (congr (congrArg₂ _ a0 a1) a2) a3

/-- The feed-forward reference runs, keeps its arguments, and declares no semaphore. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The feed-forward kernel runs, keeps its arguments, and leaves every semaphore at zero: over the bits. -/
theorem frame_kernel2 : Cert.quiescent_Kernel2 := fun m ρ _ =>
  (θ_run Cert.Kernel2.defs _ _).mono (fun _ h => ⟨h.1, h.2.2⟩) (Cert.Proof.Kernel2.run_all m ρ)

/-- The same over the extended reals. -/
theorem frame_kernel2Ideal : Cert.quiescent_Kernel2Ideal := fun m ρ _ =>
  (θ_run Cert.Kernel2Ideal.defs _ _).mono (fun _ h => ⟨h.1, h.2.2⟩) (Cert.Proof.Kernel2Ideal.run_all m ρ)

/-- On finite arguments the two feed-forward programs end with equal results. -/
theorem equal_results2 : Cert.algebraic_Kernel2Ideal_Reference2Ideal_pre_finite2 := by
  intro m ρ m' ρ' hpre hagree
  refine ⟨fun c => (Cert.Proof.Kernel2Ideal.dats m 0 c).arrAt 6 Cert.Kernel2Ideal.cfg0.N,
    (θ_run Cert.Kernel2Ideal.defs _ _).mono (fun r h c => ⟨h.2.1 c, h.1 c⟩) (Cert.Proof.Kernel2Ideal.run_all m ρ),
    (θ_run Cert.Reference2Ideal.defs _ _).mono (fun r h c => ?_) (Cert.Reference2Ideal.Value.run (F := Ideal) m' ρ')⟩
  obtain ⟨h1, hk⟩ := h c
  obtain ⟨a0, a1, a2, a3, a4⟩ := hagree c
  obtain ⟨p0, p1, p2, p3, p4⟩ := hpre c
  have H := Cert.Ffn.allFin_of p0 p1 p2 p3 p4
  refine ⟨h1.trans ?_, hk⟩
  refine (Cert.Reference2Ideal.Read.val_main_v53_eq m' c).trans ?_
  refine (congr (congr (congr (congrArg₂ _ a0 a1) a2) a3) a4).trans ?_
  funext i
  obtain ⟨r, x, rfl⟩ : ∃ (r : Fin 17408) (x : Fin 2048), i = ix2 r x := ⟨i 0, i 1, eq_ix2 i⟩
  exact (Cert.Ffn.ref_layer _ _ _ _ _ r x).trans (Cert.Proof.Kernel2Ideal.result m c H r x).symm

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    finite_facts, Cert.Ffn.finite2_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    frame_kernel2, frame_kernel2Ideal, fun m ρ _ => frame_kernel2Ideal m ρ trivial, frame_reference2, fun m ρ _ => frame_reference2 m ρ trivial,
    trivial, equal_results, trivial, equal_results2⟩

end Cert.Proof

end
